-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_table_in_range : Cert.Pre_table_in_range.Facts] (m : (ℓ : Loc Cert.Experts.nD Cert.Experts.τ Cert.Experts.sig) → Buf (Elt Bits) ℓ) : Prop :=
  ∀ c : Dev Cert.Experts.nD,
    (Cert.Pre_table_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_table_in_range : Cert.Pre_table_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_table_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_table_in_range [hPre_table_in_range : Cert.Pre_table_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_table_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInReferenceIdeal (m : (ℓ : Loc Cert.LnInReferenceIdeal.nD Cert.LnInReferenceIdeal.τ Cert.LnInReferenceIdeal.sig) → Buf (Elt Ideal) ℓ) : Prop :=
  True

def Pre_Dft (m : (ℓ : Loc Cert.Dft.nD Cert.Dft.τ Cert.Dft.sig) → Buf (Elt Bits) ℓ) : Prop :=
  True

def Pre_DftIdeal (m : (ℓ : Loc Cert.DftIdeal.nD Cert.DftIdeal.τ Cert.DftIdeal.sig) → Buf (Elt Ideal) ℓ) : Prop :=
  True

def Pre_DftReferenceIdeal (m : (ℓ : Loc Cert.DftReferenceIdeal.nD Cert.DftReferenceIdeal.τ Cert.DftReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_table_in_range : Cert.Pre_table_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_table_in_range : Cert.Pre_table_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_table_in_range [hExpertsReferenceIdeal : Cert.ExpertsReferenceIdeal.Facts] [hPre_table_in_range : Cert.Pre_table_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_table_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6)
      ∧ r.2.mem ((c.tc : Thread Cert.Odd.nD Cert.Odd.τ).loc Cert.Odd.main_arg7) = m ((c.tc : Thread Cert.Odd.nD Cert.Odd.τ).loc Cert.Odd.main_arg7)
      ∧ r.2.mem ((c.tc : Thread Cert.Odd.nD Cert.Odd.τ).loc Cert.Odd.main_arg8) = m ((c.tc : Thread Cert.Odd.nD Cert.Odd.τ).loc Cert.Odd.main_arg8)
      ∧ r.2.mem ((c.tc : Thread Cert.Odd.nD Cert.Odd.τ).loc Cert.Odd.main_arg9) = m ((c.tc : Thread Cert.Odd.nD Cert.Odd.τ).loc Cert.Odd.main_arg9))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
      ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
      ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
      ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6)
      ∧ r.2.mem ((c.tc : Thread Cert.OddReferenceIdeal.nD Cert.OddReferenceIdeal.τ).loc Cert.OddReferenceIdeal.main_arg7) = m ((c.tc : Thread Cert.OddReferenceIdeal.nD Cert.OddReferenceIdeal.τ).loc Cert.OddReferenceIdeal.main_arg7)
      ∧ r.2.mem ((c.tc : Thread Cert.OddReferenceIdeal.nD Cert.OddReferenceIdeal.τ).loc Cert.OddReferenceIdeal.main_arg8) = m ((c.tc : Thread Cert.OddReferenceIdeal.nD Cert.OddReferenceIdeal.τ).loc Cert.OddReferenceIdeal.main_arg8)
      ∧ r.2.mem ((c.tc : Thread Cert.OddReferenceIdeal.nD Cert.OddReferenceIdeal.τ).loc Cert.OddReferenceIdeal.main_arg9) = m ((c.tc : Thread Cert.OddReferenceIdeal.nD Cert.OddReferenceIdeal.τ).loc Cert.OddReferenceIdeal.main_arg9))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3)
      ∧ r.2.mem ((c.tc : Thread Cert.EvenOutReferenceIdeal.nD Cert.EvenOutReferenceIdeal.τ).loc Cert.EvenOutReferenceIdeal.main_arg4) = m ((c.tc : Thread Cert.EvenOutReferenceIdeal.nD Cert.EvenOutReferenceIdeal.τ).loc Cert.EvenOutReferenceIdeal.main_arg4)
      ∧ r.2.mem ((c.tc : Thread Cert.EvenOutReferenceIdeal.nD Cert.EvenOutReferenceIdeal.τ).loc Cert.EvenOutReferenceIdeal.main_arg5) = m ((c.tc : Thread Cert.EvenOutReferenceIdeal.nD Cert.EvenOutReferenceIdeal.τ).loc Cert.EvenOutReferenceIdeal.main_arg5))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2)
      ∧ r.2.mem ((c.tc : Thread Cert.EvenInReferenceIdeal.nD Cert.EvenInReferenceIdeal.τ).loc Cert.EvenInReferenceIdeal.main_arg3) = m ((c.tc : Thread Cert.EvenInReferenceIdeal.nD Cert.EvenInReferenceIdeal.τ).loc Cert.EvenInReferenceIdeal.main_arg3)
      ∧ r.2.mem ((c.tc : Thread Cert.EvenInReferenceIdeal.nD Cert.EvenInReferenceIdeal.τ).loc Cert.EvenInReferenceIdeal.main_arg4) = m ((c.tc : Thread Cert.EvenInReferenceIdeal.nD Cert.EvenInReferenceIdeal.τ).loc Cert.EvenInReferenceIdeal.main_arg4))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInReferenceIdeal [hLnInReferenceIdeal : Cert.LnInReferenceIdeal.Facts] : Prop :=
  ∀ (m : (ℓ : Loc Cert.LnInReferenceIdeal.nD Cert.LnInReferenceIdeal.τ Cert.LnInReferenceIdeal.sig) → Buf (Elt Ideal) ℓ) (g : Dev Cert.LnInReferenceIdeal.nD → PrngReg), Pre_LnInReferenceIdeal m →
    θ_run (Cert.LnInReferenceIdeal.defs (F := Ideal)) (onTc (τ := Cert.LnInReferenceIdeal.τ) (Cert.LnInReferenceIdeal.main (F := Ideal))) ⟨m, fun _ => 0, g⟩ (fun r => (∀ c : Dev Cert.LnInReferenceIdeal.nD,
      r.2.mem ((c.tc : Thread Cert.LnInReferenceIdeal.nD Cert.LnInReferenceIdeal.τ).loc Cert.LnInReferenceIdeal.main_arg0) = m ((c.tc : Thread Cert.LnInReferenceIdeal.nD Cert.LnInReferenceIdeal.τ).loc Cert.LnInReferenceIdeal.main_arg0)
      ∧ r.2.mem ((c.tc : Thread Cert.LnInReferenceIdeal.nD Cert.LnInReferenceIdeal.τ).loc Cert.LnInReferenceIdeal.main_arg1) = m ((c.tc : Thread Cert.LnInReferenceIdeal.nD Cert.LnInReferenceIdeal.τ).loc Cert.LnInReferenceIdeal.main_arg1)
      ∧ r.2.mem ((c.tc : Thread Cert.LnInReferenceIdeal.nD Cert.LnInReferenceIdeal.τ).loc Cert.LnInReferenceIdeal.main_arg2) = m ((c.tc : Thread Cert.LnInReferenceIdeal.nD Cert.LnInReferenceIdeal.τ).loc Cert.LnInReferenceIdeal.main_arg2))
      ∧ r.2.sem = fun _ => 0)

def quiescent_Dft [hDft : Cert.Dft.Facts] : Prop :=
  ∀ (m : (ℓ : Loc Cert.Dft.nD Cert.Dft.τ Cert.Dft.sig) → Buf (Elt Bits) ℓ) (g : Dev Cert.Dft.nD → PrngReg), Pre_Dft m →
    θ_run (Cert.Dft.defs (F := Bits)) (onTc (τ := Cert.Dft.τ) (Cert.Dft.main (F := Bits))) ⟨m, fun _ => 0, g⟩ (fun r => (∀ c : Dev Cert.Dft.nD,
      r.2.mem ((c.tc : Thread Cert.Dft.nD Cert.Dft.τ).loc Cert.Dft.main_arg0) = m ((c.tc : Thread Cert.Dft.nD Cert.Dft.τ).loc Cert.Dft.main_arg0)
      ∧ r.2.mem ((c.tc : Thread Cert.Dft.nD Cert.Dft.τ).loc Cert.Dft.main_arg1) = m ((c.tc : Thread Cert.Dft.nD Cert.Dft.τ).loc Cert.Dft.main_arg1)
      ∧ r.2.mem ((c.tc : Thread Cert.Dft.nD Cert.Dft.τ).loc Cert.Dft.main_arg2) = m ((c.tc : Thread Cert.Dft.nD Cert.Dft.τ).loc Cert.Dft.main_arg2))
      ∧ r.2.sem = fun _ => 0)

def quiescent_DftIdeal [hDftIdeal : Cert.DftIdeal.Facts] : Prop :=
  ∀ (m : (ℓ : Loc Cert.DftIdeal.nD Cert.DftIdeal.τ Cert.DftIdeal.sig) → Buf (Elt Ideal) ℓ) (g : Dev Cert.DftIdeal.nD → PrngReg), Pre_DftIdeal m →
    θ_run (Cert.DftIdeal.defs (F := Ideal)) (onTc (τ := Cert.DftIdeal.τ) (Cert.DftIdeal.main (F := Ideal))) ⟨m, fun _ => 0, g⟩ (fun r => (∀ c : Dev Cert.DftIdeal.nD,
      r.2.mem ((c.tc : Thread Cert.DftIdeal.nD Cert.DftIdeal.τ).loc Cert.DftIdeal.main_arg0) = m ((c.tc : Thread Cert.DftIdeal.nD Cert.DftIdeal.τ).loc Cert.DftIdeal.main_arg0)
      ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
      ∧ r.2.mem ((c.tc : Thread Cert.DftIdeal.nD Cert.DftIdeal.τ).loc Cert.DftIdeal.main_arg2) = m ((c.tc : Thread Cert.DftIdeal.nD Cert.DftIdeal.τ).loc Cert.DftIdeal.main_arg2))
      ∧ r.2.sem = fun _ => 0)

def quiescent_DftReferenceIdeal [hDftReferenceIdeal : Cert.DftReferenceIdeal.Facts] : Prop :=
  ∀ (m : (ℓ : Loc Cert.DftReferenceIdeal.nD Cert.DftReferenceIdeal.τ Cert.DftReferenceIdeal.sig) → Buf (Elt Ideal) ℓ) (g : Dev Cert.DftReferenceIdeal.nD → PrngReg), Pre_DftReferenceIdeal m →
    θ_run (Cert.DftReferenceIdeal.defs (F := Ideal)) (onTc (τ := Cert.DftReferenceIdeal.τ) (Cert.DftReferenceIdeal.main (F := Ideal))) ⟨m, fun _ => 0, g⟩ (fun r => (∀ c : Dev Cert.DftReferenceIdeal.nD,
      r.2.mem ((c.tc : Thread Cert.DftReferenceIdeal.nD Cert.DftReferenceIdeal.τ).loc Cert.DftReferenceIdeal.main_arg0) = m ((c.tc : Thread Cert.DftReferenceIdeal.nD Cert.DftReferenceIdeal.τ).loc Cert.DftReferenceIdeal.main_arg0)
      ∧ r.2.mem ((c.tc : Thread Cert.DftReferenceIdeal.nD Cert.DftReferenceIdeal.τ).loc Cert.DftReferenceIdeal.main_arg1) = m ((c.tc : Thread Cert.DftReferenceIdeal.nD Cert.DftReferenceIdeal.τ).loc Cert.DftReferenceIdeal.main_arg1)
      ∧ r.2.mem ((c.tc : Thread Cert.DftReferenceIdeal.nD Cert.DftReferenceIdeal.τ).loc Cert.DftReferenceIdeal.main_arg2) = m ((c.tc : Thread Cert.DftReferenceIdeal.nD Cert.DftReferenceIdeal.τ).loc Cert.DftReferenceIdeal.main_arg2))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_table_in_range : Cert.Pre_table_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v37) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
      ∧ m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)
      ∧ m' ((c.tc : Thread Cert.OddReferenceIdeal.nD Cert.OddReferenceIdeal.τ).loc Cert.OddReferenceIdeal.main_arg7) = m ((c.tc : Thread Cert.OddIdeal.nD Cert.OddIdeal.τ).loc Cert.OddIdeal.main_arg7)
      ∧ m' ((c.tc : Thread Cert.OddReferenceIdeal.nD Cert.OddReferenceIdeal.τ).loc Cert.OddReferenceIdeal.main_arg8) = m ((c.tc : Thread Cert.OddIdeal.nD Cert.OddIdeal.τ).loc Cert.OddIdeal.main_arg8)
      ∧ m' ((c.tc : Thread Cert.OddReferenceIdeal.nD Cert.OddReferenceIdeal.τ).loc Cert.OddReferenceIdeal.main_arg9) = m ((c.tc : Thread Cert.OddIdeal.nD Cert.OddIdeal.τ).loc Cert.OddIdeal.main_arg9)) →
    ∃ (v0 : (c : Dev Cert.OddIdeal.nD) → Buf (Elt Ideal) ((c.tc : Thread Cert.OddIdeal.nD Cert.OddIdeal.τ).loc Cert.OddIdeal.main_v9)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v9) = v0 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6)
          ∧ r.2.mem ((c.tc : Thread Cert.OddIdeal.nD Cert.OddIdeal.τ).loc Cert.OddIdeal.main_arg7) = m ((c.tc : Thread Cert.OddIdeal.nD Cert.OddIdeal.τ).loc Cert.OddIdeal.main_arg7)
          ∧ r.2.mem ((c.tc : Thread Cert.OddIdeal.nD Cert.OddIdeal.τ).loc Cert.OddIdeal.main_arg8) = m ((c.tc : Thread Cert.OddIdeal.nD Cert.OddIdeal.τ).loc Cert.OddIdeal.main_arg8)
          ∧ r.2.mem ((c.tc : Thread Cert.OddIdeal.nD Cert.OddIdeal.τ).loc Cert.OddIdeal.main_arg9) = m ((c.tc : Thread Cert.OddIdeal.nD Cert.OddIdeal.τ).loc Cert.OddIdeal.main_arg9))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v75) = v0 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6)
          ∧ r.2.mem ((c.tc : Thread Cert.OddReferenceIdeal.nD Cert.OddReferenceIdeal.τ).loc Cert.OddReferenceIdeal.main_arg7) = m' ((c.tc : Thread Cert.OddReferenceIdeal.nD Cert.OddReferenceIdeal.τ).loc Cert.OddReferenceIdeal.main_arg7)
          ∧ r.2.mem ((c.tc : Thread Cert.OddReferenceIdeal.nD Cert.OddReferenceIdeal.τ).loc Cert.OddReferenceIdeal.main_arg8) = m' ((c.tc : Thread Cert.OddReferenceIdeal.nD Cert.OddReferenceIdeal.τ).loc Cert.OddReferenceIdeal.main_arg8)
          ∧ r.2.mem ((c.tc : Thread Cert.OddReferenceIdeal.nD Cert.OddReferenceIdeal.τ).loc Cert.OddReferenceIdeal.main_arg9) = m' ((c.tc : Thread Cert.OddReferenceIdeal.nD Cert.OddReferenceIdeal.τ).loc Cert.OddReferenceIdeal.main_arg9))

def preserves_EvenOut_EvenOutIdeal : Prop :=
  True

def algebraic_EvenOutIdeal_EvenOutReferenceIdeal [hEvenOutIdeal : Cert.EvenOutIdeal.Facts] [hEvenOutReferenceIdeal : Cert.EvenOutReferenceIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutIdeal m →
    (∀ c : Dev Cert.EvenOutIdeal.nD,
      m' ((c.tc : Thread Cert.EvenOutReferenceIdeal.nD Cert.EvenOutReferenceIdeal.τ).loc Cert.EvenOutReferenceIdeal.main_arg0) = m ((c.tc : Thread Cert.EvenOutIdeal.nD Cert.EvenOutIdeal.τ).loc Cert.EvenOutIdeal.main_arg0)
      ∧ m' ((c.tc : Thread Cert.EvenOutReferenceIdeal.nD Cert.EvenOutReferenceIdeal.τ).loc Cert.EvenOutReferenceIdeal.main_arg1) = m ((c.tc : Thread Cert.EvenOutIdeal.nD Cert.EvenOutIdeal.τ).loc Cert.EvenOutIdeal.main_arg1)
      ∧ m' ((c.tc : Thread Cert.EvenOutReferenceIdeal.nD Cert.EvenOutReferenceIdeal.τ).loc Cert.EvenOutReferenceIdeal.main_arg2) = m ((c.tc : Thread Cert.EvenOutIdeal.nD Cert.EvenOutIdeal.τ).loc Cert.EvenOutIdeal.main_arg2)
      ∧ m' ((c.tc : Thread Cert.EvenOutReferenceIdeal.nD Cert.EvenOutReferenceIdeal.τ).loc Cert.EvenOutReferenceIdeal.main_arg3) = m ((c.tc : Thread Cert.EvenOutIdeal.nD Cert.EvenOutIdeal.τ).loc Cert.EvenOutIdeal.main_arg3)
      ∧ m' ((c.tc : Thread Cert.EvenOutReferenceIdeal.nD Cert.EvenOutReferenceIdeal.τ).loc Cert.EvenOutReferenceIdeal.main_arg4) = m ((c.tc : Thread Cert.EvenOutIdeal.nD Cert.EvenOutIdeal.τ).loc Cert.EvenOutIdeal.main_arg4)
      ∧ m' ((c.tc : Thread Cert.EvenOutReferenceIdeal.nD Cert.EvenOutReferenceIdeal.τ).loc Cert.EvenOutReferenceIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v5)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v5) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v29) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3)
          ∧ r.2.mem ((c.tc : Thread Cert.EvenOutReferenceIdeal.nD Cert.EvenOutReferenceIdeal.τ).loc Cert.EvenOutReferenceIdeal.main_arg4) = m' ((c.tc : Thread Cert.EvenOutReferenceIdeal.nD Cert.EvenOutReferenceIdeal.τ).loc Cert.EvenOutReferenceIdeal.main_arg4)
          ∧ r.2.mem ((c.tc : Thread Cert.EvenOutReferenceIdeal.nD Cert.EvenOutReferenceIdeal.τ).loc Cert.EvenOutReferenceIdeal.main_arg5) = m' ((c.tc : Thread Cert.EvenOutReferenceIdeal.nD Cert.EvenOutReferenceIdeal.τ).loc Cert.EvenOutReferenceIdeal.main_arg5))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)
      ∧ m' ((c.tc : Thread Cert.EvenInReferenceIdeal.nD Cert.EvenInReferenceIdeal.τ).loc Cert.EvenInReferenceIdeal.main_arg3) = m ((c.tc : Thread Cert.EvenInIdeal.nD Cert.EvenInIdeal.τ).loc Cert.EvenInIdeal.main_arg3)
      ∧ m' ((c.tc : Thread Cert.EvenInReferenceIdeal.nD Cert.EvenInReferenceIdeal.τ).loc Cert.EvenInReferenceIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v57_0)) (v1 : (c : Dev Cert.EvenInIdeal.nD) → Buf (Elt Ideal) ((c.tc : Thread Cert.EvenInIdeal.nD Cert.EvenInIdeal.τ).loc Cert.EvenInIdeal.main_v57_1)) (v2 : (c : Dev Cert.EvenInIdeal.nD) → Buf (Elt Ideal) ((c.tc : Thread Cert.EvenInIdeal.nD Cert.EvenInIdeal.τ).loc Cert.EvenInIdeal.main_v57_2)) (v3 : (c : Dev Cert.EvenInIdeal.nD) → Buf (Elt Ideal) ((c.tc : Thread Cert.EvenInIdeal.nD Cert.EvenInIdeal.τ).loc Cert.EvenInIdeal.main_v57_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v57_0) = v0 c
          ∧ r.2.mem ((c.tc : Thread Cert.EvenInIdeal.nD Cert.EvenInIdeal.τ).loc Cert.EvenInIdeal.main_v57_1) = v1 c
          ∧ r.2.mem ((c.tc : Thread Cert.EvenInIdeal.nD Cert.EvenInIdeal.τ).loc Cert.EvenInIdeal.main_v57_2) = v2 c
          ∧ r.2.mem ((c.tc : Thread Cert.EvenInIdeal.nD Cert.EvenInIdeal.τ).loc Cert.EvenInIdeal.main_v57_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v106) = v0 c
          ∧ r.2.mem ((c.tc : Thread Cert.EvenInReferenceIdeal.nD Cert.EvenInReferenceIdeal.τ).loc Cert.EvenInReferenceIdeal.main_v109) = v1 c
          ∧ r.2.mem ((c.tc : Thread Cert.EvenInReferenceIdeal.nD Cert.EvenInReferenceIdeal.τ).loc Cert.EvenInReferenceIdeal.main_v112) = v2 c
          ∧ r.2.mem ((c.tc : Thread Cert.EvenInReferenceIdeal.nD Cert.EvenInReferenceIdeal.τ).loc Cert.EvenInReferenceIdeal.main_v115) = v3 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2)
          ∧ r.2.mem ((c.tc : Thread Cert.EvenInReferenceIdeal.nD Cert.EvenInReferenceIdeal.τ).loc Cert.EvenInReferenceIdeal.main_arg3) = m' ((c.tc : Thread Cert.EvenInReferenceIdeal.nD Cert.EvenInReferenceIdeal.τ).loc Cert.EvenInReferenceIdeal.main_arg3)
          ∧ r.2.mem ((c.tc : Thread Cert.EvenInReferenceIdeal.nD Cert.EvenInReferenceIdeal.τ).loc Cert.EvenInReferenceIdeal.main_arg4) = m' ((c.tc : Thread Cert.EvenInReferenceIdeal.nD Cert.EvenInReferenceIdeal.τ).loc Cert.EvenInReferenceIdeal.main_arg4))

def preserves_LnIn_LnInIdeal : Prop :=
  True

def algebraic_LnInIdeal_LnInReferenceIdeal [hLnInIdeal : Cert.LnInIdeal.Facts] [hLnInReferenceIdeal : Cert.LnInReferenceIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInReferenceIdeal.nD Cert.LnInReferenceIdeal.τ Cert.LnInReferenceIdeal.sig) → Buf (Elt Ideal) ℓ) (g' : Dev Cert.LnInReferenceIdeal.nD → PrngReg), Pre_LnInIdeal m →
    (∀ c : Dev Cert.LnInIdeal.nD,
      m' ((c.tc : Thread Cert.LnInReferenceIdeal.nD Cert.LnInReferenceIdeal.τ).loc Cert.LnInReferenceIdeal.main_arg0) = m ((c.tc : Thread Cert.LnInIdeal.nD Cert.LnInIdeal.τ).loc Cert.LnInIdeal.main_arg0)
      ∧ m' ((c.tc : Thread Cert.LnInReferenceIdeal.nD Cert.LnInReferenceIdeal.τ).loc Cert.LnInReferenceIdeal.main_arg1) = m ((c.tc : Thread Cert.LnInIdeal.nD Cert.LnInIdeal.τ).loc Cert.LnInIdeal.main_arg1)
      ∧ m' ((c.tc : Thread Cert.LnInReferenceIdeal.nD Cert.LnInReferenceIdeal.τ).loc Cert.LnInReferenceIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v2)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v2) = v0 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInReferenceIdeal.defs (F := Ideal)) (onTc (τ := Cert.LnInReferenceIdeal.τ) (Cert.LnInReferenceIdeal.main (F := Ideal))) ⟨m', fun _ => 0, g'⟩ (fun r => ∀ c : Dev Cert.LnInReferenceIdeal.nD,
          r.2.mem ((c.tc : Thread Cert.LnInReferenceIdeal.nD Cert.LnInReferenceIdeal.τ).loc Cert.LnInReferenceIdeal.main_v23) = v0 c
          ∧ r.2.mem ((c.tc : Thread Cert.LnInReferenceIdeal.nD Cert.LnInReferenceIdeal.τ).loc Cert.LnInReferenceIdeal.main_arg0) = m' ((c.tc : Thread Cert.LnInReferenceIdeal.nD Cert.LnInReferenceIdeal.τ).loc Cert.LnInReferenceIdeal.main_arg0)
          ∧ r.2.mem ((c.tc : Thread Cert.LnInReferenceIdeal.nD Cert.LnInReferenceIdeal.τ).loc Cert.LnInReferenceIdeal.main_arg1) = m' ((c.tc : Thread Cert.LnInReferenceIdeal.nD Cert.LnInReferenceIdeal.τ).loc Cert.LnInReferenceIdeal.main_arg1)
          ∧ r.2.mem ((c.tc : Thread Cert.LnInReferenceIdeal.nD Cert.LnInReferenceIdeal.τ).loc Cert.LnInReferenceIdeal.main_arg2) = m' ((c.tc : Thread Cert.LnInReferenceIdeal.nD Cert.LnInReferenceIdeal.τ).loc Cert.LnInReferenceIdeal.main_arg2))

def preserves_Dft_DftIdeal : Prop :=
  True

def algebraic_DftIdeal_DftReferenceIdeal [hDftIdeal : Cert.DftIdeal.Facts] [hDftReferenceIdeal : Cert.DftReferenceIdeal.Facts] : Prop :=
  ∀ (m : (ℓ : Loc Cert.DftIdeal.nD Cert.DftIdeal.τ Cert.DftIdeal.sig) → Buf (Elt Ideal) ℓ) (g : Dev Cert.DftIdeal.nD → PrngReg)
    (m' : (ℓ : Loc Cert.DftReferenceIdeal.nD Cert.DftReferenceIdeal.τ Cert.DftReferenceIdeal.sig) → Buf (Elt Ideal) ℓ) (g' : Dev Cert.DftReferenceIdeal.nD → PrngReg), Pre_DftIdeal m →
    (∀ c : Dev Cert.DftIdeal.nD,
      m' ((c.tc : Thread Cert.DftReferenceIdeal.nD Cert.DftReferenceIdeal.τ).loc Cert.DftReferenceIdeal.main_arg0) = m ((c.tc : Thread Cert.DftIdeal.nD Cert.DftIdeal.τ).loc Cert.DftIdeal.main_arg0)
      ∧ m' ((c.tc : Thread Cert.DftReferenceIdeal.nD Cert.DftReferenceIdeal.τ).loc Cert.DftReferenceIdeal.main_arg1) = m ((c.tc : Thread Cert.DftIdeal.nD Cert.DftIdeal.τ).loc Cert.DftIdeal.main_arg1)
      ∧ m' ((c.tc : Thread Cert.DftReferenceIdeal.nD Cert.DftReferenceIdeal.τ).loc Cert.DftReferenceIdeal.main_arg2) = m ((c.tc : Thread Cert.DftIdeal.nD Cert.DftIdeal.τ).loc Cert.DftIdeal.main_arg2)) →
    ∃ (v0 : (c : Dev Cert.DftIdeal.nD) → Buf (Elt Ideal) ((c.tc : Thread Cert.DftIdeal.nD Cert.DftIdeal.τ).loc Cert.DftIdeal.main_v1)),
      θ_run (Cert.DftIdeal.defs (F := Ideal)) (onTc (τ := Cert.DftIdeal.τ) (Cert.DftIdeal.main (F := Ideal))) ⟨m, fun _ => 0, g⟩ (fun r => ∀ c : Dev Cert.DftIdeal.nD,
          r.2.mem ((c.tc : Thread Cert.DftIdeal.nD Cert.DftIdeal.τ).loc Cert.DftIdeal.main_v1) = v0 c
          ∧ r.2.mem ((c.tc : Thread Cert.DftIdeal.nD Cert.DftIdeal.τ).loc Cert.DftIdeal.main_arg0) = m ((c.tc : Thread Cert.DftIdeal.nD Cert.DftIdeal.τ).loc Cert.DftIdeal.main_arg0)
          ∧ r.2.mem ((c.tc : Thread Cert.DftIdeal.nD Cert.DftIdeal.τ).loc Cert.DftIdeal.main_arg1) = m ((c.tc : Thread Cert.DftIdeal.nD Cert.DftIdeal.τ).loc Cert.DftIdeal.main_arg1)
          ∧ r.2.mem ((c.tc : Thread Cert.DftIdeal.nD Cert.DftIdeal.τ).loc Cert.DftIdeal.main_arg2) = m ((c.tc : Thread Cert.DftIdeal.nD Cert.DftIdeal.τ).loc Cert.DftIdeal.main_arg2))
      ∧ θ_run (Cert.DftReferenceIdeal.defs (F := Ideal)) (onTc (τ := Cert.DftReferenceIdeal.τ) (Cert.DftReferenceIdeal.main (F := Ideal))) ⟨m', fun _ => 0, g'⟩ (fun r => ∀ c : Dev Cert.DftReferenceIdeal.nD,
          r.2.mem ((c.tc : Thread Cert.DftReferenceIdeal.nD Cert.DftReferenceIdeal.τ).loc Cert.DftReferenceIdeal.main_v13) = v0 c
          ∧ r.2.mem ((c.tc : Thread Cert.DftReferenceIdeal.nD Cert.DftReferenceIdeal.τ).loc Cert.DftReferenceIdeal.main_arg0) = m' ((c.tc : Thread Cert.DftReferenceIdeal.nD Cert.DftReferenceIdeal.τ).loc Cert.DftReferenceIdeal.main_arg0)
          ∧ r.2.mem ((c.tc : Thread Cert.DftReferenceIdeal.nD Cert.DftReferenceIdeal.τ).loc Cert.DftReferenceIdeal.main_arg1) = m' ((c.tc : Thread Cert.DftReferenceIdeal.nD Cert.DftReferenceIdeal.τ).loc Cert.DftReferenceIdeal.main_arg1)
          ∧ r.2.mem ((c.tc : Thread Cert.DftReferenceIdeal.nD Cert.DftReferenceIdeal.τ).loc Cert.DftReferenceIdeal.main_arg2) = m' ((c.tc : Thread Cert.DftReferenceIdeal.nD Cert.DftReferenceIdeal.τ).loc Cert.DftReferenceIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hOdd : Cert.Odd.Facts) (hOddIdeal : Cert.OddIdeal.Facts) (hOddReferenceIdeal : Cert.OddReferenceIdeal.Facts) (hEvenOut : Cert.EvenOut.Facts) (hEvenOutIdeal : Cert.EvenOutIdeal.Facts) (hEvenOutReferenceIdeal : Cert.EvenOutReferenceIdeal.Facts) (hEvenIn : Cert.EvenIn.Facts) (hEvenInIdeal : Cert.EvenInIdeal.Facts) (hEvenInReferenceIdeal : Cert.EvenInReferenceIdeal.Facts) (hLnIn : Cert.LnIn.Facts) (hLnInIdeal : Cert.LnInIdeal.Facts) (hLnInReferenceIdeal : Cert.LnInReferenceIdeal.Facts) (hDft : Cert.Dft.Facts) (hDftIdeal : Cert.DftIdeal.Facts) (hDftReferenceIdeal : Cert.DftReferenceIdeal.Facts) (hPre_finite_qk : Cert.Pre_finite_qk.Facts) (hPre_table_in_range : Cert.Pre_table_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Experts (hExperts := hExperts) (hPre_table_in_range := hPre_table_in_range)
    ∧ quiescent_ExpertsIdeal (hExpertsIdeal := hExpertsIdeal) (hPre_table_in_range := hPre_table_in_range)
    ∧ quiescent_ExpertsReferenceIdeal (hExpertsReferenceIdeal := hExpertsReferenceIdeal)
    ∧ quiescent_ExpertsReferenceIdeal_pre_table_in_range (hExpertsReferenceIdeal := hExpertsReferenceIdeal) (hPre_table_in_range := hPre_table_in_range)
    ∧ quiescent_Odd (hOdd := hOdd)
    ∧ quiescent_OddIdeal (hOddIdeal := hOddIdeal)
    ∧ quiescent_OddReferenceIdeal (hOddReferenceIdeal := hOddReferenceIdeal)
    ∧ quiescent_EvenOut (hEvenOut := hEvenOut)
    ∧ quiescent_EvenOutIdeal (hEvenOutIdeal := hEvenOutIdeal)
    ∧ quiescent_EvenOutReferenceIdeal (hEvenOutReferenceIdeal := hEvenOutReferenceIdeal)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_LnIn (hLnIn := hLnIn)
    ∧ quiescent_LnInIdeal (hLnInIdeal := hLnInIdeal)
    ∧ quiescent_LnInReferenceIdeal (hLnInReferenceIdeal := hLnInReferenceIdeal)
    ∧ quiescent_Dft (hDft := hDft)
    ∧ quiescent_DftIdeal (hDftIdeal := hDftIdeal)
    ∧ quiescent_DftReferenceIdeal (hDftReferenceIdeal := hDftReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Experts_ExpertsIdeal
    ∧ algebraic_ExpertsIdeal_ExpertsReferenceIdeal (hExpertsIdeal := hExpertsIdeal) (hExpertsReferenceIdeal := hExpertsReferenceIdeal) (hPre_table_in_range := hPre_table_in_range)
    ∧ preserves_Odd_OddIdeal
    ∧ algebraic_OddIdeal_OddReferenceIdeal (hOddIdeal := hOddIdeal) (hOddReferenceIdeal := hOddReferenceIdeal)
    ∧ preserves_EvenOut_EvenOutIdeal
    ∧ algebraic_EvenOutIdeal_EvenOutReferenceIdeal (hEvenOutIdeal := hEvenOutIdeal) (hEvenOutReferenceIdeal := hEvenOutReferenceIdeal)
    ∧ preserves_EvenIn_EvenInIdeal
    ∧ algebraic_EvenInIdeal_EvenInReferenceIdeal (hEvenInIdeal := hEvenInIdeal) (hEvenInReferenceIdeal := hEvenInReferenceIdeal)
    ∧ preserves_LnIn_LnInIdeal
    ∧ algebraic_LnInIdeal_LnInReferenceIdeal (hLnInIdeal := hLnInIdeal) (hLnInReferenceIdeal := hLnInReferenceIdeal)
    ∧ preserves_Dft_DftIdeal
    ∧ algebraic_DftIdeal_DftReferenceIdeal (hDftIdeal := hDftIdeal) (hDftReferenceIdeal := hDftReferenceIdeal)
-- ==== Pre_finite_qk.lean ====
abbrev S8x32768x64 : Shape := ⟨3, ![8, 32768, 64]⟩
abbrev S2x32768x64 : Shape := ⟨3, ![2, 32768, 64]⟩
abbrev S_ : Shape := ⟨0, ![]⟩
abbrev S1 : Shape := ⟨1, ![1]⟩

class Facts : Prop where
  bitsLt_bf16_f32 : FTy.bits .bf16 < FTy.bits .f32
  bcast_S_S8x32768x64 : S_.BroadcastsInDim S8x32768x64 (![] : Fin 0 → Fin S8x32768x64.rank)
  reducesTo_S8x32768x64_S_d0_1_2 : S8x32768x64.ReducesTo [0, 1, 2] S_
  h_S_ : 0 < S_.numel
  bcast_S_S2x32768x64 : S_.BroadcastsInDim S2x32768x64 (![] : Fin 0 → Fin S2x32768x64.rank)
  reducesTo_S2x32768x64_S_d0_1_2 : S2x32768x64.ReducesTo [0, 1, 2] S_
  shapeCasts_S_S1 : S_.ShapeCasts S1

variable [Facts]

def fn {F : FTy → Type} [FloatOps F] (main_arg0 : FVec F S8x32768x64 .bf16) (main_arg1 : FVec F S2x32768x64 .bf16) (main_arg2 : FVec F S2x32768x64 .bf16) : IVec S1 1 :=
  let main_v0 : FVec F S8x32768x64 .f32 := (extf .f32 · bitsLt_bf16_f32) main_arg0
  let main_v1 : FVec F S8x32768x64 .f32 := Host.absf main_v0
  let main_cst : FVec F S_ .f32 := constant S_ .f32 0x7F800000#32
  let main_v2 : FVec F S8x32768x64 .f32 := broadcastInDim S8x32768x64 ![] bcast_S_S8x32768x64 main_cst
  let main_v3 : IVec S8x32768x64 1 := cmpf .olt main_v1 main_v2
  let main_c : IVec S_ 1 := constantI S_ 1 1#1
  let main_v4 : IVec S_ 1 := (fun x v => Host.reduce IntOp.andi x v reducesTo_S8x32768x64_S_d0_1_2 h_S_) main_v3 main_c
  let main_v5 : FVec F S2x32768x64 .f32 := (extf .f32 · bitsLt_bf16_f32) main_arg1
  let main_v6 : FVec F S2x32768x64 .f32 := Host.absf main_v5
  let main_cst_0 : FVec F S_ .f32 := constant S_ .f32 0x7F800000#32
  let main_v7 : FVec F S2x32768x64 .f32 := broadcastInDim S2x32768x64 ![] bcast_S_S2x32768x64 main_cst_0
  let main_v8 : IVec S2x32768x64 1 := cmpf .olt main_v6 main_v7
  let main_c_1 : IVec S_ 1 := constantI S_ 1 1#1
  let main_v9 : IVec S_ 1 := (fun x v => Host.reduce IntOp.andi x v reducesTo_S2x32768x64_S_d0_1_2 h_S_) main_v8 main_c_1
  let main_v10 : IVec S_ 1 := andi main_v4 main_v9
  let main_v11 : IVec S1 1 := shapeCast S1 main_v10 shapeCasts_S_S1
  main_v11
-- ==== Pre_table_in_range.lean ====
abbrev S1088 : Shape := ⟨1, ![1088]⟩
abbrev S1 : Shape := ⟨1, ![1]⟩
abbrev S278528x1024 : Shape := ⟨2, ![278528, 1024]⟩
abbrev S64x1024x512 : Shape := ⟨3, ![64, 1024, 512]⟩
abbrev S64x256x1024 : Shape := ⟨3, ![64, 256, 1024]⟩
abbrev S_ : Shape := ⟨0, ![]⟩

class Facts : Prop where
  bcast_S_S1088 : S_.BroadcastsInDim S1088 (![] : Fin 0 → Fin S1088.rank)
  bcast_S_S1 : S_.BroadcastsInDim S1 (![] : Fin 0 → Fin S1.rank)
  reducesTo_S1088_S_d0 : S1088.ReducesTo [0] S_
  h_S_ : 0 < S_.numel
  reducesTo_S1_S_d0 : S1.ReducesTo [0] S_
  shapeCasts_S_S1 : S_.ShapeCasts S1

variable [Facts]

def fn {F : FTy → Type} [FloatOps F] (main_arg0 : IVec S1088 32) (main_arg1 : IVec S1 32) (main_arg2 : FVec F S278528x1024 .f32) (main_arg3 : FVec F S64x1024x512 .bf16) (main_arg4 : FVec F S64x256x1024 .bf16) : IVec S1 1 :=
  let main_c : IVec S_ 32 := constantI S_ 32 0#32
  let main_v0 : IVec S1088 32 := broadcastInDim S1088 ![] bcast_S_S1088 main_c
  let main_v1 : IVec S1088 1 := cmpi .sge main_arg0 main_v0
  let main_c_0 : IVec S_ 32 := constantI S_ 32 64#32
  let main_v2 : IVec S1088 32 := broadcastInDim S1088 ![] bcast_S_S1088 main_c_0
  let main_v3 : IVec S1088 1 := cmpi .slt main_arg0 main_v2
  let main_v4 : IVec S1088 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_c_2 : IVec S_ 32 := constantI S_ 32 1088#32
  let main_v7 : IVec S1 32 := broadcastInDim S1 ![] bcast_S_S1 main_c_2
  let main_v8 : IVec S1 1 := cmpi .sle main_arg1 main_v7
  let main_v9 : IVec S1 1 := andi main_v6 main_v8
  let main_c_3 : IVec S_ 1 := constantI S_ 1 1#1
  let main_v10 : IVec S_ 1 := (fun x v => Host.reduce IntOp.andi x v reducesTo_S1088_S_d0 h_S_) main_v4 main_c_3
  let main_c_4 : IVec S_ 1 := constantI S_ 1 1#1
  let main_v11 : IVec S_ 1 := (fun x v => Host.reduce IntOp.andi x v reducesTo_S1_S_d0 h_S_) main_v9 main_c_4
  let main_v12 : IVec S_ 1 := andi main_v10 main_v11
  let main_v13 : IVec S1 1 := shapeCast S1 main_v12 shapeCasts_S_S1
  main_v13
-- ==== Kernel.lean ====
abbrev S8x32768x64 : Shape := ⟨3, ![8, 32768, 64]⟩
abbrev S2x32768x64 : Shape := ⟨3, ![2, 32768, 64]⟩
abbrev S32768x512 : Shape := ⟨2, ![32768, 512]⟩
abbrev S4x128x64 : Shape := ⟨3, ![4, 128, 64]⟩
abbrev S1x8192x64 : Shape := ⟨3, ![1, 8192, 64]⟩
abbrev S128x256 : Shape := ⟨2, ![128, 256]⟩
abbrev S512x64 : Shape := ⟨2, ![512, 64]⟩
abbrev S512x1 : Shape := ⟨2, ![512, 1]⟩
abbrev S1x512x64 : Shape := ⟨3, ![1, 512, 64]⟩
abbrev S512x512 : Shape := ⟨2, ![512, 512]⟩
abbrev S512 : Shape := ⟨1, ![512]⟩
abbrev S128x64 : Shape := ⟨2, ![128, 64]⟩

abbrev nBuf : Space → Nat
  | .hbm => 4
  | .vmem => 8
  | .smem => 0
  | _ => 0

abbrev bufTy : (tb : Table) → Fin (tcTables nBuf tb) → BufTy
  | .hbm, ⟨0, _⟩ => ⟨S8x32768x64, .bf16⟩
  | .hbm, ⟨1, _⟩ => ⟨S2x32768x64, .bf16⟩
  | .hbm, ⟨2, _⟩ => ⟨S2x32768x64, .bf16⟩
  | .hbm, ⟨3, _⟩ => ⟨S32768x512, .bf16⟩
  | .local _ .vmem, ⟨0, _⟩ => ⟨S4x128x64, .bf16⟩
  | .local _ .vmem, ⟨1, _⟩ => ⟨S4x128x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x64, .bf16⟩
  | .local _ .vmem, ⟨5, _⟩ => ⟨S1x8192x64, .bf16⟩
  | .local _ .vmem, ⟨6, _⟩ => ⟨S128x256, .bf16⟩
  | .local _ .vmem, ⟨7, _⟩ => ⟨S128x256, .bf16⟩
  | _, _ => ⟨S8x32768x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 64], ![false, false, false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v16 : BitVec 32 := Scalar.muli arg7 c512_i32
  v16
def k0_off1 (k0_t1 : Fin k0_t1_loop.trips) : Fin 3 → Nat :=
  let c0_7 : Index := 0#32
  let c0_i32 : BitVec 32 := 0#32
  let c1_i32 : BitVec 32 := 1#32
  let arg7 : BitVec 32 := Scf.iv c0_i32 c1_i32 k0_t1
  let c512_i32 : BitVec 32 := 512#32
  let v16 : BitVec 32 := Scalar.muli arg7 c512_i32
  let v17 : BitVec 32 := v16
  let v18 : Index := Scalar.indexCast v17
  let c0_8 : Index := 0#32
  ![0, v18.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

abbrev stage0_0 : Fin 2 → Memref sig .tc .vmem S4x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x32768x64 : Shape := ⟨3, ![8, 32768, 64]⟩
abbrev S2x32768x64 : Shape := ⟨3, ![2, 32768, 64]⟩
abbrev S2x4x4x8192x64 : Shape := ⟨5, ![2, 4, 4, 8192, 64]⟩
abbrev S2x4x8192x64 : Shape := ⟨4, ![2, 4, 8192, 64]⟩
abbrev S4x2x4x8192x8192 : Shape := ⟨5, ![4, 2, 4, 8192, 8192]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x64x4x8192 : Shape := ⟨5, ![4, 2, 64, 4, 8192]⟩
abbrev S4x8192x2x4x64 : Shape := ⟨5, ![4, 8192, 2, 4, 64]⟩
abbrev S32768x512 : Shape := ⟨2, ![32768, 512]⟩

abbrev nBuf : Space → Nat
  | .hbm => 28
  | .vmem => 0
  | .smem => 0
  | _ => 0

abbrev bufTy : (tb : Table) → Fin (tcTables nBuf tb) → BufTy
  | .hbm, ⟨0, _⟩ => ⟨S8x32768x64, .bf16⟩
  | .hbm, ⟨1, _⟩ => ⟨S2x32768x64, .bf16⟩
  | .hbm, ⟨2, _⟩ => ⟨S2x32768x64, .bf16⟩
  | .hbm, ⟨3, _⟩ => ⟨S8x32768x64, .f32⟩
  | .hbm, ⟨4, _⟩ => ⟨S2x4x4x8192x64, .f32⟩
  | .hbm, ⟨5, _⟩ => ⟨S2x32768x64, .f32⟩
  | .hbm, ⟨6, _⟩ => ⟨S2x4x8192x64, .f32⟩
  | .hbm, ⟨7, _⟩ => ⟨S2x32768x64, .f32⟩
  | .hbm, ⟨8, _⟩ => ⟨S2x4x8192x64, .f32⟩
  | .hbm, ⟨9, _⟩ => ⟨S4x2x4x8192x8192, .f32⟩
  | .hbm, ⟨10, _⟩ => ⟨S_, .f32⟩
  | .hbm, ⟨11, _⟩ => ⟨S4x2x4x8192, .f32⟩
  | .hbm, ⟨12, _⟩ => ⟨S_, .f32⟩
  | .hbm, ⟨13, _⟩ => ⟨S4x2x4x8192, .f32⟩
  | .hbm, ⟨14, _⟩ => ⟨S4x2x4x8192, .f32⟩
  | .hbm, ⟨15, _⟩ => ⟨S4x2x4x8192x1, .f32⟩
  | .hbm, ⟨16, _⟩ => ⟨S4x2x4x8192x8192, .f32⟩
  | .hbm, ⟨17, _⟩ => ⟨S4x2x4x8192x8192, .f32⟩
  | .hbm, ⟨18, _⟩ => ⟨S4x2x4x8192x8192, .f32⟩
  | .hbm, ⟨19, _⟩ => ⟨S_, .f32⟩
  | .hbm, ⟨20, _⟩ => ⟨S4x2x4x8192, .f32⟩
  | .hbm, ⟨21, _⟩ => ⟨S4x2x4x8192x1, .f32⟩
  | .hbm, ⟨22, _⟩ => ⟨S4x2x4x8192x8192, .f32⟩
  | .hbm, ⟨23, _⟩ => ⟨S4x2x4x8192x8192, .f32⟩
  | .hbm, ⟨24, _⟩ => ⟨S4x2x64x4x8192, .f32⟩
  | .hbm, ⟨25, _⟩ => ⟨S4x8192x2x4x64, .f32⟩
  | .hbm, ⟨26, _⟩ => ⟨S32768x512, .f32⟩
  | .hbm, ⟨27, _⟩ => ⟨S32768x512, .bf16⟩
  | _, _ => ⟨S8x32768x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Experts.lean ====
abbrev S1088 : Shape := ⟨1, ![1088]⟩
abbrev S1 : Shape := ⟨1, ![1]⟩
abbrev S278528x1024 : Shape := ⟨2, ![278528, 1024]⟩
abbrev S64x1024x512 : Shape := ⟨3, ![64, 1024, 512]⟩
abbrev S64x256x1024 : Shape := ⟨3, ![64, 256, 1024]⟩
abbrev S256x1024 : Shape := ⟨2, ![256, 1024]⟩
abbrev S1x1024x512 : Shape := ⟨3, ![1, 1024, 512]⟩
abbrev S1x256x1024 : Shape := ⟨3, ![1, 256, 1024]⟩
abbrev S1024x512 : Shape := ⟨2, ![1024, 512]⟩
abbrev S256x512 : Shape := ⟨2, ![256, 512]⟩
abbrev S256x256 : Shape := ⟨2, ![256, 256]⟩

abbrev nBuf : Space → Nat
  | .hbm => 4
  | .vmem => 8
  | .smem => 2
  | _ => 0

abbrev bufTy : (tb : Table) → Fin (tcTables nBuf tb) → BufTy
  | .hbm, ⟨0, _⟩ => ⟨S278528x1024, .f32⟩
  | .hbm, ⟨1, _⟩ => ⟨S64x1024x512, .bf16⟩
  | .hbm, ⟨2, _⟩ => ⟨S64x256x1024, .bf16⟩
  | .hbm, ⟨3, _⟩ => ⟨S278528x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | .local _ .vmem, ⟨7, _⟩ => ⟨S256x1024, .f32⟩
  | .local _ .smem, ⟨0, _⟩ => ⟨S1088, .i32⟩
  | .local _ .smem, ⟨1, _⟩ => ⟨S1, .i32⟩
  | _, _ => ⟨S278528x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1088], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S1088 : Shape := ⟨1, ![1088]⟩
abbrev S1 : Shape := ⟨1, ![1]⟩
abbrev S278528x1024 : Shape := ⟨2, ![278528, 1024]⟩
abbrev S64x1024x512 : Shape := ⟨3, ![64, 1024, 512]⟩
abbrev S64x256x1024 : Shape := ⟨3, ![64, 256, 1024]⟩
abbrev S64x1024x256 : Shape := ⟨3, ![64, 1024, 256]⟩
abbrev S1088x256x1024 : Shape := ⟨3, ![1088, 256, 1024]⟩
abbrev S_ : Shape := ⟨0, ![]⟩
abbrev S1088x1 : Shape := ⟨2, ![1088, 1]⟩
abbrev S1088x1024x256 : Shape := ⟨3, ![1088, 1024, 256]⟩
abbrev S1088x256x256 : Shape := ⟨3, ![1088, 256, 256]⟩
abbrev S1088x1x1 : Shape := ⟨3, ![1088, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S1088, .i32⟩
  | .hbm, ⟨1, _⟩ => ⟨S1, .i32⟩
  | .hbm, ⟨2, _⟩ => ⟨S278528x1024, .f32⟩
  | .hbm, ⟨3, _⟩ => ⟨S64x1024x512, .bf16⟩
  | .hbm, ⟨4, _⟩ => ⟨S64x256x1024, .bf16⟩
  | .hbm, ⟨5, _⟩ => ⟨S64x1024x256, .bf16⟩
  | .hbm, ⟨6, _⟩ => ⟨S64x1024x256, .f32⟩
  | .hbm, ⟨7, _⟩ => ⟨S64x1024x256, .bf16⟩
  | .hbm, ⟨8, _⟩ => ⟨S64x1024x256, .f32⟩
  | .hbm, ⟨9, _⟩ => ⟨S64x256x1024, .f32⟩
  | .hbm, ⟨10, _⟩ => ⟨S1088x256x1024, .f32⟩
  | .hbm, ⟨11, _⟩ => ⟨S_, .i32⟩
  | .hbm, ⟨12, _⟩ => ⟨S1088, .i32⟩
  | .hbm, ⟨13, _⟩ => ⟨S1088, .i1⟩
  | .hbm, ⟨14, _⟩ => ⟨S_, .i32⟩
  | .hbm, ⟨15, _⟩ => ⟨S1088, .i32⟩
  | .hbm, ⟨16, _⟩ => ⟨S1088, .i32⟩
  | .hbm, ⟨17, _⟩ => ⟨S1088, .i32⟩
  | .hbm, ⟨18, _⟩ => ⟨S1088x1, .i32⟩
  | .hbm, ⟨19, _⟩ => ⟨S1088x1024x256, .f32⟩
  | .hbm, ⟨20, _⟩ => ⟨S1088x256x256, .f32⟩
  | .hbm, ⟨21, _⟩ => ⟨S_, .i32⟩
  | .hbm, ⟨22, _⟩ => ⟨S1088, .i32⟩
  | .hbm, ⟨23, _⟩ => ⟨S1088, .i1⟩
  | .hbm, ⟨24, _⟩ => ⟨S_, .i32⟩
  | .hbm, ⟨25, _⟩ => ⟨S1088, .i32⟩
  | .hbm, ⟨26, _⟩ => ⟨S1088, .i32⟩
  | .hbm, ⟨27, _⟩ => ⟨S1088, .i32⟩
  | .hbm, ⟨28, _⟩ => ⟨S1088x1, .i32⟩
  | .hbm, ⟨29, _⟩ => ⟨S1088x1024x256, .f32⟩
  | .hbm, ⟨30, _⟩ => ⟨S1088x256x256, .f32⟩
  | .hbm, ⟨31, _⟩ => ⟨S1088x256x256, .f32⟩
  | .hbm, ⟨32, _⟩ => ⟨S1088x256x256, .f32⟩
  | .hbm, ⟨33, _⟩ => ⟨S_, .f32⟩
  | .hbm, ⟨34, _⟩ => ⟨S1088x256x256, .f32⟩
  | .hbm, ⟨35, _⟩ => ⟨S1088x256x256, .f32⟩
  | .hbm, ⟨36, _⟩ => ⟨S_, .f32⟩
  | .hbm, ⟨37, _⟩ => ⟨S1088x256x256, .f32⟩
  | .hbm, ⟨38, _⟩ => ⟨S1088x256x256, .f32⟩
  | .hbm, ⟨39, _⟩ => ⟨S1088x256x256, .f32⟩
  | .hbm, ⟨40, _⟩ => ⟨S1088x256x256, .f32⟩
  | .hbm, ⟨41, _⟩ => ⟨S_, .i32⟩
  | .hbm, ⟨42, _⟩ => ⟨S1088, .i32⟩
  | .hbm, ⟨43, _⟩ => ⟨S1088, .i1⟩
  | .hbm, ⟨44, _⟩ => ⟨S_, .i32⟩
  | .hbm, ⟨45, _⟩ => ⟨S1088, .i32⟩
  | .hbm, ⟨46, _⟩ => ⟨S1088, .i32⟩
  | .hbm, ⟨47, _⟩ => ⟨S1088, .i32⟩
  | .hbm, ⟨48, _⟩ => ⟨S1088x1, .i32⟩
  | .hbm, ⟨49, _⟩ => ⟨S1088x256x1024, .f32⟩
  | .hbm, ⟨50, _⟩ => ⟨S1088x256x1024, .f32⟩
  | .hbm, ⟨51, _⟩ => ⟨S1088, .i32⟩
  | .hbm, ⟨52, _⟩ => ⟨S1088, .i32⟩
  | .hbm, ⟨53, _⟩ => ⟨S1088, .i1⟩
  | .hbm, ⟨54, _⟩ => ⟨S1088x1x1, .i1⟩
  | .hbm, ⟨55, _⟩ => ⟨S_, .f32⟩
  | .hbm, ⟨56, _⟩ => ⟨S_, .f32⟩
  | .hbm, ⟨57, _⟩ => ⟨S1088x256x1024, .i1⟩
  | .hbm, ⟨58, _⟩ => ⟨S1088x256x1024, .f32⟩
  | .hbm, ⟨59, _⟩ => ⟨S1088x256x1024, .f32⟩
  | .hbm, ⟨60, _⟩ => ⟨S278528x1024, .f32⟩
  | _, _ => ⟨S1088, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_c_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Odd.lean ====
abbrev S32768x1024 : Shape := ⟨2, ![32768, 1024]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x1 : Shape := ⟨2, ![128, 1]⟩

abbrev nBuf : Space → Nat
  | .hbm => 20
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2048, .bf16⟩
  | .hbm, ⟨11, _⟩ => ⟨S8x128x128, .bf16⟩
  | .hbm, ⟨12, _⟩ => ⟨S128x8, .f32⟩
  | .hbm, ⟨13, _⟩ => ⟨S1024x1024, .bf16⟩
  | .hbm, ⟨14, _⟩ => ⟨S1x2048, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S1x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S128x8, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OddReferenceIdeal.lean ====
abbrev S32768x1024 : Shape := ⟨2, ![32768, 1024]⟩
abbrev S1024x2048 : Shape := ⟨2, ![1024, 2048]⟩
abbrev S2048 : Shape := ⟨1, ![2048]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S32768x2048 : Shape := ⟨2, ![32768, 2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S256x128x8x128 : Shape := ⟨4, ![256, 128, 8, 128]⟩
abbrev S8x256x128x128 : Shape := ⟨4, ![8, 256, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 100
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2048, .f32⟩
  | .hbm, ⟨2, _⟩ => ⟨S2048, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S32768x2048, .f32⟩
  | .hbm, ⟨11, _⟩ => ⟨S1x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S_, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S256x128x8x128, .f32⟩
  | .hbm, ⟨57, _⟩ => ⟨S8x256x128x128, .f32⟩
  | .hbm, ⟨58, _⟩ => ⟨S256x128x8x128, .f32⟩
  | .hbm, ⟨59, _⟩ => ⟨S128x8, .f32⟩
  | .hbm, ⟨60, _⟩ => ⟨S128x8x1, .f32⟩
  | .hbm, ⟨61, _⟩ => ⟨S1x128x8x1, .f32⟩
  | .hbm, ⟨62, _⟩ => ⟨S256x128x8x128, .f32⟩
  | .hbm, ⟨63, _⟩ => ⟨S256x128x8x128, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S_, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S_, .f32⟩
  | .hbm, ⟨81, _⟩ => ⟨S32768, .f32⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1024, .f32⟩
  | .hbm, ⟨87, _⟩ => ⟨S32768x1024, .f32⟩
  | .hbm, ⟨88, _⟩ => ⟨S_, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x1024, .f32⟩
  | .hbm, ⟨93, _⟩ => ⟨S32768x1024, .f32⟩
  | .hbm, ⟨94, _⟩ => ⟨S1x1024, .f32⟩
  | .hbm, ⟨95, _⟩ => ⟨S32768x1024, .f32⟩
  | .hbm, ⟨96, _⟩ => ⟨S32768x1024, .f32⟩
  | .hbm, ⟨97, _⟩ => ⟨S1x1024, .f32⟩
  | .hbm, ⟨98, _⟩ => ⟨S32768x1024, .f32⟩
  | .hbm, ⟨99, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== EvenOut.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S512x1024, .bf16⟩
  | .hbm, ⟨8, _⟩ => ⟨S512x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutReferenceIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x1024, .bf16⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== EvenIn.lean ====
abbrev S32768x1024 : Shape := ⟨2, ![32768, 1024]⟩
abbrev S1024x1280 : Shape := ⟨2, ![1024, 1280]⟩
abbrev S128x256 : Shape := ⟨2, ![128, 256]⟩
abbrev S64 : Shape := ⟨1, ![64]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x8x64 : Shape := ⟨4, ![1, 8192, 8, 64]⟩
abbrev S8192x512 : Shape := ⟨2, ![8192, 512]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x64 : Shape := ⟨2, ![1, 64]⟩
abbrev S8x64 : Shape := ⟨2, ![8, 64]⟩
abbrev S2x64 : Shape := ⟨2, ![2, 64]⟩
abbrev S128 : Shape := ⟨1, ![128]⟩
abbrev S1x128 : Shape := ⟨2, ![1, 128]⟩
abbrev S2x8192x2048 : Shape := ⟨3, ![2, 8192, 2048]⟩
abbrev S8x32768x64 : Shape := ⟨3, ![8, 32768, 64]⟩
abbrev S2x32768x64 : Shape := ⟨3, ![2, 32768, 64]⟩
abbrev S512x1024 : Shape := ⟨2, ![512, 1024]⟩
abbrev S2x512x512 : Shape := ⟨3, ![2, 512, 512]⟩
abbrev S8x512x64 : Shape := ⟨3, ![8, 512, 64]⟩
abbrev S2x512x64 : Shape := ⟨3, ![2, 512, 64]⟩
abbrev S512x1280 : Shape := ⟨2, ![512, 1280]⟩
abbrev S512x128 : Shape := ⟨2, ![512, 128]⟩
abbrev S512x256 : Shape := ⟨2, ![512, 256]⟩
abbrev S1x512x128 : Shape := ⟨3, ![1, 512, 128]⟩
abbrev S512x64 : Shape := ⟨2, ![512, 64]⟩
abbrev S1x512x64 : Shape := ⟨3, ![1, 512, 64]⟩
abbrev S128x128 : Shape := ⟨2, ![128, 128]⟩

abbrev nBuf : Space → Nat
  | .hbm => 127
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024x1280, .f32⟩
  | .hbm, ⟨2, _⟩ => ⟨S128x256, .bf16⟩
  | .hbm, ⟨3, _⟩ => ⟨S64, .f32⟩
  | .hbm, ⟨4, _⟩ => ⟨S64, .f32⟩
  | .hbm, ⟨5, _⟩ => ⟨S8192, .i32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192, .f32⟩
  | .hbm, ⟨33, _⟩ => ⟨S8192x1, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S8192, .i32⟩
  | .hbm, ⟨45, _⟩ => ⟨S8192, .i32⟩
  | .hbm, ⟨46, _⟩ => ⟨S_, .i32⟩
  | .hbm, ⟨47, _⟩ => ⟨S8192, .i32⟩
  | .hbm, ⟨48, _⟩ => ⟨S8192, .i1⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S_, .i1⟩
  | .hbm, ⟨54, _⟩ => ⟨S8192, .i1⟩
  | .hbm, ⟨55, _⟩ => ⟨S8192, .i1⟩
  | .hbm, ⟨56, _⟩ => ⟨S8192, .i1⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192, .f32⟩
  | .hbm, ⟨61, _⟩ => ⟨S8192x1, .f32⟩
  | .hbm, ⟨62, _⟩ => ⟨S1x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x16, .f32⟩
  | .hbm, ⟨68, _⟩ => ⟨S8192x16, .f32⟩
  | .hbm, ⟨69, _⟩ => ⟨S8192x16, .f32⟩
  | .hbm, ⟨70, _⟩ => ⟨S8192x64, .f32⟩
  | .hbm, ⟨71, _⟩ => ⟨S8192x16, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x64, .f32⟩
  | .hbm, ⟨78, _⟩ => ⟨S1x8192x1x64, .f32⟩
  | .hbm, ⟨79, _⟩ => ⟨S1x8192x8x64, .f32⟩
  | .hbm, ⟨80, _⟩ => ⟨S8192x512, .f32⟩
  | .hbm, ⟨81, _⟩ => ⟨S1x8192x1x64, .f32⟩
  | .hbm, ⟨82, _⟩ => ⟨S1x8192x8x64, .f32⟩
  | .hbm, ⟨83, _⟩ => ⟨S8192x512, .f32⟩
  | .hbm, ⟨84, _⟩ => ⟨S1024x1280, .bf16⟩
  | .hbm, ⟨85, _⟩ => ⟨S512, .i32⟩
  | .hbm, ⟨86, _⟩ => ⟨S_, .i32⟩
  | .hbm, ⟨87, _⟩ => ⟨S_, .i32⟩
  | .hbm, ⟨88, _⟩ => ⟨S512, .i32⟩
  | .hbm, ⟨89, _⟩ => ⟨S512, .i32⟩
  | .hbm, ⟨90, _⟩ => ⟨S512, .i32⟩
  | .hbm, ⟨91, _⟩ => ⟨S_, .i32⟩
  | .hbm, ⟨92, _⟩ => ⟨S512, .i32⟩
  | .hbm, ⟨93, _⟩ => ⟨S512, .i1⟩
  | .hbm, ⟨94, _⟩ => ⟨S512, .i32⟩
  | .hbm, ⟨95, _⟩ => ⟨S512, .i32⟩
  | .hbm, ⟨96, _⟩ => ⟨S_, .i32⟩
  | .hbm, ⟨97, _⟩ => ⟨S512, .i32⟩
  | .hbm, ⟨98, _⟩ => ⟨S512, .i1⟩
  | .hbm, ⟨99, _⟩ => ⟨S512, .i1⟩
  | .hbm, ⟨100, _⟩ => ⟨S_, .i32⟩
  | .hbm, ⟨101, _⟩ => ⟨S512, .i32⟩
  | .hbm, ⟨102, _⟩ => ⟨S512, .i32⟩
  | .hbm, ⟨103, _⟩ => ⟨S512, .i32⟩
  | .hbm, ⟨104, _⟩ => ⟨S512x1, .i32⟩
  | .hbm, ⟨105, _⟩ => ⟨S1x512, .i32⟩
  | .hbm, ⟨106, _⟩ => ⟨S512x512, .i32⟩
  | .hbm, ⟨107, _⟩ => ⟨S512x512, .i32⟩
  | .hbm, ⟨108, _⟩ => ⟨S512x512, .i1⟩
  | .hbm, ⟨109, _⟩ => ⟨S_, .f32⟩
  | .hbm, ⟨110, _⟩ => ⟨S_, .f32⟩
  | .hbm, ⟨111, _⟩ => ⟨S512x512, .f32⟩
  | .hbm, ⟨112, _⟩ => ⟨S512x512, .f32⟩
  | .hbm, ⟨113, _⟩ => ⟨S512x512, .f32⟩
  | .hbm, ⟨114, _⟩ => ⟨S512x512, .bf16⟩
  | .hbm, ⟨115, _⟩ => ⟨S1x64, .f32⟩
  | .hbm, ⟨116, _⟩ => ⟨S8x64, .f32⟩
  | .hbm, ⟨117, _⟩ => ⟨S512, .f32⟩
  | .hbm, ⟨118, _⟩ => ⟨S1x512, .f32⟩
  | .hbm, ⟨119, _⟩ => ⟨S1x64, .f32⟩
  | .hbm, ⟨120, _⟩ => ⟨S2x64, .f32⟩
  | .hbm, ⟨121, _⟩ => ⟨S128, .f32⟩
  | .hbm, ⟨122, _⟩ => ⟨S1x128, .f32⟩
  | .hbm, ⟨123, _⟩ => ⟨S2x8192x2048, .bf16⟩
  | .hbm, ⟨124, _⟩ => ⟨S8x32768x64, .bf16⟩
  | .hbm, ⟨125, _⟩ => ⟨S2x32768x64, .bf16⟩
  | .hbm, ⟨126, _⟩ => ⟨S2x32768x64, .bf16⟩
  | .local _ .vmem, ⟨0, _⟩ => ⟨S512x1024, .f32⟩
  | .local _ .vmem, ⟨1, _⟩ => ⟨S512x1024, .f32⟩
  | .local _ .vmem, ⟨2, _⟩ => ⟨S1024x1280, .bf16⟩
  | .local _ .vmem, ⟨3, _⟩ => ⟨S128x256, .bf16⟩
  | .local _ .vmem, ⟨4, _⟩ => ⟨S512x512, .bf16⟩
  | .local _ .vmem, ⟨5, _⟩ => ⟨S1x512, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S2x512x512, .bf16⟩
  | .local _ .vmem, ⟨12, _⟩ => ⟨S2x512x512, .bf16⟩
  | .local _ .vmem, ⟨13, _⟩ => ⟨S8x512x64, .bf16⟩
  | .local _ .vmem, ⟨14, _⟩ => ⟨S8x512x64, .bf16⟩
  | .local _ .vmem, ⟨15, _⟩ => ⟨S2x512x64, .bf16⟩
  | .local _ .vmem, ⟨16, _⟩ => ⟨S2x512x64, .bf16⟩
  | .local _ .vmem, ⟨17, _⟩ => ⟨S2x512x64, .bf16⟩
  | .local _ .vmem, ⟨18, _⟩ => ⟨S2x512x64, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_c_2 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_cst_3 : Ref sig .tc := ⟨.hbm, 109, rfl⟩
abbrev main_cst_4 : Ref sig .tc := ⟨.hbm, 110, rfl⟩
abbrev main_call3_v0 : Ref sig .tc := ⟨.hbm, 111, rfl⟩
abbrev main_call3_v1 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57_0 : Ref sig .tc := ⟨.hbm, 123, rfl⟩
abbrev main_v57_1 : Ref sig .tc := ⟨.hbm, 124, rfl⟩
abbrev main_v57_2 : Ref sig .tc := ⟨.hbm, 125, rfl⟩
abbrev main_v57_3 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c16_i32_3 : BitVec 32 := 16#32
  let v10 : BitVec 32 := Scalar.divsi arg0 c16_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c16_i32_3 c0_i32_6
  let v17 : BitVec 32 := Scalar.extui v16
  let c0_i32_7 : BitVec 32 := 0#32
  let v18 : BitVec 1 := Scalar.cmpi .slt c16_i32_3 c0_i32_7
  let v19 : BitVec 32 := Scalar.extui v18
  let v20 : BitVec 32 := Scalar.subi v17 v19
  let v21 : BitVec 1 := Scalar.cmpi .ne v15 v20
  let v22 : BitVec 32 := Scalar.remsi arg0 c16_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![c0_i32_10.toNat, v9.toNat, v26.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== EvenInReferenceIdeal.lean ====
abbrev S32768x1024 : Shape := ⟨2, ![32768, 1024]⟩
abbrev S1024x1280 : Shape := ⟨2, ![1024, 1280]⟩
abbrev S128x256 : Shape := ⟨2, ![128, 256]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S8192x2 : Shape := ⟨2, ![8192, 2]⟩
abbrev S8192x2x1 : Shape := ⟨3, ![8192, 2, 1]⟩
abbrev S1x1x16 : Shape := ⟨3, ![1, 1, 16]⟩
abbrev S8192x2x16 : Shape := ⟨3, ![8192, 2, 16]⟩
abbrev S32768x1280 : Shape := ⟨2, ![32768, 1280]⟩
abbrev S32768x512 : Shape := ⟨2, ![32768, 512]⟩
abbrev S32768x128 : Shape := ⟨2, ![32768, 128]⟩
abbrev S4x8192x4x128 : Shape := ⟨4, ![4, 8192, 4, 128]⟩
abbrev S128x2x128 : Shape := ⟨3, ![128, 2, 128]⟩
abbrev S2x128x4x8192x4 : Shape := ⟨5, ![2, 128, 4, 8192, 4]⟩
abbrev S2x8192x4x4x128 : Shape := ⟨5, ![2, 8192, 4, 4, 128]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩
abbrev S1x1x1x64 : Shape := ⟨4, ![1, 1, 1, 64]⟩
abbrev S4x8192x8x2x2x16 : Shape := ⟨6, ![4, 8192, 8, 2, 2, 16]⟩
abbrev S4x8192x8x2x1x16 : Shape := ⟨6, ![4, 8192, 8, 2, 1, 16]⟩
abbrev S4x8192x8x2x16 : Shape := ⟨5, ![4, 8192, 8, 2, 16]⟩
abbrev S1x8192x1x2x16 : Shape := ⟨5, ![1, 8192, 1, 2, 16]⟩
abbrev S4x8192x2x64 : Shape := ⟨4, ![4, 8192, 2, 64]⟩
abbrev S4x8192x2 : Shape := ⟨3, ![4, 8192, 2]⟩
abbrev S4x8192x2x1 : Shape := ⟨4, ![4, 8192, 2, 1]⟩
abbrev S4x8192x2x2x2x16 : Shape := ⟨6, ![4, 8192, 2, 2, 2, 16]⟩
abbrev S4x8192x2x2x1x16 : Shape := ⟨6, ![4, 8192, 2, 2, 1, 16]⟩
abbrev S4x8192x2x2x16 : Shape := ⟨5, ![4, 8192, 2, 2, 16]⟩
abbrev S2x8192x2048 : Shape := ⟨3, ![2, 8192, 2048]⟩
abbrev S32768x8x64 : Shape := ⟨3, ![32768, 8, 64]⟩
abbrev S8x32768x64 : Shape := ⟨3, ![8, 32768, 64]⟩
abbrev S32768x2x64 : Shape := ⟨3, ![32768, 2, 64]⟩
abbrev S2x32768x64 : Shape := ⟨3, ![2, 32768, 64]⟩

abbrev nBuf : Space → Nat
  | .hbm => 130
  | .vmem => 0
  | .smem => 0
  | _ => 0

abbrev hbmTy0_0 (i : Nat) : BufTy := match i % 128 with
  | 0 => ⟨S32768x1024, .f32⟩
  | 1 => ⟨S1024x1280, .f32⟩
  | 2 => ⟨S128x256, .bf16⟩
  | 3 => ⟨S64, .f32⟩
  | 4 => ⟨S64, .f32⟩
  | 5 => ⟨S128, .f32⟩
  | 6 => ⟨S128x64, .f32⟩
  | 7 => ⟨S8192, .f32⟩
  | 8 => ⟨S64, .f32⟩
  | 9 => ⟨S1x64, .f32⟩
  | 10 => ⟨S128x64, .f32⟩
  | 11 => ⟨S8192, .f32⟩
  | 12 => ⟨S16, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S8192x1, .f32⟩
  | 21 => ⟨S8192x1, .f32⟩
  | 22 => ⟨S8192x2, .f32⟩
  | 23 => ⟨S8192x2x1, .f32⟩
  | 24 => ⟨S1x1x16, .f32⟩
  | 25 => ⟨S8192x2x16, .f32⟩
  | 26 => ⟨S8192x2x16, .f32⟩
  | 27 => ⟨S8192x2x16, .f32⟩
  | 28 => ⟨S8192x2x16, .f32⟩
  | 29 => ⟨S8192x2x16, .f32⟩
  | 30 => ⟨S32768x1280, .f32⟩
  | 31 => ⟨S32768x512, .f32⟩
  | 32 => ⟨S32768x512, .f32⟩
  | 33 => ⟨S32768x128, .f32⟩
  | 34 => ⟨S32768x128, .f32⟩
  | 35 => ⟨S4x8192x4x128, .f32⟩
  | 36 => ⟨S128x256, .f32⟩
  | 37 => ⟨S128x2x128, .f32⟩
  | 38 => ⟨S2x128x4x8192x4, .f32⟩
  | 39 => ⟨S2x8192x4x4x128, .f32⟩
  | 40 => ⟨S4x8192x8x64, .f32⟩
  | 41 => ⟨S4x8192x8x64, .f32⟩
  | 42 => ⟨S_, .f32⟩
  | 43 => ⟨S4x8192x8, .f32⟩
  | 44 => ⟨S4x8192x8x1, .f32⟩
  | 45 => ⟨S_, .f32⟩
  | 46 => ⟨S4x8192x8x1, .f32⟩
  | 47 => ⟨S4x8192x8x1, .f32⟩
  | 48 => ⟨S_, .f32⟩
  | 49 => ⟨S4x8192x8x1, .f32⟩
  | 50 => ⟨S4x8192x8x1, .f32⟩
  | 51 => ⟨S4x8192x8x1, .f32⟩
  | 52 => ⟨S4x8192x8x64, .f32⟩
  | 53 => ⟨S4x8192x8x64, .f32⟩
  | 54 => ⟨S1x1x1x64, .f32⟩
  | 55 => ⟨S4x8192x8x64, .f32⟩
  | 56 => ⟨S4x8192x8x64, .f32⟩
  | 57 => ⟨S4x8192x8x2x2x16, .f32⟩
  | 58 => ⟨S4x8192x8x2x1x16, .f32⟩
  | 59 => ⟨S4x8192x8x2x16, .f32⟩
  | 60 => ⟨S4x8192x8x2x1x16, .f32⟩
  | 61 => ⟨S4x8192x8x2x16, .f32⟩
  | 62 => ⟨S1x8192x1x2x16, .f32⟩
  | 63 => ⟨S1x8192x1x2x16, .f32⟩
  | 64 => ⟨S4x8192x8x2x16, .f32⟩
  | 65 => ⟨S4x8192x8x2x16, .f32⟩
  | 66 => ⟨S4x8192x8x2x16, .f32⟩
  | 67 => ⟨S4x8192x8x2x16, .f32⟩
  | 68 => ⟨S4x8192x8x2x16, .f32⟩
  | 69 => ⟨S4x8192x8x2x16, .f32⟩
  | 70 => ⟨S4x8192x8x2x16, .f32⟩
  | 71 => ⟨S4x8192x8x2x16, .f32⟩
  | 72 => ⟨S4x8192x8x2x16, .f32⟩
  | 73 => ⟨S4x8192x8x2x16, .f32⟩
  | 74 => ⟨S4x8192x8x2x1x16, .f32⟩
  | 75 => ⟨S4x8192x8x2x1x16, .f32⟩
  | 76 => ⟨S4x8192x8x2x2x16, .f32⟩
  | 77 => ⟨S4x8192x8x64, .f32⟩
  | 78 => ⟨S_, .f32⟩
  | 79 => ⟨S4x8192x8x64, .f32⟩
  | 80 => ⟨S4x8192x8x64, .f32⟩
  | 81 => ⟨S4x8192x2x64, .f32⟩
  | 82 => ⟨S4x8192x2x64, .f32⟩
  | 83 => ⟨S_, .f32⟩
  | 84 => ⟨S4x8192x2, .f32⟩
  | 85 => ⟨S4x8192x2x1, .f32⟩
  | 86 => ⟨S_, .f32⟩
  | 87 => ⟨S4x8192x2x1, .f32⟩
  | 88 => ⟨S4x8192x2x1, .f32⟩
  | 89 => ⟨S_, .f32⟩
  | 90 => ⟨S4x8192x2x1, .f32⟩
  | 91 => ⟨S4x8192x2x1, .f32⟩
  | 92 => ⟨S4x8192x2x1, .f32⟩
  | 93 => ⟨S4x8192x2x64, .f32⟩
  | 94 => ⟨S4x8192x2x64, .f32⟩
  | 95 => ⟨S1x1x1x64, .f32⟩
  | 96 => ⟨S4x8192x2x64, .f32⟩
  | 97 => ⟨S4x8192x2x64, .f32⟩
  | 98 => ⟨S4x8192x2x2x2x16, .f32⟩
  | 99 => ⟨S4x8192x2x2x1x16, .f32⟩
  | 100 => ⟨S4x8192x2x2x16, .f32⟩
  | 101 => ⟨S4x8192x2x2x1x16, .f32⟩
  | 102 => ⟨S4x8192x2x2x16, .f32⟩
  | 103 => ⟨S1x8192x1x2x16, .f32⟩
  | 104 => ⟨S1x8192x1x2x16, .f32⟩
  | 105 => ⟨S4x8192x2x2x16, .f32⟩
  | 106 => ⟨S4x8192x2x2x16, .f32⟩
  | 107 => ⟨S4x8192x2x2x16, .f32⟩
  | 108 => ⟨S4x8192x2x2x16, .f32⟩
  | 109 => ⟨S4x8192x2x2x16, .f32⟩
  | 110 => ⟨S4x8192x2x2x16, .f32⟩
  | 111 => ⟨S4x8192x2x2x16, .f32⟩
  | 112 => ⟨S4x8192x2x2x16, .f32⟩
  | 113 => ⟨S4x8192x2x2x16, .f32⟩
  | 114 => ⟨S4x8192x2x2x16, .f32⟩
  | 115 => ⟨S4x8192x2x2x1x16, .f32⟩
  | 116 => ⟨S4x8192x2x2x1x16, .f32⟩
  | 117 => ⟨S4x8192x2x2x2x16, .f32⟩
  | 118 => ⟨S4x8192x2x64, .f32⟩
  | 119 => ⟨S2x8192x2048, .f32⟩
  | 120 => ⟨S2x8192x2048, .bf16⟩
  | 121 => ⟨S32768x8x64, .f32⟩
  | 122 => ⟨S8x32768x64, .f32⟩
  | 123 => ⟨S8x32768x64, .bf16⟩
  | 124 => ⟨S32768x2x64, .f32⟩
  | 125 => ⟨S2x32768x64, .f32⟩
  | 126 => ⟨S2x32768x64, .bf16⟩
  | 127 => ⟨S32768x2x64, .f32⟩
  | _ => ⟨S32768x1024, .f32⟩

abbrev hbmTy0_1 (i : Nat) : BufTy := match i % 128 with
  | 0 => ⟨S2x32768x64, .f32⟩
  | 1 => ⟨S2x32768x64, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_cst_4 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_cst_6 : Ref sig .tc := ⟨.hbm, 86, rfl⟩
abbrev main_v74 : Ref sig .tc := ⟨.hbm, 87, rfl⟩
abbrev main_v75 : Ref sig .tc := ⟨.hbm, 88, rfl⟩
abbrev main_cst_7 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩

abbrev nD : Nat := 1
abbrev τ : Topo := Topo.v7x

variable {F : FTy → Type} [FloatOps F]
-- ==== LnIn.lean ====
abbrev S32768x1024 : Shape := ⟨2, ![32768, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LnInReferenceIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Dft.lean ====
abbrev S8192x16384 : Shape := ⟨2, ![8192, 16384]⟩
abbrev S16384x2048 : Shape := ⟨2, ![16384, 2048]⟩
abbrev S4x128x128 : Shape := ⟨3, ![4, 128, 128]⟩
abbrev S4x8192x512 : Shape := ⟨3, ![4, 8192, 512]⟩
abbrev S1024x1024 : Shape := ⟨2, ![1024, 1024]⟩
abbrev S1024x2048 : Shape := ⟨2, ![1024, 2048]⟩
abbrev S4x1024x512 : Shape := ⟨3, ![4, 1024, 512]⟩
abbrev S1024x128 : Shape := ⟨2, ![1024, 128]⟩
abbrev S1x128x128 : Shape := ⟨3, ![1, 128, 128]⟩
abbrev S128x128 : Shape := ⟨2, ![128, 128]⟩
abbrev S1x1024x128 : Shape := ⟨3, ![1, 1024, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x16384, .bf16⟩
  | .hbm, ⟨1, _⟩ => ⟨S16384x2048, .bf16⟩
  | .hbm, ⟨2, _⟩ => ⟨S4x128x128, .f32⟩
  | .hbm, ⟨3, _⟩ => ⟨S4x128x128, .bf16⟩
  | .hbm, ⟨4, _⟩ => ⟨S4x8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x128x128, .bf16⟩
  | .local _ .vmem, ⟨5, _⟩ => ⟨S4x1024x512, .bf16⟩
  | .local _ .vmem, ⟨6, _⟩ => ⟨S4x1024x512, .bf16⟩
  | .local _ .vmem, ⟨7, _⟩ => ⟨S1024x2048, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== DftReferenceIdeal.lean ====
abbrev S8192x16384 : Shape := ⟨2, ![8192, 16384]⟩
abbrev S16384x2048 : Shape := ⟨2, ![16384, 2048]⟩
abbrev S4x128x128 : Shape := ⟨3, ![4, 128, 128]⟩
abbrev S8192x8192 : Shape := ⟨2, ![8192, 8192]⟩
abbrev S8192x2048 : Shape := ⟨2, ![8192, 2048]⟩
abbrev S8192x4x4x128 : Shape := ⟨4, ![8192, 4, 4, 128]⟩
abbrev S4x128x8192x4 : Shape := ⟨4, ![4, 128, 8192, 4]⟩
abbrev S4x8192x4x128 : Shape := ⟨4, ![4, 8192, 4, 128]⟩
abbrev S4x8192x512 : Shape := ⟨3, ![4, 8192, 512]⟩

abbrev nBuf : Space → Nat
  | .hbm => 17
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S16384x2048, .bf16⟩
  | .hbm, ⟨2, _⟩ => ⟨S4x128x128, .f32⟩
  | .hbm, ⟨3, _⟩ => ⟨S8192x16384, .f32⟩
  | .hbm, ⟨4, _⟩ => ⟨S16384x2048, .f32⟩
  | .hbm, ⟨5, _⟩ => ⟨S8192x8192, .f32⟩
  | .hbm, ⟨6, _⟩ => ⟨S8192x2048, .f32⟩
  | .hbm, ⟨7, _⟩ => ⟨S8192x2048, .f32⟩
  | .hbm, ⟨8, _⟩ => ⟨S8192x8192, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x4x4x128, .f32⟩
  | .hbm, ⟨13, _⟩ => ⟨S4x128x8192x4, .f32⟩
  | .hbm, ⟨14, _⟩ => ⟨S4x8192x4x128, .f32⟩
  | .hbm, ⟨15, _⟩ => ⟨S4x8192x512, .f32⟩
  | .hbm, ⟨16, _⟩ => ⟨S4x8192x512, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Proof.OnlineSoftmax.lean ====
/- A softmax-weighted sum taken chunk by chunk, with a running maximum, is the softmax-weighted sum. -/
module

public import Idealize.ShloMosaic.Lib.Pointwise

@[expose] public section

noncomputable section

namespace Cert.Proof.Online

open Idealize.ShloMosaic

/-- Multiplication by a real number that is not negative goes into a sum of extended reals. -/
theorem coe_mul_sum {ι : Type} (I : Finset ι) (c : ℝ) (hc : 0 ≤ c) (f : ι → EReal) :
    (c : EReal) * ∑ j ∈ I, f j = ∑ j ∈ I, (c : EReal) * f j := by
  classical
  induction I using Finset.induction_on with
  | empty => simp
  | insert a I ha ih =>
    rw [Finset.sum_insert ha, Finset.sum_insert ha,
      EReal.left_distrib_of_nonneg_of_ne_top (EReal.coe_nonneg.2 hc) (EReal.coe_ne_top c), ih]

/-- A finite sum of real numbers, read in the extended reals. -/
theorem coe_sum {ι : Type} (I : Finset ι) (f : ι → ℝ) : ∑ j ∈ I, ((f j : ℝ) : EReal) = ((∑ j ∈ I, f j : ℝ) : EReal) := by
  classical
  induction I using Finset.induction_on with
  | empty => simp
  | insert a I ha ih => rw [Finset.sum_insert ha, Finset.sum_insert ha, ih, EReal.coe_add]

/-- The largest of the first `n` scores. -/
def top (s : ℕ → ℝ) (n : ℕ) : EReal := (Finset.range n).sup fun j => (s j : EReal)

/-- The weights' sum over the first `n` scores, relative to the largest of them. -/
def total (s : ℕ → ℝ) (n : ℕ) : EReal := ∑ j ∈ Finset.range n, Ideal.exp ((s j : EReal) - top s n)

/-- The weighted sum of the first `n` values, with the same weights. -/
def weighted (s : ℕ → ℝ) (v : ℕ → EReal) (n : ℕ) : EReal :=
  ∑ j ∈ Finset.range n, Ideal.exp ((s j : EReal) - top s n) * v j

theorem top_zero (s : ℕ → ℝ) : top s 0 = ⊥ := by simp [top]
theorem total_zero (s : ℕ → ℝ) : total s 0 = 0 := by simp [total]
theorem weighted_zero (s : ℕ → ℝ) (v : ℕ → EReal) : weighted s v 0 = 0 := by simp [weighted]

/-- The largest of at least one score is a real number. -/
theorem top_real (s : ℕ → ℝ) (n : ℕ) (hn : 0 < n) : ∃ r : ℝ, top s n = r := by
  obtain ⟨j, _, hj⟩ := Finset.exists_mem_eq_sup (Finset.range n) ⟨0, Finset.mem_range.2 hn⟩ fun j => (s j : EReal)
  exact ⟨s j, hj⟩

theorem fold_max_eq_sup {ι : Type} (I : Finset ι) (f : ι → EReal) : I.fold max ⊥ f = I.sup f := rfl

theorem sup_fin (n : ℕ) (f : ℕ → EReal) : (Finset.univ.sup fun j : Fin n => f j.val) = (Finset.range n).sup f := by
  apply le_antisymm
  · exact Finset.sup_le fun j _ => Finset.le_sup (f := f) (Finset.mem_range.2 j.isLt)
  · exact Finset.sup_le fun j hj => Finset.le_sup (f := fun j : Fin n => f j.val) (Finset.mem_univ ⟨j, Finset.mem_range.1 hj⟩)

/-- One chunk of `w` scores more: the new maximum. -/
theorem top_add (s : ℕ → ℝ) (n w : ℕ) :
    max (top s n) (Finset.univ.fold max ⊥ fun j : Fin w => (s (n + j.val) : EReal)) = top s (n + w) := by
  rw [fold_max_eq_sup, sup_fin w fun j => (s (n + j) : EReal)]
  unfold top
  apply le_antisymm
  · refine max_le (Finset.sup_mono (Finset.range_mono (Nat.le_add_right n w))) (Finset.sup_le fun j hj => ?_)
    exact Finset.le_sup (f := fun j => (s j : EReal)) (Finset.mem_range.2 (Nat.add_lt_add_left (Finset.mem_range.1 hj) n))
  · refine Finset.sup_le fun j hj => ?_
    have hj := Finset.mem_range.1 hj
    by_cases h : j < n
    · exact le_max_of_le_left (Finset.le_sup (f := fun j => (s j : EReal)) (Finset.mem_range.2 h))
    · refine le_max_of_le_right ?_
      have e : n + (j - n) = j := by omega
      have := Finset.le_sup (f := fun j => (s (n + j) : EReal)) (Finset.mem_range.2 (show j - n < w by omega))
      simpa only [e] using this

/-- Rescaling a weight from an old maximum to a new one. -/
theorem rescale (a b c : ℝ) : Ideal.exp ((a : EReal) - b) * Ideal.exp ((c : EReal) - a) = Ideal.exp ((c : EReal) - b) := by
  rw [← EReal.coe_sub, ← EReal.coe_sub, ← EReal.coe_sub, Ideal.exp_coe, Ideal.exp_coe, Ideal.exp_coe, ← EReal.coe_mul,
    ← Real.exp_add]
  congr 2; ring

/-- The first `n` weighted terms, rescaled from their own maximum to that of `w` scores more. -/
theorem rescale_sum (s : ℕ → ℝ) (f : ℕ → EReal) (n w : ℕ) :
    Ideal.exp (top s n - top s (n + w)) * ∑ j ∈ Finset.range n, Ideal.exp ((s j : EReal) - top s n) * f j
      = ∑ j ∈ Finset.range n, Ideal.exp ((s j : EReal) - top s (n + w)) * f j := by
  rcases Nat.eq_zero_or_pos n with rfl | hn
  · simp
  obtain ⟨a, ha⟩ := top_real s n hn
  obtain ⟨b, hb⟩ := top_real s (n + w) (by omega)
  rw [ha, hb]
  have e : Ideal.exp ((a : EReal) - b) = ((Real.exp (a - b) : ℝ) : EReal) := by rw [← EReal.coe_sub, Ideal.exp_coe]
  rw [e, coe_mul_sum _ _ (Real.exp_nonneg _), ← e]
  refine Finset.sum_congr rfl fun j _ => ?_
  rw [← mul_assoc, rescale]

theorem sum_add_fin (f : ℕ → EReal) (n w : ℕ) :
    ∑ j ∈ Finset.range n, f j + ∑ j : Fin w, f (n + j.val) = ∑ j ∈ Finset.range (n + w), f j := by
  rw [Finset.sum_range_add, Fin.sum_univ_eq_sum_range fun j => f (n + j)]

/-- One chunk of `w` scores more: the new sum of weights. -/
theorem total_add (s : ℕ → ℝ) (n w : ℕ) :
    Ideal.exp (top s n - top s (n + w)) * total s n + ∑ j : Fin w, Ideal.exp ((s (n + j.val) : EReal) - top s (n + w))
      = total s (n + w) := by
  have := rescale_sum s (fun _ => 1) n w
  simp only [mul_one] at this
  unfold total
  rw [this, sum_add_fin fun j => Ideal.exp ((s j : EReal) - top s (n + w))]

/-- One chunk of `w` scores more: the new weighted sum. -/
theorem weighted_add (s : ℕ → ℝ) (v : ℕ → EReal) (n w : ℕ) :
    Ideal.exp (top s n - top s (n + w)) * weighted s v n
        + ∑ j : Fin w, Ideal.exp ((s (n + j.val) : EReal) - top s (n + w)) * v (n + j.val)
      = weighted s v (n + w) := by
  unfold weighted
  rw [rescale_sum, sum_add_fin fun j => Ideal.exp ((s j : EReal) - top s (n + w)) * v j]

/-- The sum of the weights of at least one score is a positive real number. -/
theorem total_real (s : ℕ → ℝ) (n : ℕ) (hn : 0 < n) : ∃ r : ℝ, 0 < r ∧ total s n = r := by
  obtain ⟨a, ha⟩ := top_real s n hn
  refine ⟨∑ j ∈ Finset.range n, Real.exp (s j - a), Finset.sum_pos (fun j _ => Real.exp_pos _) ⟨0, Finset.mem_range.2 hn⟩, ?_⟩
  unfold total
  rw [ha, ← coe_sum]
  refine Finset.sum_congr rfl fun j _ => ?_
  rw [← EReal.coe_sub, Ideal.exp_coe]

/-- The weighted sum over the sum of the weights is the sum of the values by their normalised weights. -/
theorem weighted_div (s : ℕ → ℝ) (v : ℕ → EReal) (n : ℕ) (hn : 0 < n) :
    Ideal.div (weighted s v n) (total s n)
      = ∑ j ∈ Finset.range n, Ideal.div (Ideal.exp ((s j : EReal) - top s n)) (total s n) * v j := by
  obtain ⟨r, hr, e⟩ := total_real s n hn
  rw [e]
  have h0 : (r : EReal) ≠ 0 := EReal.coe_ne_zero.2 hr.ne'
  have hd : ∀ x : EReal, Ideal.div x r = ((r⁻¹ : ℝ) : EReal) * x := fun x => by
    unfold Ideal.div; rw [if_neg h0, mul_comm, EReal.coe_inv]
  rw [hd]; unfold weighted
  rw [coe_mul_sum _ _ (inv_nonneg.2 hr.le)]
  refine Finset.sum_congr rfl fun j _ => ?_
  rw [hd, mul_assoc]

end Cert.Proof.Online

end
-- ==== Proof.Attention.lean ====
/- Softmax attention over the queries, keys and values of the call, at an index of its result. -/
module

public import proofs.«01_k».proof.Proof.OnlineSoftmax

@[expose] public section

noncomputable section

namespace Cert.Proof.Attention

open Idealize.ShloMosaic Cert.Proof.Online

/-- The score of query row `i` of head `g` (of eight; four share the keys of one group) against key `n` of the row's
    sequence, before it is read as a real number. -/
def dot (q : FVec Ideal ⟨3, ![8, 32768, 64]⟩ .bf16) (k : FVec Ideal ⟨3, ![2, 32768, 64]⟩ .bf16) (i : Fin 32768) (g : Fin 8)
    (n : Fin 8192) : EReal :=
  ∑ x : Fin 64, (q (ix3 g i x) : EReal) * k (ix3 ⟨g.val / 4, by omega⟩ ⟨i.val / 8192 * 8192 + n.val, by omega⟩ x)

/-- The same as a real number. -/
def score (q : FVec Ideal ⟨3, ![8, 32768, 64]⟩ .bf16) (k : FVec Ideal ⟨3, ![2, 32768, 64]⟩ .bf16) (i : Fin 32768) (g : Fin 8)
    (n : ℕ) : ℝ :=
  if h : n < 8192 then (dot q k i g ⟨n, h⟩).toReal else 0

/-- Coordinate `d` of value `n` of row `i`'s sequence, for head `g`. -/
def value (v : FVec Ideal ⟨3, ![2, 32768, 64]⟩ .bf16) (i : Fin 32768) (g : Fin 8) (d : Fin 64) (n : ℕ) : EReal :=
  if h : n < 8192 then v (ix3 ⟨g.val / 4, by omega⟩ ⟨i.val / 8192 * 8192 + n, by omega⟩ d) else 0

/-- The attention's result: row `i`, column `64 g + d` for coordinate `d` of head `g`. -/
def attn (q : FVec Ideal ⟨3, ![8, 32768, 64]⟩ .bf16) (k : FVec Ideal ⟨3, ![2, 32768, 64]⟩ .bf16)
    (v : FVec Ideal ⟨3, ![2, 32768, 64]⟩ .bf16) (i : Fin 32768) (j : Fin 512) : EReal :=
  Ideal.div (weighted (score q k i ⟨j.val / 64, by omega⟩) (value v i ⟨j.val / 64, by omega⟩ ⟨j.val % 64, by omega⟩) 8192)
    (total (score q k i ⟨j.val / 64, by omega⟩) 8192)

/-- Every element of an array is a real number. -/
def Real {s : Shape} (x : s.Idx → EReal) : Prop := ∀ i, ∃ r : ℝ, x i = r

/-- Where queries and keys are real numbers, so are the scores. -/
theorem dot_eq (q : FVec Ideal ⟨3, ![8, 32768, 64]⟩ .bf16) (k : FVec Ideal ⟨3, ![2, 32768, 64]⟩ .bf16)
    (hq : Real q) (hk : Real k) (i : Fin 32768) (g : Fin 8) (n : Fin 8192) :
    dot q k i g n = ((score q k i g n.val : ℝ) : EReal) := by
  choose a ha using hq
  choose b hb using hk
  have e : dot q k i g n = ((∑ x : Fin 64, a (ix3 g i x) * b (ix3 ⟨g.val / 4, by omega⟩ ⟨i.val / 8192 * 8192 + n.val, by omega⟩ x) : ℝ) : EReal) := by
    unfold dot
    rw [← coe_sum]
    refine Finset.sum_congr rfl fun x _ => ?_
    rw [ha, hb, EReal.coe_mul]
  unfold score
  rw [dif_pos n.isLt, e, EReal.toReal_coe]

end Cert.Proof.Attention

end
-- ==== Proof.Finite.lean ====
/- What the precondition says: the queries and the keys are real numbers. -/
module

public import proofs.«01_k».proof.Defs
public import proofs.«01_k».proof.Proof.Gen.Pre_finite_qk
public import proofs.«01_k».proof.Proof.Attention
public import Idealize.ShloMosaic.Lib.ReduceAll
public import Idealize.ShloMosaic.Lib.WordArith

@[expose] public section

set_option maxRecDepth 16384

noncomputable section

open Idealize.ShloMosaic Idealize.ShloMosaic.TcCoe Idealize.SL.Sem

namespace Cert.Pre_finite_qk

open Cert.Pre_finite_qk Cert.Pre_finite_qk.Gen Cert.Proof.Attention

theorem andi_one : ∀ a b : BitVec 1, IntOp.andi a b = 1#1 → a = 1#1 ∧ b = 1#1 := by decide

theorem real_of_abs_lt (x : EReal)
    (h : FloatOps.cmpf (F := Ideal) (φ := .f32) .olt (max x (-x) : EReal) (Ideal.ofBits .f32 0x7F800000#32 : EReal) = 1#1) : ∃ r : ℝ, x = r := by
  have e : Ideal.ofBits FTy.f32 0x7F800000#32 = (⊤ : EReal) := by simp [Ideal.ofBits, Ideal.ieee]
  rw [e] at h
  change Ideal.cmp .olt (max x (-x)) ⊤ = 1#1 at h
  unfold Ideal.cmp at h
  induction x with
  | bot => simp at h
  | top => simp at h
  | coe r => exact ⟨r, rfl⟩

instance : Subsingleton S_.Idx := ⟨fun a b => funext fun i => i.elim0⟩

theorem fn_real (q : FVec Ideal S8x32768x64 .bf16) (k v : FVec Ideal S2x32768x64 .bf16) (i) (h : fn (F := Ideal) q k v i = 1#1) :
    Real q ∧ Real k := by
  dsimp only [fn] at h
  unfold shapeCast at h
  obtain ⟨h1, h2⟩ := andi_one _ _ h
  exact ⟨fun i => real_of_abs_lt (q i) (Host.reduce_andi_all _ _ _ _ _ h1 i), fun i => real_of_abs_lt (k i) (Host.reduce_andi_all _ _ _ _ _ h2 i)⟩

end Cert.Pre_finite_qk

end
-- ==== Proof.Tile.lean ====
/- What the attention kernel leaves in one block of its result: 128 queries of the four heads of one group, against
   all 8192 keys and values of one sequence, in sixteen chunks of 512 keys. -/
module

public import proofs.«01_k».proof.Proof.Gen.KernelIdeal.Value
public import proofs.«01_k».proof.Proof.OnlineSoftmax

@[expose] public section

set_option maxRecDepth 16384

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.Proof.Online

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payloads, at an index -/

/-- The score of tile row `r` (head `r / 128`, query `r % 128`) against key `j` of a chunk. -/
theorem pay4 (v0 : Vec Ideal S4x128x64 .bf16) (v19 : Vec Ideal S1x512x64 .bf16) (r : Fin 512) (j : Fin 512) :
    k0_pay4 v0 v19 (ix2 r j) = ∑ x : Fin 64, v0 (ix3 ⟨r.val / 128, by omega⟩ ⟨r.val % 128, by omega⟩ x) * v19 (ix3 0 j x) := by
  pointwise [k0_pay4]

theorem pay5 (v0 : Vec Ideal S4x128x64 .bf16) (arg8 : FVec Ideal S512x1 .f32) (v19 : Vec Ideal S1x512x64 .bf16) (r : Fin 512) :
    k0_pay5 v0 arg8 v19 (ix2 r 0)
      = max (arg8 (ix2 r 0)) (Finset.univ.fold max (⊥ : EReal) fun x : Fin 512 => k0_pay4 v0 v19 (ix2 r x)) := by
  have e : Ideal.ofBits FTy.f32 4286578688#32 = (⊥ : EReal) := by simp [Ideal.ofBits, Ideal.ieee]
  pointwise [k0_pay5]
  rw [e]

theorem pay6 (v0 : Vec Ideal S4x128x64 .bf16) (arg8 : FVec Ideal S512x1 .f32) (v19 : Vec Ideal S1x512x64 .bf16) (r : Fin 512) :
    k0_pay6 v0 arg8 v19 (ix2 r 0) = Ideal.exp (arg8 (ix2 r 0) - k0_pay5 v0 arg8 v19 (ix2 r 0)) := by
  pointwise [k0_pay6]

theorem pay7 (v0 : Vec Ideal S4x128x64 .bf16) (arg8 : FVec Ideal S512x1 .f32) (v19 : Vec Ideal S1x512x64 .bf16) (r j : Fin 512) :
    k0_pay7 v0 arg8 v19 (ix2 r j) = Ideal.exp (k0_pay4 v0 v19 (ix2 r j) - k0_pay5 v0 arg8 v19 (ix2 r 0)) := by
  pointwise [k0_pay7]

theorem pay8 (v0 : Vec Ideal S4x128x64 .bf16) (arg8 arg9 : FVec Ideal S512x1 .f32) (v19 : Vec Ideal S1x512x64 .bf16) (r : Fin 512) :
    k0_pay8 v0 arg8 arg9 v19 (ix2 r 0)
      = k0_pay6 v0 arg8 v19 (ix2 r 0) * arg9 (ix2 r 0) + ∑ x : Fin 512, k0_pay7 v0 arg8 v19 (ix2 r x) := by
  pointwise [k0_pay8]

theorem pay9 (v0 : Vec Ideal S4x128x64 .bf16) (arg8 : FVec Ideal S512x1 .f32) (arg10 : FVec Ideal S512x64 .f32)
    (v19 v22 : Vec Ideal S1x512x64 .bf16) (r : Fin 512) (d : Fin 64) :
    k0_pay9 v0 arg8 arg10 v19 v22 (ix2 r d)
      = k0_pay6 v0 arg8 v19 (ix2 r 0) * arg10 (ix2 r d)
        + ∑ x : Fin 512, k0_pay7 v0 arg8 v19 (ix2 r x) * v22 (ix3 0 x d) := by
  pointwise [k0_pay9]

/-- The block's element at query `r` and column `d`: head `d / 64`, coordinate `d % 64`. -/
theorem pay10 (l : FVec Ideal S512x1 .f32) (a : FVec Ideal S512x64 .f32) (r : Fin 128) (d : Fin 256) :
    k0_pay10 l a (ix2 r d) = Ideal.div (a (ix2 ⟨128 * (d.val / 64) + r.val, by omega⟩ ⟨d.val % 64, by omega⟩))
      (l (ix2 ⟨128 * (d.val / 64) + r.val, by omega⟩ 0)) := by
  have hd := d.isLt
  pointwise [k0_pay10]
  by_cases h1 : d.val < 64
  on_goal 2 => by_cases h2 : d.val - 64 < 64
  on_goal 3 => by_cases h3 : d.val - 64 - 64 < 64
  · have e1 : d.val / 64 = 0 := by omega
    have e2 : d.val % 64 = d.val := by omega
    simp only [dif_pos h1, e1, e2, Nat.mul_zero, Nat.zero_add]
  · have e1 : d.val / 64 = 1 := by omega
    have e2 : d.val % 64 = d.val - 64 := by omega
    simp only [dif_neg h1, dif_pos h2, e1, e2, Nat.mul_one]
  · have e1 : d.val / 64 = 2 := by omega
    have e2 : d.val % 64 = d.val - 64 - 64 := by omega
    simp only [dif_neg h1, dif_neg h2, dif_pos h3, e1, e2, Nat.reduceMul]
  · have e1 : d.val / 64 = 3 := by omega
    have e2 : d.val % 64 = d.val - 64 - 64 - 64 := by omega
    simp only [dif_neg h1, dif_neg h2, dif_neg h3, e1, e2, Nat.reduceMul]

theorem start (k : Fin k0_t1_loop.trips) :
    BitVec.toNat (Scalar.indexCast (Scalar.muli (Scf.iv 0#32 1#32 k.val) 512#32)) = 512 * k.val := by
  have h : ∀ k : Fin 16, BitVec.toNat (Scalar.indexCast (Scalar.muli (Scf.iv 0#32 1#32 k.val) 512#32)) = 512 * k.val := by decide
  exact h ⟨k.val, Nat.lt_of_lt_of_le k.isLt k0_t1_abs.2.1⟩

/-- Chunk `n` of a block of keys or values: the 512 rows from row `512 n`. -/
def part (x : Vec Ideal S1x8192x64 .bf16) (n : ℕ) : Vec Ideal S1x512x64 .bf16 :=
  fun y => if h : 512 * n + (y 1).val < 8192 then x (ix3 0 ⟨512 * n + (y 1).val, h⟩ (y 2)) else 0

theorem part_apply (x : Vec Ideal S1x8192x64 .bf16) (n : ℕ) (j : Fin 512) (d : Fin 64) (h : 512 * n + j.val < 8192) :
    part x n (ix3 0 j d) = x (ix3 0 ⟨512 * n + j.val, h⟩ d) :=
  dif_pos h

/-- What a trip loads. -/
theorem ld_eq (x : Vec Ideal S1x8192x64 .bf16) (k : Fin k0_t1_loop.trips) (h) :
    (View.ld x (Rect.unit ![0, BitVec.toNat (Scalar.indexCast (Scalar.muli (Scf.iv 0#32 1#32 k.val) 512#32)), 0]
        ![1, 512, 64] h) : Vec Ideal S1x512x64 .bf16) = part x k.val := by
  funext y
  obtain ⟨z, j, d, rfl⟩ : ∃ (z : Fin 1) (j : Fin 512) (d : Fin 64), y = ix3 z j d := ⟨y 0, y 1, y 2, eq_ix3 y⟩
  obtain rfl : z = 0 := Subsingleton.elim _ _
  have hk : k.val < 16 := Nat.lt_of_lt_of_le k.isLt k0_t1_abs.2.1
  rw [part_apply x k.val j d (by omega)]
  pointwise
  congr 2
  exact Fin.ext (by show _ + j.val = _; rw [start])

/-! ## The loop -/

section loop

variable (𝒱 : Variants) (c : Dev nD) (bd : Option 𝒱.V) (i : grid0.Coords) (a3 : Memref sig .tc .vmem S4x128x64 .bf16) (h3 : a3.IsWhole)
    (a4 : Memref sig .tc .vmem S1x8192x64 .bf16) (h4 : a4.IsWhole) (a5 : Memref sig .tc .vmem S1x8192x64 .bf16) (h5 : a5.IsWhole)
    (a6 : Memref sig .tc .vmem S128x256 .bf16) (h6 : a6.IsWhole)
    (x0 : Vec Ideal S4x128x64 .bf16) (x1 : Vec Ideal S1x8192x64 .bf16) (x2 : Vec Ideal S1x8192x64 .bf16)

/-- Value `j`'s coordinate `d`. -/
def val (d : Fin 64) (j : ℕ) : EReal := if h : j < 8192 then x2 (ix3 0 ⟨j, h⟩ d) else 0

/-- The scores of a tile are the real numbers `s`. -/
def Scores (s : Fin 512 → ℕ → ℝ) : Prop :=
  ∀ (r : Fin 512) (j : Fin 8192),
    ∑ x : Fin 64, x0 (ix3 ⟨r.val / 128, by omega⟩ ⟨r.val % 128, by omega⟩ x) * x1 (ix3 0 j x) = ((s r j.val : ℝ) : EReal)

/-- The carried values before trip `n`. -/
abbrev carried (n : ℕ) : FVec Ideal S512x1 .f32 × FVec Ideal S512x1 .f32 × FVec Ideal S512x64 .f32 :=
  st_k0_t1 𝒱 c bd i a3 h3 a4 h4 a5 h5 a6 h6 x0 (h4.unread x1) (h5.unread x2) (k0_pay1, k0_pay2, k0_pay3) n

/-- One trip, from the values carried into it. -/
theorem trip_eq (k : Fin k0_t1_loop.trips) (acc : FVec Ideal S512x1 .f32 × FVec Ideal S512x1 .f32 × FVec Ideal S512x64 .f32) :
    tripR_k0_t1 𝒱 c bd i a3 h3 a4 h4 a5 h5 a6 h6 x0 (h4.unread x1) (h5.unread x2) k acc
      = (k0_pay5 x0 acc.1 (part x1 k.val), k0_pay8 x0 acc.1 acc.2.1 (part x1 k.val),
          k0_pay9 x0 acc.1 acc.2.2 (part x1 k.val) (part x2 k.val)) := by
  unfold tripR_k0_t1 trip_k0_t1
  dsimp only
  sl_unfold_words
  simp only [View.readAt_eq_ld, h4.read_unread, h5.read_unread]
  exact Prod.ext (congrArg (k0_pay5 x0 acc.1) (ld_eq x1 k _)) (Prod.ext (congrArg (k0_pay8 x0 acc.1 acc.2.1) (ld_eq x1 k _))
    (congrArg₂ (k0_pay9 x0 acc.1 acc.2.2) (ld_eq x1 k _) (ld_eq x2 k _)))

/-- Before trip `n` the loop carries the largest of the first `512 n` scores of every row, the sum of their weights
    and the sum of the values by these weights. -/
theorem carried_eq (s : Fin 512 → ℕ → ℝ) (hs : Scores x0 x1 s) (r : Fin 512) : ∀ n : ℕ, n ≤ k0_t1_loop.trips →
    (carried 𝒱 c bd i a3 h3 a4 h4 a5 h5 a6 h6 x0 x1 x2 n).1 (ix2 r 0) = top (s r) (512 * n)
    ∧ (carried 𝒱 c bd i a3 h3 a4 h4 a5 h5 a6 h6 x0 x1 x2 n).2.1 (ix2 r 0) = total (s r) (512 * n)
    ∧ ∀ d : Fin 64, (carried 𝒱 c bd i a3 h3 a4 h4 a5 h5 a6 h6 x0 x1 x2 n).2.2 (ix2 r d)
        = weighted (s r) (val x2 d) (512 * n)
  | 0, _ => by
    rw [Nat.mul_zero, top_zero, total_zero]
    simp only [weighted_zero]
    have e : Ideal.ofBits FTy.f32 4286578688#32 = (⊥ : EReal) := by simp [Ideal.ofBits, Ideal.ieee]
    refine ⟨?_, ?_, fun d => ?_⟩
    · show (k0_pay1 : FVec Ideal S512x1 .f32) (ix2 r 0) = _
      pointwise [k0_pay1]; exact e
    · show (k0_pay2 : FVec Ideal S512x1 .f32) (ix2 r 0) = _
      pointwise [k0_pay2]
    · show (k0_pay3 : FVec Ideal S512x64 .f32) (ix2 r d) = _
      pointwise [k0_pay3]
  | n + 1, hn => by
    obtain ⟨e1, e2, e3⟩ := carried_eq s hs r n (by omega)
    have h16 : n < 16 := Nat.lt_of_lt_of_le (show n < k0_t1_loop.trips by omega) k0_t1_abs.2.1
    unfold carried at e1 e2 e3 ⊢
    rw [st_k0_t1_succ 𝒱 c bd i a3 h3 a4 h4 a5 h5 a6 h6 x0 _ _ _ ⟨n, by omega⟩]
    dsimp only
    generalize st_k0_t1 𝒱 c bd i a3 h3 a4 h4 a5 h5 a6 h6 x0 (h4.unread x1) (h5.unread x2) (k0_pay1, k0_pay2, k0_pay3) n = acc
      at e1 e2 e3 ⊢
    rw [trip_eq]
    dsimp only
    have f4 : ∀ j : Fin 512, k0_pay4 x0 (part x1 n) (ix2 r j) = ((s r (512 * n + j.val) : ℝ) : EReal) := fun j => by
      rw [pay4, ← hs r ⟨512 * n + j.val, by omega⟩]
      refine Finset.sum_congr rfl fun x _ => ?_
      rw [part_apply x1 n j x (by omega)]
    have f5 : k0_pay5 x0 acc.1 (part x1 n) (ix2 r 0) = top (s r) (512 * n + 512) := by
      rw [pay5, e1]; simp only [f4]; exact top_add (s r) (512 * n) 512
    rw [Nat.mul_succ]
    refine ⟨f5, ?_, fun d => ?_⟩
    · rw [pay8, pay6, e1, e2]
      simp only [pay7, f5, f4]
      exact total_add (s r) (512 * n) 512
    · rw [pay9, pay6, e1, e3]
      simp only [pay7, f5, f4]
      rw [← weighted_add (s r) (val x2 d) (512 * n) 512]
      refine congrArg _ (Finset.sum_congr rfl fun x _ => ?_)
      rw [part_apply x2 n x d (by omega), val, dif_pos (show 512 * n + x.val < 8192 by omega)]

end loop

/-! ## The block -/

variable (c : Dev nD) (i : grid0.Coords) (a3 : Memref sig .tc .vmem S4x128x64 .bf16) (h3 : a3.IsWhole)
    (a4 : Memref sig .tc .vmem S1x8192x64 .bf16) (h4 : a4.IsWhole) (a5 : Memref sig .tc .vmem S1x8192x64 .bf16) (h5 : a5.IsWhole)
    (a6 : Memref sig .tc .vmem S128x256 .bf16) (h6 : a6.IsWhole)
    (x0 : Vec Ideal S4x128x64 .bf16) (x1 : Vec Ideal S1x8192x64 .bf16) (x2 : Vec Ideal S1x8192x64 .bf16)

theorem trips16 : Scf.trips (0#32) (Scalar.addi 0#32 16#32) 1#32 = 16 := by decide

/-- The block's element at query `r` and column `d`: the softmax-weighted sum of the values, coordinate `d % 64`, by the
    scores of head `d / 64`. -/
theorem out_apply (s : Fin 512 → ℕ → ℝ) (hs : Scores x0 x1 s) (r : Fin 128) (d : Fin 256) :
    out0_A_3 c i a3 h3 a4 h4 a5 h5 a6 h6 x0 x1 x2 (ix2 r d)
      = Ideal.div (weighted (s ⟨128 * (d.val / 64) + r.val, by omega⟩) (val x2 ⟨d.val % 64, by omega⟩) 8192)
          (total (s ⟨128 * (d.val / 64) + r.val, by omega⟩) 8192) := by
  unfold out0_A_3
  rw [View.read_writes_eq_canon _ _ _ (cover0_A_3 c i a3 h3 a4 h4 a5 h5 a6 h6 x0 x1 x2)]
  unfold kernelRun0_A
  dsimp only
  sl_unfold_words
  rw [View.canon_unit_zero hz2]
  simp only [View.readAt_eq_ld, h3.read_unread, View.ld_unit_zero (S := S4x128x64) hz3]
  rw [pay10]
  have h16 : 16 ≤ k0_t1_loop.trips := by decide
  rw [trips16]
  have key := carried_eq Variants.none c none i a3 h3 a4 h4 a5 h5 a6 h6 x0 x1 x2 s hs
    ⟨128 * (d.val / 64) + r.val, by omega⟩ 16 h16
  unfold carried at key
  rw [key.2.1, key.2.2]

end Cert.KernelIdeal.Tile

end
-- ==== Proof.Array.lean ====
/- What the attention kernel's result array holds: the attention, at every index. -/
module

public import proofs.«01_k».proof.Proof.Tile
public import proofs.«01_k».proof.Proof.Attention
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Proof.Online Cert.Proof.Attention

variable (m : (ℓ : Loc nD τ sig) → Buf (Elt Ideal) ℓ) (ρ : Dev nD → PrngReg)

/-- The queries, keys and values of device `c`. -/
abbrev qs (c : Dev nD) : FVec Ideal S8x32768x64 .bf16 := m ((c : Thread nD τ).loc main_arg0)
abbrev ks (c : Dev nD) : FVec Ideal S2x32768x64 .bf16 := m ((c : Thread nD τ).loc main_arg1)
abbrev vs (c : Dev nD) : FVec Ideal S2x32768x64 .bf16 := m ((c : Thread nD τ).loc main_arg2)

/-- The result array's contents. -/
abbrev result (c : Dev nD) : Buf (Elt Ideal) ((c : Thread nD τ).loc main_v0) :=
  fun y : S32768x512.Idx => attn (qs m c) (ks m c) (vs m c) (y 0) (y 1)

/-! ## The blocks: point `128 b + 64 h + i` of the grid takes queries `i` of sequence `b` for group `h` -/

theorem index0 : ∀ t : Fin grid0.N, win0_0.index t 0 = t.val / 64 % 2 ∧ win0_0.index t 1 = t.val / 128 * 64 + t.val % 64
    ∧ win0_0.index t 2 = 0 := by decide +kernel
theorem index1 : ∀ t : Fin grid0.N, win0_1.index t 0 = t.val / 64 % 2 ∧ win0_1.index t 1 = t.val / 128
    ∧ win0_1.index t 2 = 0 := by decide +kernel
theorem index2 : ∀ t : Fin grid0.N, win0_2.index t 0 = t.val / 64 % 2 ∧ win0_2.index t 1 = t.val / 128
    ∧ win0_2.index t 2 = 0 := by decide +kernel
theorem index3 : ∀ t : Fin grid0.N, win0_3.index t 0 = t.val / 128 * 64 + t.val % 64 ∧ win0_3.index t 1 = t.val / 64 % 2 := by
  decide +kernel

theorem lt_512 (t : Fin cfg0.N) : t.val < 512 := t.isLt.trans_eq N_0

theorem iblk0_apply (c : Dev nD) (t : Fin cfg0.N) (a : Fin 4) (r : Fin 128) (x : Fin 64) :
    (iblk m c 0 t : Vec Ideal S4x128x64 .bf16) (ix3 a r x)
      = qs m c (ix3 ⟨t.val / 64 % 2 * 4 + a.val, by omega⟩
          ⟨(t.val / 128 * 64 + t.val % 64) * 128 + r.val, by have := lt_512 t; omega⟩ x) := by
  have hi := index0 t
  unfold iblk
  rw [View.read_apply]
  show m _ _ = m _ _
  refine congrArg (m _) (funext fun b => Fin.ext ?_)
  match b with
  | ⟨0, _⟩ => show win0_0.index t 0 * 4 + 1 * a.val = _; rw [hi.1]; show _ = t.val / 64 % 2 * 4 + a.val; omega
  | ⟨1, _⟩ => show win0_0.index t 1 * 128 + 1 * r.val = _; rw [hi.2.1]; show _ = (t.val / 128 * 64 + t.val % 64) * 128 + r.val; omega
  | ⟨2, _⟩ => show win0_0.index t 2 * 64 + 1 * x.val = _; rw [hi.2.2]; show _ = x.val; omega

theorem iblk1_apply (c : Dev nD) (t : Fin cfg0.N) (j : Fin 8192) (x : Fin 64) :
    (iblk m c 1 t : Vec Ideal S1x8192x64 .bf16) (ix3 0 j x)
      = ks m c (ix3 ⟨t.val / 64 % 2, by omega⟩ ⟨t.val / 128 * 8192 + j.val, by have := lt_512 t; omega⟩ x) := by
  have hi := index1 t
  unfold iblk
  rw [View.read_apply]
  show m _ _ = m _ _
  refine congrArg (m _) (funext fun b => Fin.ext ?_)
  match b with
  | ⟨0, _⟩ => show win0_1.index t 0 * 1 + 1 * 0 = _; rw [hi.1]; show _ = t.val / 64 % 2; omega
  | ⟨1, _⟩ => show win0_1.index t 1 * 8192 + 1 * j.val = _; rw [hi.2.1]; show _ = t.val / 128 * 8192 + j.val; omega
  | ⟨2, _⟩ => show win0_1.index t 2 * 64 + 1 * x.val = _; rw [hi.2.2]; show _ = x.val; omega

theorem iblk2_apply (c : Dev nD) (t : Fin cfg0.N) (j : Fin 8192) (x : Fin 64) :
    (iblk m c 2 t : Vec Ideal S1x8192x64 .bf16) (ix3 0 j x)
      = vs m c (ix3 ⟨t.val / 64 % 2, by omega⟩ ⟨t.val / 128 * 8192 + j.val, by have := lt_512 t; omega⟩ x) := by
  have hi := index2 t
  unfold iblk
  rw [View.read_apply]
  show m _ _ = m _ _
  refine congrArg (m _) (funext fun b => Fin.ext ?_)
  match b with
  | ⟨0, _⟩ => show win0_2.index t 0 * 1 + 1 * 0 = _; rw [hi.1]; show _ = t.val / 64 % 2; omega
  | ⟨1, _⟩ => show win0_2.index t 1 * 8192 + 1 * j.val = _; rw [hi.2.1]; show _ = t.val / 128 * 8192 + j.val; omega
  | ⟨2, _⟩ => show win0_2.index t 2 * 64 + 1 * x.val = _; rw [hi.2.2]; show _ = x.val; omega

/-- Point `t`'s scores: tile row `r` is head `4 h + r / 128`, query `r % 128` of the block. -/
theorem scores (c : Dev nD) (hq : Real (qs m c)) (hk : Real (ks m c)) (t : Fin cfg0.N) :
    Tile.Scores (iblk m c 0 t) (iblk m c 1 t) fun r => score (qs m c) (ks m c)
      ⟨(t.val / 128 * 64 + t.val % 64) * 128 + r.val % 128, by have := lt_512 t; omega⟩
      ⟨t.val / 64 % 2 * 4 + r.val / 128, by omega⟩ := fun r j => by
  have ht := lt_512 t
  rw [← dot_eq _ _ hq hk]
  unfold dot
  refine Finset.sum_congr rfl fun x _ => ?_
  rw [iblk0_apply, iblk1_apply]
  refine congrArg₂ (fun a b => qs m c a * ks m c b) rfl ?_
  have e1 : t.val / 64 % 2 = (t.val / 64 % 2 * 4 + r.val / 128) / 4 := by omega
  have e2 : t.val / 128 = ((t.val / 128 * 64 + t.val % 64) * 128 + r.val % 128) / 8192 := by omega
  simp only [← e1, ← e2]

/-- What point `t` writes back is its block of the attention. -/
theorem flushed_eq (c : Dev nD) (hq : Real (qs m c)) (hk : Real (ks m c)) (t : Fin cfg0.N) :
    (dats m 0 c).flushed 3 t = ((cfg0.win 3).blk t).view.read (Elt Ideal) (result m c) := by
  have ht := lt_512 t
  rw [Value.flushed3_A]
  funext y
  obtain ⟨r, d, rfl⟩ : ∃ (r : Fin 128) (d : Fin 256), y = ix2 r d := ⟨y 0, y 1, eq_ix2 y⟩
  refine Eq.trans (b := out0_A_3 c (grid0.coords t) (ms0_0 t) (hs0_0 t) (ms0_1 t) (hs0_1 t) (ms0_2 t) (hs0_2 t) (ms0_3 t) (hs0_3 t)
    (iblk m c 0 t) (iblk m c 1 t) (iblk m c 2 t) (ix2 r d)) rfl ?_
  rw [Tile.out_apply c (grid0.coords t) _ _ _ _ _ _ _ _ _ _ _ _ (scores m c hq hk t) r d, View.read_apply]
  have hi := index3 t
  refine Eq.trans (b := attn (qs m c) (ks m c) (vs m c) ⟨(t.val / 128 * 64 + t.val % 64) * 128 + r.val, by omega⟩
    ⟨t.val / 64 % 2 * 256 + d.val, by omega⟩) ?_ ?_
  · unfold attn
    have e1 : (t.val / 64 % 2 * 256 + d.val) / 64 = t.val / 64 % 2 * 4 + d.val / 64 := by omega
    have e2 : (t.val / 64 % 2 * 256 + d.val) % 64 = d.val % 64 := by omega
    have e3 : (128 * (d.val / 64) + r.val) % 128 = r.val := by omega
    have e4 : (128 * (d.val / 64) + r.val) / 128 = d.val / 64 := by omega
    simp only [e1, e2, e3, e4]
    refine congrArg₂ Ideal.div (congrArg (fun f => weighted _ f 8192) ?_) rfl
    funext n
    unfold Tile.val value
    split_ifs with hn
    · rw [iblk2_apply]
      have e5 : (t.val / 64 % 2 * 4 + d.val / 64) / 4 = t.val / 64 % 2 := by omega
      have e6 : ((t.val / 128 * 64 + t.val % 64) * 128 + r.val) / 8192 = t.val / 128 := by omega
      simp only [e5, e6]
    · rfl
  · rw [cast_eq]
    show _ = attn (qs m c) (ks m c) (vs m c) ((((cfg0.win 3).blk t).view.emb (ix2 r d) : S32768x512.Idx) 0)
      ((((cfg0.win 3).blk t).view.emb (ix2 r d) : S32768x512.Idx) 1)
    refine congrArg₂ (attn (qs m c) (ks m c) (vs m c)) (Fin.ext (Eq.symm ?_)) (Fin.ext (Eq.symm ?_))
    · show win0_3.index t 0 * 128 + 1 * r.val = (t.val / 128 * 64 + t.val % 64) * 128 + r.val
      rw [hi.1]; omega
    · show win0_3.index t 1 * 256 + 1 * d.val = t.val / 64 % 2 * 256 + d.val
      rw [hi.2]; omega

/-- An index of the result array is in point `t`'s block. -/
theorem mem_blk (t : Fin cfg0.N) (i : S32768x512.Idx) :
    i ∈ ((cfg0.win 3).blk t).view.set ↔
      ((t.val / 128 * 64 + t.val % 64) * 128 ≤ (i 0 : Nat) ∧ (i 0 : Nat) < (t.val / 128 * 64 + t.val % 64) * 128 + 128)
      ∧ (t.val / 64 % 2 * 256 ≤ (i 1 : Nat) ∧ (i 1 : Nat) < t.val / 64 % 2 * 256 + 256) := by
  show i ∈ ((View.whole main_v0).slice (win0_3.rect t)).set ↔ _
  rw [View.set_slice_whole, Rect.mem_set_unit]
  have hi := index3 t
  have ex : win0_3.xsize (grid0.coords t) 0 = 128 ∧ win0_3.xsize (grid0.coords t) 1 = 256 := ⟨rfl, rfl⟩
  have e0 : win0_3.index t 0 * win0_3.size 0 = (t.val / 128 * 64 + t.val % 64) * 128 := by rw [hi.1]; rfl
  have e1 : win0_3.index t 1 * win0_3.size 1 = t.val / 64 % 2 * 256 := by rw [hi.2]; rfl
  refine ⟨fun h => ⟨?_, ?_⟩, fun h a => ?_⟩
  · have : win0_3.index t 0 * win0_3.size 0 ≤ (i 0 : Nat) ∧ (i 0 : Nat) < win0_3.index t 0 * win0_3.size 0 + win0_3.xsize (grid0.coords t) 0 := h 0
    rw [e0, ex.1] at this; exact this
  · have : win0_3.index t 1 * win0_3.size 1 ≤ (i 1 : Nat) ∧ (i 1 : Nat) < win0_3.index t 1 * win0_3.size 1 + win0_3.xsize (grid0.coords t) 1 := h 1
    rw [e1, ex.2] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, ex.1]; exact h.1
    | ⟨1, _⟩ => show win0_3.index t 1 * win0_3.size 1 ≤ (i 1 : Nat) ∧ (i 1 : Nat) < win0_3.index t 1 * win0_3.size 1 + win0_3.xsize (grid0.coords t) 1
                rw [e1, ex.2]; exact h.2

/-- The blocks cover the result array. -/
theorem cover (i : S32768x512.Idx) :
    ∃ t : Fin cfg0.N, (cfg0.win 3).flush t = true ∧ i ∈ ((cfg0.win 3).blk t).view.set := by
  have h0 : (i 0 : Nat) < 32768 := (i 0).isLt
  have h1 : (i 1 : Nat) < 512 := (i 1).isLt
  refine ⟨⟨(i 0).val / 8192 * 128 + (i 1).val / 256 * 64 + (i 0).val % 8192 / 128, by show _ < grid0.N; rw [N_0]; omega⟩, ?_, ?_⟩
  · exact flush0_3 _
  · rw [mem_blk]
    dsimp only
    omega

/-- The result array ends holding the attention. -/
theorem final (c : Dev nD) (hq : Real (qs m c)) (hk : Real (ks m c)) : (dats m 0 c).arrAt 3 cfg0.N = result m c :=
  (dats m 0 c).arrAt_eq_of_cover 3 (result m c) (fun t _ => flushed_eq m c hq hk t) cover

end Cert.KernelIdeal.Array

end
-- ==== Proof.Ref.lean ====
/- What the attention reference computes, at an index of its result. -/
module

public import proofs.«01_k».proof.Proof.Gen.ReferenceIdeal.Run
public import proofs.«01_k».proof.Proof.OnlineSoftmax

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Facts

/-- The scores: sequence, group, head in the group, query, key. -/
def score (q : FVec Ideal S8x32768x64 .bf16) (k : FVec Ideal S2x32768x64 .bf16) : FVec Ideal S4x2x4x8192x8192 .f32 :=
  Host.dotGeneral dot_S2x4x4x8192x64_S2x4x8192x64_S4x2x4x8192x8192_4_3_13_2_20_10 none
    (shapeCast _ (extf .f32 q bitsLt_bf16_f32) shapeCasts_S8x32768x64_S2x4x4x8192x64)
    (shapeCast _ (extf .f32 k bitsLt_bf16_f32) shapeCasts_S2x32768x64_S2x4x8192x64)

/-- The largest score of every query. -/
def most (s : FVec Ideal S4x2x4x8192x8192 .f32) : FVec Ideal S4x2x4x8192 .f32 :=
  maximumf (broadcastInDim S4x2x4x8192 ![] bcast_S_S4x2x4x8192 (constant S_ .f32 0xFF800000#32))
    (Host.reduce FloatOps.maximumf s (constant S_ .f32 0xFF800000#32) reducesTo_S4x2x4x8192x8192_S4x2x4x8192_d4 h_S_)

/-- A number of every query, at every key. -/
def spread (x : FVec Ideal S4x2x4x8192 .f32) : FVec Ideal S4x2x4x8192x8192 .f32 :=
  broadcastInDim S4x2x4x8192x8192 ![0, 1, 2, 3, 4] bcast_S4x2x4x8192x1_S4x2x4x8192x8192_0_1_2_3_4
    (broadcastInDim S4x2x4x8192x1 ![0, 1, 2, 3] bcast_S4x2x4x8192_S4x2x4x8192x1_0_1_2_3 x)

/-- The weights before normalisation. -/
def weight (s : FVec Ideal S4x2x4x8192x8192 .f32) : FVec Ideal S4x2x4x8192x8192 .f32 :=
  Host.exp (subf s (spread (most s)))

/-- Their sums. -/
def sums (w : FVec Ideal S4x2x4x8192x8192 .f32) : FVec Ideal S4x2x4x8192 .f32 :=
  Host.reduceAdd w (constant S_ .f32 0x00000000#32) reducesTo_S4x2x4x8192x8192_S4x2x4x8192_d4 h_S_

/-- The softmax. -/
def soft (w : FVec Ideal S4x2x4x8192x8192 .f32) : FVec Ideal S4x2x4x8192x8192 .f32 :=
  Host.divf w (spread (sums w))

/-- The result, of the softmax and the values. -/
def mix (p : FVec Ideal S4x2x4x8192x8192 .f32) (v : FVec Ideal S2x32768x64 .bf16) : FVec Ideal S32768x512 .bf16 :=
  truncf .bf16 (shapeCast _ (transpose S4x8192x2x4x64 [0, 4, 1, 3, 2]
    (Host.dotGeneral dot_S2x4x8192x64_S4x2x4x8192x8192_S4x2x64x4x8192_2_4_3_23_10_01 none
      (shapeCast _ (extf .f32 v bitsLt_bf16_f32) shapeCasts_S2x32768x64_S2x4x8192x64) p)
    transposes_S4x2x64x4x8192_S4x8192x2x4x64_0_4_1_3_2) shapeCasts_S4x8192x2x4x64_S32768x512) bitsLt_bf16_f32

theorem score_apply (q : FVec Ideal S8x32768x64 .bf16) (k : FVec Ideal S2x32768x64 .bf16) (b : Fin 4) (h : Fin 2) (g : Fin 4)
    (i j : Fin 8192) :
    score q k (ix5 b h g i j) = ∑ x : Fin 64, q (ix3 ⟨h.val * 4 + g.val, by omega⟩ ⟨b.val * 8192 + i.val, by omega⟩ x)
      * k (ix3 h ⟨b.val * 8192 + j.val, by omega⟩ x) := by
  pointwise [score]

/-- The largest over the last axis of five. -/
theorem reduce_max_last {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce FloatOps.maximumf x init h hu (ix4 a b c d)
      = Finset.univ.fold max (init (Shape.Idx.first hu)) fun k : Fin n4 => (x (ix5 a b c d k) : EReal) := by
  rw [Host.reduce_eq_fold, Shape.ReducesTo.fold_fiber_r5_a4]
  rfl

/-- The sum over the last axis of five. -/
theorem reduce_add_last {n0 n1 n2 n3 n4 : ℕ} {u : Shape} (x : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduceAdd x init h hu (ix4 a b c d)
      = init (Shape.Idx.first hu) + ∑ k : Fin n4, (x (ix5 a b c d k) : EReal) := by
  rw [Host.reduceAdd_apply]
  exact Ideal.hostReduceAdd_r5_a4 _ _ _ _

theorem most_apply (s : FVec Ideal S4x2x4x8192x8192 .f32) (b : Fin 4) (h : Fin 2) (g : Fin 4) (i : Fin 8192) :
    most s (ix4 b h g i) = Finset.univ.sup fun k : Fin 8192 => (s (ix5 b h g i k) : EReal) := by
  have e : Ideal.ofBits FTy.f32 4286578688#32 = (⊥ : EReal) := by simp [Ideal.ofBits, Ideal.ieee]
  unfold most
  rw [show ∀ x y : FVec Ideal S4x2x4x8192 .f32, maximumf x y (ix4 b h g i) = max (x (ix4 b h g i) : EReal) (y (ix4 b h g i)) from fun _ _ => rfl]
  rw [reduce_max_last]
  rw [show ∀ j, constant (F := Ideal) S_ .f32 0xFF800000#32 j = (⊥ : EReal) from fun _ => e]
  rw [Cert.Proof.Online.fold_max_eq_sup]
  refine max_eq_right (le_of_eq_of_le ?_ bot_le)
  exact e

theorem spread_apply (x : FVec Ideal S4x2x4x8192 .f32) (b : Fin 4) (h : Fin 2) (g : Fin 4) (i j : Fin 8192) :
    spread x (ix5 b h g i j) = x (ix4 b h g i) := by
  pointwise [spread]

theorem weight_apply (s : FVec Ideal S4x2x4x8192x8192 .f32) (b : Fin 4) (h : Fin 2) (g : Fin 4) (i j : Fin 8192) :
    weight s (ix5 b h g i j)
      = Ideal.exp (s (ix5 b h g i j) - Finset.univ.sup fun k : Fin 8192 => (s (ix5 b h g i k) : EReal)) := by
  unfold weight
  rw [show ∀ x y : FVec Ideal S4x2x4x8192x8192 .f32, Host.exp (subf x y) (ix5 b h g i j)
    = Ideal.exp ((x (ix5 b h g i j) : EReal) - y (ix5 b h g i j)) from fun _ _ => rfl, spread_apply, most_apply]

theorem sums_apply (w : FVec Ideal S4x2x4x8192x8192 .f32) (b : Fin 4) (h : Fin 2) (g : Fin 4) (i : Fin 8192) :
    sums w (ix4 b h g i) = ∑ k : Fin 8192, (w (ix5 b h g i k) : EReal) := by
  unfold sums
  rw [reduce_add_last, show ∀ j, constant (F := Ideal) S_ .f32 0x00000000#32 j = (0 : EReal) from fun _ => Ideal.ofBits_zero_f32,
    zero_add]

theorem soft_apply (w : FVec Ideal S4x2x4x8192x8192 .f32) (b : Fin 4) (h : Fin 2) (g : Fin 4) (i j : Fin 8192) :
    soft w (ix5 b h g i j) = Ideal.div (w (ix5 b h g i j)) (∑ k : Fin 8192, (w (ix5 b h g i k) : EReal)) := by
  unfold soft
  rw [show ∀ x y : FVec Ideal S4x2x4x8192x8192 .f32, Host.divf x y (ix5 b h g i j)
    = Ideal.div (x (ix5 b h g i j) : EReal) (y (ix5 b h g i j)) from fun _ _ => rfl, spread_apply, sums_apply]

theorem mix_apply (p : FVec Ideal S4x2x4x8192x8192 .f32) (v : FVec Ideal S2x32768x64 .bf16) (i : Fin 32768) (j : Fin 512) :
    mix p v (ix2 i j) = ∑ x : Fin 8192,
      v (ix3 ⟨j.val / 256, by omega⟩ ⟨i.val / 8192 * 8192 + x.val, by omega⟩ ⟨j.val % 64, by omega⟩)
      * p (ix5 ⟨i.val / 8192, by omega⟩ ⟨j.val / 256, by omega⟩ ⟨j.val / 64 % 4, by omega⟩ ⟨i.val % 8192, by omega⟩ x) := by
  pointwise [mix]

end Cert.ReferenceIdeal.Ref

end
-- ==== Proof.Equation.lean ====
/- The attention reference computes the attention, where queries and keys are real numbers. -/
module

public import proofs.«01_k».proof.Proof.Ref
public import proofs.«01_k».proof.Proof.Attention

@[expose] public section

set_option maxRecDepth 16384

noncomputable section

open Idealize.ShloMosaic Idealize.ShloMosaic.TcCoe Idealize.SL.Sem

namespace Cert.ReferenceIdeal.Ref

open Cert.ReferenceIdeal Cert.ReferenceIdeal.Gen Cert.ReferenceIdeal.Facts Cert.Proof.Attention

variable (q : FVec Ideal S8x32768x64 .bf16) (k v : FVec Ideal S2x32768x64 .bf16)

/-- The reference's score of a row and a head against a key is the attention's. -/
theorem score_dot (hq : Real q) (hk : Real k) (i : Fin 32768) (g : Fin 8) (b : Fin 4) (h : Fin 2) (g' : Fin 4) (r x : Fin 8192)
    (hb : b.val = i.val / 8192) (hr : r.val = i.val % 8192) (hh : h.val = g.val / 4) (hg : g'.val = g.val % 4) :
    score q k (ix5 b h g' r x) = ((Cert.Proof.Attention.score q k i g x.val : ℝ) : EReal) := by
  rw [score_apply, ← dot_eq q k hq hk]
  unfold dot
  have e1 : (⟨h.val * 4 + g'.val, by omega⟩ : Fin 8) = g := Fin.ext (by simp only; omega)
  have e2 : (⟨b.val * 8192 + r.val, by omega⟩ : Fin 32768) = i := Fin.ext (by simp only; omega)
  have e3 : h = ⟨g.val / 4, by omega⟩ := Fin.ext hh
  have e4 : (⟨b.val * 8192 + x.val, by omega⟩ : Fin 32768) = ⟨i.val / 8192 * 8192 + x.val, by omega⟩ :=
    Fin.ext (by simp only [hb])
  rw [e1, e2, e3, e4]

/-- Softmax as the reference writes it, over `n` scores. -/
theorem softmax_eq (s : ℕ → ℝ) (v : ℕ → EReal) (n : ℕ) (hn : 0 < n) :
    (∑ x : Fin n, v x.val * Ideal.div (Ideal.exp ((s x.val : EReal) - Finset.univ.sup fun j : Fin n => (s j.val : EReal)))
      (∑ y : Fin n, Ideal.exp ((s y.val : EReal) - Finset.univ.sup fun j : Fin n => (s j.val : EReal))))
      = Ideal.div (Cert.Proof.Online.weighted s v n) (Cert.Proof.Online.total s n) := by
  rw [Cert.Proof.Online.weighted_div _ _ _ hn, Cert.Proof.Online.sup_fin n fun j => (s j : EReal),
    Fin.sum_univ_eq_sum_range (fun j => Ideal.exp ((s j : EReal) - (Finset.range n).sup fun j => (s j : EReal)))]
  have e := Fin.sum_univ_eq_sum_range (fun j => Ideal.div (Ideal.exp ((s j : EReal) - Cert.Proof.Online.top s n))
    (Cert.Proof.Online.total s n) * v j) n
  refine Eq.trans (Finset.sum_congr rfl fun (x : Fin n) _ => ?_) e
  exact mul_comm (v x.val) _

/-- The reference at one index. -/
theorem attn_apply (hq : Real q) (hk : Real k) (i : Fin 32768) (j : Fin 512) :
    mix (soft (weight (score q k))) v (ix2 i j) = attn q k v i j := by
  have hs : ∀ x : Fin 8192, (score q k (ix5 ⟨i.val / 8192, by omega⟩ ⟨j.val / 256, by omega⟩ ⟨j.val / 64 % 4, by omega⟩
      ⟨i.val % 8192, by omega⟩ x) : EReal) = ((Cert.Proof.Attention.score q k i ⟨j.val / 64, by omega⟩ x.val : ℝ) : EReal) := fun x =>
    score_dot q k hq hk i ⟨j.val / 64, by omega⟩ _ _ _ _ x rfl rfl (by simp only; omega) rfl
  unfold attn
  rw [mix_apply, ← softmax_eq _ _ _ (by norm_num)]
  simp only [soft_apply, weight_apply, hs]
  refine Finset.sum_congr rfl fun x _ => ?_
  congr 1
  unfold value
  rw [dif_pos x.isLt]
  exact congrArg (fun h : Fin 2 => (v (ix3 h _ _) : EReal)) (Fin.ext (by simp only; omega))

/-- The reference, whole. -/
theorem attn_eq (hq : Real q) (hk : Real k) :
    mix (soft (weight (score q k))) v = fun y : S32768x512.Idx => attn q k v (y 0) (y 1) := by
  funext y
  obtain ⟨i, j, rfl⟩ : ∃ (i : Fin 32768) (j : Fin 512), y = ix2 i j := ⟨y 0, y 1, eq_ix2 y⟩
  exact attn_apply q k v hq hk i j

end Cert.ReferenceIdeal.Ref

end
-- ==== Proof.ExpertsRange.lean ====
/- What the experts' precondition says: the expert of every block is one of the 64, and between 1 and 1088 blocks are in use. -/
module

public import proofs.«01_k».proof.Defs
public import proofs.«01_k».proof.Proof.Gen.Pre_table_in_range
public import Idealize.ShloMosaic.Lib.ReduceAll
public import Idealize.ShloMosaic.Lib.WordArith
public import Idealize.ShloMosaic.Lib.WordCmp
public import Idealize.ShloMosaic.Lib.Tactic.WordOmega
public import Idealize.ShloMosaic.Lib.Pointwise

@[expose] public section

set_option maxRecDepth 16384

noncomputable section

open Idealize.ShloMosaic Idealize.ShloMosaic.TcCoe Idealize.SL.Sem

namespace Cert.Pre_table_in_range

open Cert.Pre_table_in_range Cert.Pre_table_in_range.Gen

/-- The tables' ranges, in natural numbers. -/
structure InRange (e : IVec S1088 32) (n : IVec S1 32) : Prop where
  expert : ∀ j : Fin 1088, (e (ix1 j)).toNat < 64
  pos : 1 ≤ (n (ix1 0)).toNat
  le : (n (ix1 0)).toNat ≤ 1088

theorem both_one : ∀ a b : BitVec 1, IntOp.andi a b = 1#1 → a = 1#1 ∧ b = 1#1 := by decide

theorem below (x : BitVec 32) (h : IntOp.andi (IntOp.cmpi .sge x 0#32) (IntOp.cmpi .slt x 64#32) = 1#1) : x.toNat < 64 := by
  word_omega

theorem between (x : BitVec 32) (h : IntOp.andi (IntOp.cmpi .sge x 1#32) (IntOp.cmpi .sle x 1088#32) = 1#1) :
    1 ≤ x.toNat ∧ x.toNat ≤ 1088 := by
  constructor <;> word_omega

instance : Subsingleton S_.Idx := ⟨fun a b => funext fun i => i.elim0⟩

theorem fn_range {F : FTy → Type} [FloatOps F] (e : IVec S1088 32) (n : IVec S1 32) (x : FVec F S278528x1024 .f32)
    (wgu : FVec F S64x1024x512 .bf16) (wd : FVec F S64x256x1024 .bf16) (i) (h : fn e n x wgu wd i = 1#1) : InRange e n := by
  dsimp only [fn] at h
  unfold shapeCast at h
  obtain ⟨h1, h2⟩ := both_one _ _ h
  have he : ∀ j : Fin 1088, (e (ix1 j)).toNat < 64 := fun j => below _ (Host.reduce_andi_all _ _ _ _ _ h1 (ix1 j))
  have hn := between _ (Host.reduce_andi_all _ _ _ _ _ h2 (ix1 0))
  exact ⟨he, hn.1, hn.2⟩

end Cert.Pre_table_in_range

end
-- ==== Proof.ExpertsIdealBody.lean ====
/- The body of the experts' kernel run once on its four staging buffers: with the block in use it stores the expert's
   output of the block, otherwise zeros. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The kernel's resources. -/
local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The two tables: the expert of each block, and how many blocks are in use. -/
abbrev tabE : Memref sig .tc .smem S1088 .i32 := Memref.whole main_arg0
abbrev tabN : Memref sig .tc .smem S1 .i32 := Memref.whole main_arg1

/-- A table's contents on core `c`, and half of the table held at them. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The number of blocks in use, as the body reads it. -/
abbrev word (c : Dev nD) (n : TabBuf (F := F) c tabN) : BitVec 32 :=
  View.readAt (Elt F) tabN.view (Rect.unit (s := S1) ![0] S1.size inb_S1_S1_0).toLoadRect n (Shape.Idx.first (numel1_S1.symm ▸ Nat.one_pos))

/-- The two conditions of the body are each other's negation. -/
theorem cond2_of_not (i : grid0.Coords) (v : BitVec 32) (h : ¬ k0_cond1 i v = 1#1) : k0_cond2 i v = 1#1 := by
  revert h
  unfold k0_cond1 k0_cond2
  dsimp only
  generalize Scalar.cmpi .slt (BitVec.ofNat 32 (i 0).val) v = b
  revert b
  decide
theorem not_cond2 (i : grid0.Coords) (v : BitVec 32) (h : k0_cond1 i v = 1#1) : ¬ k0_cond2 i v = 1#1 := by
  revert h
  unfold k0_cond1 k0_cond2
  dsimp only
  generalize Scalar.cmpi .slt (BitVec.ofNat 32 (i 0).val) v = b
  revert b
  decide

/-- What the body leaves in its output block. -/
def out (i : grid0.Coords) (n : BitVec 32) (x0 : Vec F S256x1024 .f32) (x1 : Vec F S1x1024x512 .bf16)
    (x2 : Vec F S1x256x1024 .bf16) : Vec F S256x1024 .f32 :=
  if k0_cond1 i n = 1#1 then k0_pay1 x0 x1 x2 else k0_pay2

set_option maxHeartbeats 4000000 in
/-- The body, from the three input blocks and the tables: the output block ends at `out`, everything else unchanged. -/
theorem run (c : Dev nD) (i : grid0.Coords) (arg3 : Memref sig .tc .vmem S256x1024 .f32) (harg3 : arg3.IsWhole)
    (arg4 : Memref sig .tc .vmem S1x1024x512 .bf16) (harg4 : arg4.IsWhole) (arg5 : Memref sig .tc .vmem S1x256x1024 .bf16)
    (harg5 : arg5.IsWhole) (arg6 : Memref sig .tc .vmem S256x1024 .f32) (harg6 : arg6.IsWhole)
    (x0 : Vec F S256x1024 .f32) (x1 : Vec F S1x1024x512 .bf16) (x2 : Vec F S1x256x1024 .bf16)
    (e : TabBuf (F := F) c tabE) (n : TabBuf (F := F) c tabN) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tabHalf c tabE e ∗ tabHalf c tabN n
        ∗ (iprop(owns (c : Thread nD τ) arg3 fullShare x0 ∗ owns (c : Thread nD τ) arg4 fullShare x1 ∗ owns (c : Thread nD τ) arg5 fullShare x2
            ∗ owns (c : Thread nD τ) arg6 fullShare (out i (word c n) x0 x1 x2) ∗ tabHalf c tabE e ∗ tabHalf c tabN n) -∗ K ⟨⟩))
      ⊢ wp frame (wpE (defs₀ (F := F)) Variants.none c none) E
          (cc0_experts i tabE (Memref.isWhole_whole _) tabN (Memref.isWhole_whole _) arg3 harg3 arg4 harg4 arg5 harg5 arg6 harg6) K := by
  by_cases h1 : k0_cond1 i (word c n) = 1#1
  · have h2 := not_cond2 i (word c n) h1
    rw [cc0_experts_eq_skeleton]; unfold cc0_experts_skel
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    have hT0 : tabE.IsWhole := Memref.isWhole_whole _
    have hT1 : tabN.IsWhole := Memref.isWhole_whole _
    sl_exec! (disch := first | (guard_target = k0_cond1 _ _ = _; exact h1) | (guard_target = ¬(k0_cond2 _ _ = _); exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [View.read_writes_eq_canon _ _ _ (View.cover_of_tiledL _ S256x1024.size (by sl_kernel_rfl))]
      sl_unfold_words
      rw [View.canon_unit_zero hz2]
      unfold out
      rw [if_pos h1]
      simp only [View.readAt_eq_ld, harg3.read_unread, harg4.read_unread, harg5.read_unread, View.ld_unit_zero (S := S256x1024) hz2,
        View.ld_unit_zero (S := S1x1024x512) hz3, View.ld_unit_zero (S := S1x256x1024) hz3]
    isplitl [HT0]; · iexact HT0
    iexact HT1
  · have h2 := cond2_of_not i (word c n) h1
    rw [cc0_experts_eq_skeleton]; unfold cc0_experts_skel
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    have hT0 : tabE.IsWhole := Memref.isWhole_whole _
    have hT1 : tabN.IsWhole := Memref.isWhole_whole _
    sl_exec! (disch := first | (guard_target = ¬(k0_cond1 _ _ = _); exact h1) | (guard_target = k0_cond2 _ _ = _; exact h2))
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      rw [View.read_writes_eq_canon _ _ _ (View.cover_of_tiledL _ S256x1024.size (by sl_kernel_rfl))]
      sl_unfold_words
      rw [View.canon_unit_zero hz2]
      unfold out
      rw [if_neg h1]
    isplitl [HT0]; · iexact HT0
    iexact HT1

end Cert.ExpertsIdeal.Blocks

end
-- ==== Proof.ExpertsIdealFrame.lean ====
/- The experts' call as a whole, for every contents of its two tables the pipeline admits: what each staging buffer holds
   point by point, the body's obligation, the launch, and the arrays it ends with. -/
module

public import proofs.«01_k».proof.Proof.ExpertsIdealBody
public import Idealize.ShloMosaic.Lib.Claim

@[expose] public section

set_option maxRecDepth 16384

noncomputable section

namespace Cert.ExpertsIdeal.Blocks

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The kernel's resources. -/
local notation "𝕄" => MT nD τ sig Unit (Elt F) ℕ (UR sig nD τ) ℕ

variable (m : (ℓ : Loc nD τ sig) → Buf (Elt F) ℓ) (ρ : Dev nD → PrngReg)

/-! ## The launch -/

/-- Core `c`'s buffers when the call is entered: as launched. -/
abbrev V (c : Dev nD) (b : Ref sig .tc) : Buf (Elt F) ((c : Thread nD τ).loc b) := m ((c : Thread nD τ).loc b)

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents at the launch. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The pipeline's side condition of the tables. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabHalf c tabE (tbl m 0) ∗ tabHalf c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The blocks and the staging buffers -/

/-- Window `w`'s block at point `t`. -/
def blockAt (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

abbrev st0 (hO : Ok m) (t : Fin (cfgM m hO).N) : Memref sig .tc .vmem S256x1024 .f32 := spec0_0.stage ((cfgM m hO).slots t 0)
abbrev st1 (hO : Ok m) (t : Fin (cfgM m hO).N) : Memref sig .tc .vmem S1x1024x512 .bf16 := spec0_1.stage ((cfgM m hO).slots t 1)
abbrev st2 (hO : Ok m) (t : Fin (cfgM m hO).N) : Memref sig .tc .vmem S1x256x1024 .bf16 := spec0_2.stage ((cfgM m hO).slots t 2)
abbrev st3 (hO : Ok m) (t : Fin (cfgM m hO).N) : Memref sig .tc .vmem S256x1024 .f32 := spec0_3.stage ((cfgM m hO).slots t 3)

/-- The body as the pipeline calls it at point `t`. -/
abbrev bodyAt (hO : Ok m) (t : Fin (cfgM m hO).N) : Prog (TpuEff nD τ sig (Elt F) Λ₀ .tc) PUnit :=
  cc0_experts (grid0.coords t) tabE (Memref.isWhole_whole _) tabN (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))

/-- What the output's buffer holds after point `t`. -/
def outAt (hO : Ok m) (c : Dev nD) (t : Fin (cfgM m hO).N) : Vec F S256x1024 .f32 :=
  out (grid0.coords t) (word c (tbl m 1)) (blockAt m hO c 0 t) (blockAt m hO c 1 t) (blockAt m hO c 2 t)

/-- The output is written back at every point. -/
theorem flush3 (hO : Ok m) : ∀ t : Fin (cfgM m hO).N, ((cfgM m hO).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

/-- The output's buffer is written at every point: one of the two conditions holds. -/
theorem not_idle (hO : Ok m) (t : Fin (cfgM m hO).N) : (cfgM m hO).idle 3 ((cfgM m hO).grid.coords t) = false := by
  have key : ∀ (i : grid0.Coords) (v : BitVec 32), (!(k0_cond1 i v == 1#1) && !(k0_cond2 i v == 1#1)) = false := by
    intro i v
    by_cases h : k0_cond1 i v = 1#1
    · rw [h]; rfl
    · rw [cond2_of_not i v h]; simp
  exact key _ _

/-! ## The pipeline's data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => blockAt m hO c 0 t
    | ⟨1, _⟩ => blockAt m hO c 1 t
    | ⟨2, _⟩ => blockAt m hO c 2 t
    | ⟨3, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = blockAt m hO c 0 t := by dsimp only [dats]; try rfl
theorem after1 (hO : Ok m) (c : Dev nD) (t : Fin (cfgM m hO).N) : (dats m hO 0 c).after 1 t = blockAt m hO c 1 t := by dsimp only [dats]; try rfl
theorem after2 (hO : Ok m) (c : Dev nD) (t : Fin (cfgM m hO).N) : (dats m hO 0 c).after 2 t = blockAt m hO c 2 t := by dsimp only [dats]; try rfl
theorem after3 (hO : Ok m) (c : Dev nD) (t : Fin (cfgM m hO).N) : (dats m hO 0 c).after 3 t = outAt m hO c t := by dsimp only [dats]; try rfl

/-- Each input's buffer holds its block at every point, fetched there or not. -/
theorem before0 (hO : Ok m) (c : Dev nD) (t : Fin (cfgM m hO).N) (d) : (dats m hO 0 c).before 0 t d = blockAt m hO c 0 t :=
  ((dats m hO 0 c).before_in_eq_fetched 0 rfl (fun _ => rfl) (fun _ _ _ => rfl)
    (fun t => by rw [after0]; unfold Dat.blockOf blockAt; rw [A_eq]; try rfl) t d).trans
    (by unfold Dat.fetched Dat.blockOf blockAt; rw [A_eq]; try rfl)
theorem before1 (hO : Ok m) (c : Dev nD) (t : Fin (cfgM m hO).N) (d) : (dats m hO 0 c).before 1 t d = blockAt m hO c 1 t :=
  ((dats m hO 0 c).before_in_eq_fetched 1 rfl (fun _ => rfl) (fun _ _ _ => rfl)
    (fun t => by rw [after1]; unfold Dat.blockOf blockAt; rw [A_eq]; try rfl) t d).trans
    (by unfold Dat.fetched Dat.blockOf blockAt; rw [A_eq]; try rfl)
theorem before2 (hO : Ok m) (c : Dev nD) (t : Fin (cfgM m hO).N) (d) : (dats m hO 0 c).before 2 t d = blockAt m hO c 2 t :=
  ((dats m hO 0 c).before_in_eq_fetched 2 rfl (fun _ => rfl) (fun _ _ _ => rfl)
    (fun t => by rw [after2]; unfold Dat.blockOf blockAt; rw [A_eq]; try rfl) t d).trans
    (by unfold Dat.fetched Dat.blockOf blockAt; rw [A_eq]; try rfl)

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩⟩
  iapply (run c (grid0.coords t) _ _ _ _ _ _ _ _ (blockAt m hO c 0 t) (blockAt m hO c 1 t) (blockAt m hO c 2 t) (tbl m 0) (tbl m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) :
    BodyObligation (dats (F := F) m hO 0 c) (defs₀ (F := F)) Variants.none () Set.univ := fun t => by
  rw [bigSep_W0, bigSep_W0, body_row m hO]
  refine triple_restated (sound_body m hO c t) rfl .rfl fun _ => ?_
  have h : idle0 (tbl m) 3 ((pcfg0.gridAt (tbl m)).coords t) = false := not_idle m hO t
  dsimp only
  erw [h]
  exact .rfl

/-! ## The run and the frame -/

set_option backward.isDefEq.respectTransparency.types false in
theorem run_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_quiescent m ρ hO)

/-- A run leaves the arguments as they were and the result at what the pipeline wrote back, the semaphores at zero. -/
theorem runs (hO : Ok m) : θ_run defs (onTc (τ := τ) (main (F := F))) ⟨m, fun _ => 0, ρ⟩ (fun r => (∀ c : Dev nD,
      r.2.mem ((c.tc : Thread nD τ).loc main_v0) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      (h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_quiescent m ρ hO)

/-- The call changes none of its arguments. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (runs m ρ hO)

end Cert.ExpertsIdeal.Blocks

end
-- ==== Proof.ExpertsIdealTables.lean ====
/- Where the experts' pipeline fetches its blocks: in range when the tables are. -/
module

public import proofs.«01_k».proof.Proof.ExpertsIdealFrame
public import proofs.«01_k».proof.Proof.ExpertsRange
public import Idealize.ShloMosaic.Lib.Affine

@[expose] public section

set_option maxRecDepth 16384

noncomputable section

namespace Cert.ExpertsIdeal.Blocks

open Cert.ExpertsIdeal Cert.ExpertsIdeal.Gen Cert.Pre_table_in_range
open Idealize.ShloMosaic Idealize.ShloMosaic.TcCoe Idealize.SL.Sem

variable {F : FTy → Type} [FloatOps F]

/-- The tables of the launch. -/
abbrev eTab (pf : pre0.Contents (Elt F)) : IVec S1088 32 := pf 0
abbrev nTab (pf : pre0.Contents (Elt F)) : IVec S1 32 := pf 1

theorem coord_lt (i : grid0.Coords) : (i 0).val < 1088 := (i 0).isLt

theorem minsi_block (j n : BitVec 32) (hj : j.toNat < 1088) (h1 : 1 ≤ n.toNat) (h2 : n.toNat ≤ 1088) :
    (Scalar.minsi j (Scalar.subi n 1#32)).toNat = min j.toNat (n.toNat - 1) := by
  have e : (Scalar.subi n 1#32).toNat = n.toNat - 1 := by
    show (n - 1#32).toNat = _
    rw [BitVec.toNat_sub_of_le (by show 1 ≤ n.toNat; exact h1)]; rfl
  refine Eq.trans (WordArith.toNat_minsi_of_lt j (Scalar.subi n 1#32) (by omega) (by omega)) ?_
  rw [e]

theorem map0 (pf : pre0.Contents (Elt F)) (h : InRange (eTab pf) (nTab pf)) (i : grid0.Coords) :
    cc0_transform_0 inb_S1_S1_0 numel1_S1 pf i = ![min (i 0).val ((nTab pf (ix1 0)).toNat - 1), 0] := by
  have hi := coord_lt i
  have ej : (BitVec.ofNat 32 (i 0).val).toNat = (i 0).val := by rw [BitVec.toNat_ofNat]; exact Nat.mod_eq_of_lt (by omega)
  have en : pf.at 1 (Rect.unit (s := S1) ![0] S1.size inb_S1_S1_0) numel1_S1 = nTab pf (ix1 0) := by
    refine congrArg (nTab pf) (funext fun a => Fin.ext ?_)
    match a with
    | ⟨0, _⟩ => rfl
  unfold cc0_transform_0
  dsimp only
  rw [en, minsi_block _ _ (by omega) h.pos h.le, ej]
  rfl

theorem map1 (pf : pre0.Contents (Elt F)) (i : grid0.Coords) :
    cc0_transform_1 k0_off1_inb numel1_S1 pf i = ![(eTab pf (ix1 ⟨(i 0).val, coord_lt i⟩)).toNat, 0, 0] := by
  have hi := coord_lt i
  have ej : (BitVec.ofNat 32 (i 0).val).toNat = (i 0).val := by rw [BitVec.toNat_ofNat]; exact Nat.mod_eq_of_lt (by omega)
  have ee : pf.at 0 (Rect.unit (s := S1088) ![(Scalar.indexCast (BitVec.ofNat 32 (i 0).val)).toNat] S1.size (k0_off1_inb i)) numel1_S1
      = eTab pf (ix1 ⟨(i 0).val, coord_lt i⟩) := by
    refine congrArg (eTab pf) (funext fun a => Fin.ext ?_)
    match a with
    | ⟨0, _⟩ =>
      show (BitVec.ofNat 32 (i 0).val).toNat + 1 * 0 = (i 0).val
      rw [ej]; omega
  unfold cc0_transform_1
  dsimp only
  rw [ee]
  rfl

theorem map2 (pf : pre0.Contents (Elt F)) (i : grid0.Coords) :
    cc0_transform_2 k0_off1_inb numel1_S1 pf i = ![(eTab pf (ix1 ⟨(i 0).val, coord_lt i⟩)).toNat, 0, 0] :=
  map1 pf i

/-- Tables in range satisfy the pipeline's side condition. -/
theorem ok_of_range (pf : pre0.Contents (Elt F)) (h : InRange (eTab pf) (nTab pf)) : ok0 pf := by
  refine ⟨fun i => ⟨?_, .inl rfl⟩, fun i => ⟨?_, .inr (Affine.block_words_dvd (s := S64x1024x512) (p := EltTy.packing .bf16) (by decide) (by decide))⟩,
    fun i => ⟨?_, .inr (Affine.block_words_dvd (s := S64x256x1024) (p := EltTy.packing .bf16) (by decide) (by decide))⟩⟩
  · rw [map0 pf h]
    have hi := coord_lt i
    have := h.le
    intro a
    match a with
    | ⟨0, _⟩ => show (min (i 0).val ((nTab pf (ix1 0)).toNat - 1) + 1) * 256 ≤ 278528; omega
    | ⟨1, _⟩ => show (0 + 1) * 1024 ≤ 1024; omega
  · rw [map1 pf]
    have := h.expert ⟨(i 0).val, coord_lt i⟩
    intro a
    match a with
    | ⟨0, _⟩ => show ((eTab pf (ix1 ⟨(i 0).val, coord_lt i⟩)).toNat + 1) * 1 ≤ 64; omega
    | ⟨1, _⟩ => show (0 + 1) * 1024 ≤ 1024; omega
    | ⟨2, _⟩ => show (0 + 1) * 512 ≤ 512; omega
  · rw [map2 pf]
    have := h.expert ⟨(i 0).val, coord_lt i⟩
    intro a
    match a with
    | ⟨0, _⟩ => show ((eTab pf (ix1 ⟨(i 0).val, coord_lt i⟩)).toNat + 1) * 1 ≤ 64; omega
    | ⟨1, _⟩ => show (0 + 1) * 256 ≤ 256; omega
    | ⟨2, _⟩ => show (0 + 1) * 1024 ≤ 1024; omega

end Cert.ExpertsIdeal.Blocks

end
-- ==== Proof.ExpertsMath.lean ====
/- The experts' layer as a formula: row `i` of the sorted tokens, in block `i / 256`, goes through the gated feed-forward
   network of the block's expert; the rows of the blocks not in use are zero. -/
module

public import Idealize.ShloMosaic.PureOps
public import Idealize.ShloMosaic.Lib.Pointwise

@[expose] public section

noncomputable section

open Idealize.ShloMosaic

namespace Cert.Proof.Experts

/-- The expert of block `b`, kept among the 64. -/
def expertOf (e : IVec ⟨1, ![1088]⟩ 32) (b : Fin 1088) : Fin 64 := ⟨min (e (ix1 b)).toNat 63, by omega⟩

/-- Column `f` of the first product of token row `i` and expert `k`: the gate for `f < 256`, then the factor. -/
def first (x : FVec Ideal ⟨2, ![278528, 1024]⟩ .f32) (w : FVec Ideal ⟨3, ![64, 1024, 512]⟩ .bf16) (i : Fin 278528) (k : Fin 64)
    (f : Fin 512) : EReal := ∑ y : Fin 1024, x (ix2 i y) * w (ix3 k y f)

/-- The hidden unit: the gate times its sigmoid, times the factor. -/
def gated (g u : EReal) : EReal := g * Ideal.div 1 (1 + Ideal.exp (-g)) * u

/-- One coordinate of one row of the layer. -/
def layer (e : IVec ⟨1, ![1088]⟩ 32) (n : IVec ⟨1, ![1]⟩ 32) (x : FVec Ideal ⟨2, ![278528, 1024]⟩ .f32)
    (w : FVec Ideal ⟨3, ![64, 1024, 512]⟩ .bf16) (v : FVec Ideal ⟨3, ![64, 256, 1024]⟩ .bf16) (i : Fin 278528) (d : Fin 1024) : EReal :=
  if i.val / 256 < (n (ix1 0)).toNat then
    ∑ f : Fin 256, gated (first x w i (expertOf e ⟨i.val / 256, by omega⟩) ⟨f.val, by omega⟩)
        (first x w i (expertOf e ⟨i.val / 256, by omega⟩) ⟨256 + f.val, by omega⟩)
      * v (ix3 (expertOf e ⟨i.val / 256, by omega⟩) f d)
  else 0

end Cert.Proof.Experts

end
-- ==== Proof.ExpertsBlock.lean ====
/- What the experts' kernel stores in one block, as sums. -/
module

public import proofs.«01_k».proof.Proof.ExpertsIdealTables
public import proofs.«01_k».proof.Proof.ExpertsMath

@[expose] public section

set_option maxRecDepth 16384

noncomputable section

namespace Cert.ExpertsIdeal.Blocks

open Cert.ExpertsIdeal Cert.ExpertsIdeal.Gen Cert.Pre_table_in_range Cert.Proof.Experts
open Idealize.ShloMosaic Idealize.ShloMosaic.TcCoe Idealize.SL.Sem

theorem pay1_apply (x : Vec Ideal S256x1024 .f32) (w : Vec Ideal S1x1024x512 .bf16) (v : Vec Ideal S1x256x1024 .bf16)
    (r : Fin 256) (d : Fin 1024) :
    k0_pay1 x w v (ix2 r d)
      = ∑ f : Fin 256, gated (∑ y : Fin 1024, x (ix2 r y) * w (ix3 0 y ⟨f.val, by omega⟩))
          (∑ y : Fin 1024, x (ix2 r y) * w (ix3 0 y ⟨256 + f.val, by omega⟩)) * v (ix3 0 f d) := by
  unfold gated
  pointwise [k0_pay1]
  simp only [zero_sub]

theorem pay2_apply (r : Fin 256) (d : Fin 1024) : k0_pay2 (F := Ideal) (ix2 r d) = (0 : EReal) := by
  pointwise [k0_pay2]

/-- The body's condition: the block is one of those in use. -/
theorem cond1_iff (i : grid0.Coords) (n : BitVec 32) (h : n.toNat ≤ 1088) : k0_cond1 i n = 1#1 ↔ (i 0).val < n.toNat := by
  have hi := coord_lt i
  have ej : (BitVec.ofNat 32 (i 0).val).toNat = (i 0).val := by rw [BitVec.toNat_ofNat]; exact Nat.mod_eq_of_lt (by omega)
  unfold k0_cond1
  dsimp only
  generalize hj : BitVec.ofNat 32 (i 0).val = j at ej
  rw [← ej]
  have key : ∀ b : BitVec 1, Scalar.cmpi .ne (Scalar.extui b : BitVec 32) 0#32 = 1#1 ↔ b = 1#1 := by decide
  rw [key]
  have e : Scalar.cmpi .slt j n = BitVec.ofBool (decide (j.toNat < n.toNat)) :=
    WordCmp.cmpi_slt_of_lt (by show _ < 2 ^ 31; omega) (by show _ < 2 ^ 31; omega)
  rw [e]
  by_cases hl : j.toNat < n.toNat <;> simp [hl]

end Cert.ExpertsIdeal.Blocks

end
-- ==== Proof.ExpertsArray.lean ====
/- What the experts' result array holds at the end: the layer, at every index. -/
module

public import proofs.«01_k».proof.Proof.ExpertsBlock

@[expose] public section

set_option maxRecDepth 16384

noncomputable section

namespace Cert.ExpertsIdeal.Blocks

open Cert.ExpertsIdeal Cert.ExpertsIdeal.Gen Cert.Pre_table_in_range Cert.Proof.Experts
open Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev es (c : Dev nD) : IVec S1088 32 := m ((c : Thread nD τ).loc main_arg0)
abbrev ns (c : Dev nD) : IVec S1 32 := m ((c : Thread nD τ).loc main_arg1)
abbrev xs (c : Dev nD) : FVec Ideal S278528x1024 .f32 := m ((c : Thread nD τ).loc main_arg2)
abbrev ws (c : Dev nD) : FVec Ideal S64x1024x512 .bf16 := m ((c : Thread nD τ).loc main_arg3)
abbrev vs (c : Dev nD) : FVec Ideal S64x256x1024 .bf16 := m ((c : Thread nD τ).loc main_arg4)

/-- The result array's contents. -/
abbrev result (c : Dev nD) : Buf (Elt Ideal) ((c : Thread nD τ).loc main_v0) :=
  fun y : S278528x1024.Idx => layer (es m c) (ns m c) (xs m c) (ws m c) (vs m c) (y 0) (y 1)

theorem eTab_eq (c : Dev nD) : eTab (tbl m) = es m c := (V_pre m c 0).symm
theorem nTab_eq (c : Dev nD) : nTab (tbl m) = ns m c := (V_pre m c 1).symm

/-- The tables' ranges, at the launch. -/
abbrev Range : Prop := InRange (eTab (tbl m)) (nTab (tbl m))

variable (h : Range m)

include h in
theorem okay : Ok m := ok_of_range (tbl m) h

theorem coord_val : ∀ t : Fin grid0.N, (grid0.coords t 0).val = t.val := by decide +kernel

theorem lt_1088 (t : Fin grid0.N) : t.val < 1088 := t.isLt.trans_eq N_0

/-- The three blocks read at point `t`. -/
def rows (c : Dev nD) (t : Fin (cfgM m (okay m h)).N) : Vec Ideal S256x1024 .f32 := blockAt m (okay m h) c 0 t
def gates (c : Dev nD) (t : Fin (cfgM m (okay m h)).N) : Vec Ideal S1x1024x512 .bf16 := blockAt m (okay m h) c 1 t
def downs (c : Dev nD) (t : Fin (cfgM m (okay m h)).N) : Vec Ideal S1x256x1024 .bf16 := blockAt m (okay m h) c 2 t

/-- A block in use is fetched at its own place. -/
theorem block0_apply (c : Dev nD) (t : Fin (cfgM m (okay m h)).N) (ht : t.val < (ns m c (ix1 0)).toNat) (r : Fin 256) (y : Fin 1024) :
    rows m h c t (ix2 r y)
      = xs m c (ix2 ⟨t.val * 256 + r.val, by have := lt_1088 t; omega⟩ y) := by
  have hi := map0 (tbl m) h (grid0.coords t)
  rw [coord_val t, nTab_eq m c, Nat.min_eq_left (by omega)] at hi
  unfold rows blockAt
  refine Eq.trans (View.read_apply _ _) ?_
  show m _ _ = m _ _
  refine congrArg (m _) (funext fun b => Fin.ext ?_)
  match b with
  | ⟨0, _⟩ => show cc0_transform_0 inb_S1_S1_0 numel1_S1 (tbl m) (grid0.coords t) 0 * 256 + 1 * r.val = _
              rw [hi]; show t.val * 256 + 1 * r.val = t.val * 256 + r.val; omega
  | ⟨1, _⟩ => show cc0_transform_0 inb_S1_S1_0 numel1_S1 (tbl m) (grid0.coords t) 1 * 1024 + 1 * y.val = _
              rw [hi]; show 0 * 1024 + 1 * y.val = y.val; omega

include h in
theorem expert_val (c : Dev nD) (t : Fin grid0.N) :
    (eTab (tbl m) (ix1 ⟨(grid0.coords t 0).val, coord_lt (grid0.coords t)⟩)).toNat = (expertOf (es m c) ⟨t.val, lt_1088 t⟩).val := by
  have e : (⟨(grid0.coords t 0).val, coord_lt (grid0.coords t)⟩ : Fin 1088) = ⟨t.val, lt_1088 t⟩ := Fin.ext (coord_val t)
  have hb := h.expert ⟨t.val, lt_1088 t⟩
  rw [e]
  rw [eTab_eq m c] at hb ⊢
  show _ = min _ 63
  omega

theorem block1_apply (c : Dev nD) (t : Fin (cfgM m (okay m h)).N) (y : Fin 1024) (f : Fin 512) :
    gates m h c t (ix3 0 y f)
      = ws m c (ix3 (expertOf (es m c) ⟨t.val, lt_1088 t⟩) y f) := by
  have hi := map1 (tbl m) (grid0.coords t)
  rw [expert_val m h c t] at hi
  unfold gates blockAt
  refine Eq.trans (View.read_apply _ _) ?_
  show m _ _ = m _ _
  refine congrArg (m _) (funext fun b => Fin.ext ?_)
  match b with
  | ⟨0, _⟩ => show cc0_transform_1 k0_off1_inb numel1_S1 (tbl m) (grid0.coords t) 0 * 1 + 1 * 0 = _
              rw [hi]; show (expertOf (es m c) ⟨t.val, lt_1088 t⟩).val * 1 + 1 * 0 = (expertOf (es m c) ⟨t.val, lt_1088 t⟩).val; omega
  | ⟨1, _⟩ => show cc0_transform_1 k0_off1_inb numel1_S1 (tbl m) (grid0.coords t) 1 * 1024 + 1 * y.val = _
              rw [hi]; show 0 * 1024 + 1 * y.val = y.val; omega
  | ⟨2, _⟩ => show cc0_transform_1 k0_off1_inb numel1_S1 (tbl m) (grid0.coords t) 2 * 512 + 1 * f.val = _
              rw [hi]; show 0 * 512 + 1 * f.val = f.val; omega

theorem block2_apply (c : Dev nD) (t : Fin (cfgM m (okay m h)).N) (f : Fin 256) (d : Fin 1024) :
    downs m h c t (ix3 0 f d)
      = vs m c (ix3 (expertOf (es m c) ⟨t.val, lt_1088 t⟩) f d) := by
  have hi := map2 (tbl m) (grid0.coords t)
  rw [expert_val m h c t] at hi
  unfold downs blockAt
  refine Eq.trans (View.read_apply _ _) ?_
  show m _ _ = m _ _
  refine congrArg (m _) (funext fun b => Fin.ext ?_)
  match b with
  | ⟨0, _⟩ => show cc0_transform_2 k0_off1_inb numel1_S1 (tbl m) (grid0.coords t) 0 * 1 + 1 * 0 = _
              rw [hi]; show (expertOf (es m c) ⟨t.val, lt_1088 t⟩).val * 1 + 1 * 0 = (expertOf (es m c) ⟨t.val, lt_1088 t⟩).val; omega
  | ⟨1, _⟩ => show cc0_transform_2 k0_off1_inb numel1_S1 (tbl m) (grid0.coords t) 1 * 256 + 1 * f.val = _
              rw [hi]; show 0 * 256 + 1 * f.val = f.val; omega
  | ⟨2, _⟩ => show cc0_transform_2 k0_off1_inb numel1_S1 (tbl m) (grid0.coords t) 2 * 1024 + 1 * d.val = _
              rw [hi]; show 0 * 1024 + 1 * d.val = d.val; omega

/-- What point `t` leaves in its block: rows `256 t` to `256 t + 255` of the layer. -/
theorem outAt_apply (c : Dev nD) (t : Fin (cfgM m (okay m h)).N) (r : Fin 256) (d : Fin 1024) :
    outAt m (okay m h) c t (ix2 r d)
      = layer (es m c) (ns m c) (xs m c) (ws m c) (vs m c) ⟨t.val * 256 + r.val, by have := lt_1088 t; omega⟩ d := by
  have ht := lt_1088 t
  have hn : (ns m c (ix1 0)).toNat ≤ 1088 := nTab_eq m c ▸ h.le
  have hw : word c (tbl m 1) = ns m c (ix1 0) := by
    rw [← nTab_eq m c]
    refine congrArg (nTab (tbl m)) (funext fun a => Fin.ext ?_)
    match a with
    | ⟨0, _⟩ => rfl
  have e1 : (t.val * 256 + r.val) / 256 = t.val := by omega
  show (if k0_cond1 (grid0.coords t) (word c (tbl m 1)) = 1#1 then k0_pay1 (rows m h c t) (gates m h c t) (downs m h c t)
    else k0_pay2) (ix2 r d) = _
  unfold layer
  rw [hw]
  have hc := cond1_iff (grid0.coords t) (ns m c (ix1 0)) hn
  rw [coord_val t] at hc
  simp only [e1]
  by_cases hl : t.val < (ns m c (ix1 0)).toNat
  · rw [if_pos (hc.mpr hl), if_pos hl, pay1_apply]
    simp only [block0_apply m h c t hl, block1_apply m h c t, block2_apply m h c t]
    rfl
  · rw [if_neg (fun hh => hl (hc.mp hh)), if_neg hl, pay2_apply]

theorem map3 (t : Fin grid0.N) : cc0_transform_3 (grid0.coords t) = ![t.val, 0] := by
  have ht := lt_1088 t
  unfold cc0_transform_3
  dsimp only
  rw [coord_val t]
  have ej : (BitVec.ofNat 32 t.val).toNat = t.val := by rw [BitVec.toNat_ofNat]; exact Nat.mod_eq_of_lt (by omega)
  rw [ej]
  rfl

theorem flushed_eq (c : Dev nD) (t : Fin (cfgM m (okay m h)).N) :
    (dats m (okay m h) 0 c).flushed 3 t = (((cfgM m (okay m h)).win 3).blk t).view.read (Elt Ideal) (result m c) := by
  refine Eq.trans (b := outAt m (okay m h) c t) rfl ?_
  funext y
  obtain ⟨r, d, rfl⟩ : ∃ (r : Fin 256) (d : Fin 1024), y = ix2 r d := ⟨y 0, y 1, eq_ix2 y⟩
  refine Eq.trans (outAt_apply m h c t r d) ?_
  refine Eq.symm (Eq.trans (View.read_apply _ _) (Eq.symm ?_))
  show _ = layer (es m c) (ns m c) (xs m c) (ws m c) (vs m c)
    ((show S278528x1024.Idx from (((cfgM m (okay m h)).win 3).blk t).view.emb (ix2 r d)) 0)
    ((show S278528x1024.Idx from (((cfgM m (okay m h)).win 3).blk t).view.emb (ix2 r d)) 1)
  have hi := map3 t
  refine congrArg₂ (layer (es m c) (ns m c) (xs m c) (ws m c) (vs m c)) (Fin.ext (Eq.symm ?_)) (Fin.ext (Eq.symm ?_))
  · show cc0_transform_3 (grid0.coords t) 0 * 256 + 1 * r.val = t.val * 256 + r.val
    rw [hi]; show t.val * 256 + 1 * r.val = _; omega
  · show cc0_transform_3 (grid0.coords t) 1 * 1024 + 1 * d.val = d.val
    rw [hi]; show 0 * 1024 + 1 * d.val = _; omega

theorem mem_blk (t : Fin (cfgM m (okay m h)).N) (i : S278528x1024.Idx) :
    i ∈ (((cfgM m (okay m h)).win 3).blk t).view.set ↔ t.val * 256 ≤ (i 0 : Nat) ∧ (i 0 : Nat) < t.val * 256 + 256 := by
  show i ∈ ((View.whole main_v0).slice (((cfgM m (okay m h)).win 3).rect t)).set ↔ _
  erw [View.set_slice_whole, Rect.mem_set_unit]
  have hi := map3 t
  have e0 : cc0_transform_3 (grid0.coords t) 0 * 256 = t.val * 256 := by rw [hi]; rfl
  have e1 : cc0_transform_3 (grid0.coords t) 1 * 1024 = 0 := by rw [hi]; rfl
  have h1 : (i 1 : Nat) < 1024 := (i 1).isLt
  refine ⟨fun h => ?_, fun h a => ?_⟩
  · have : cc0_transform_3 (grid0.coords t) 0 * 256 ≤ (i 0 : Nat) ∧ (i 0 : Nat) < cc0_transform_3 (grid0.coords t) 0 * 256 + 256 := h 0
    rw [e0] at this; exact this
  · match a with
    | ⟨0, _⟩ => show cc0_transform_3 (grid0.coords t) 0 * 256 ≤ (i 0 : Nat) ∧ (i 0 : Nat) < cc0_transform_3 (grid0.coords t) 0 * 256 + 256
                rw [e0]; exact h
    | ⟨1, _⟩ => show cc0_transform_3 (grid0.coords t) 1 * 1024 ≤ (i 1 : Nat) ∧ (i 1 : Nat) < cc0_transform_3 (grid0.coords t) 1 * 1024 + 1024
                rw [e1]; omega

/-- The blocks cover the result array. -/
theorem cover (i : S278528x1024.Idx) :
    ∃ t : Fin (cfgM m (okay m h)).N, ((cfgM m (okay m h)).win 3).flush t = true ∧ i ∈ (((cfgM m (okay m h)).win 3).blk t).view.set := by
  have h0 : (i 0 : Nat) < 278528 := (i 0).isLt
  refine ⟨⟨(i 0).val / 256, by show _ < grid0.N; rw [N_0]; omega⟩, flush3 m (okay m h) _, ?_⟩
  rw [mem_blk m h]
  dsimp only
  omega

/-- The result array ends holding the layer. -/
theorem final (c : Dev nD) : (dats m (okay m h) 0 c).arrAt 3 (cfgM m (okay m h)).N = result m c :=
  (dats m (okay m h) 0 c).arrAt_eq_of_cover 3 (result m c) (fun t _ => flushed_eq m h c t) (cover m h)

end Cert.ExpertsIdeal.Blocks

end
-- ==== Proof.SlabGather.lean ====
/- Picking whole slabs `[A, B]` of an array `[N, A, B]` by a column of numbers, read at an index. -/
module

public import Idealize.ShloMosaic.PureOps
public import Idealize.ShloMosaic.Lib.ValueIdxCore
public import Idealize.ShloMosaic.Lib.Pointwise

@[expose] public section

noncomputable section

open Idealize.ShloMosaic

namespace Cert.Proof.Slab

/-- The dimension numbers of `x[idx]` for `x : [N, A, B]` and `idx : [R, 1]`. -/
abbrev dims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- Slab `j` of the result is the slab the `j`th number picks, the number kept below `N`. -/
theorem gather_apply {α : Type} {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (j : Fin R) (a : Fin A) (b : Fin B) :
    Host.gather (dims N A B R wf) x idx (ix3 j a b) = x (ix3 ⟨min (idx (ix2 j 0)).toInt.toNat (N - 1), by omega⟩ a b) := by
  unfold Host.gather
  congr 1
  funext k
  refine Fin.ext ?_
  show (dims N A B R wf).start (ix3 j a b) idx k + (dims N A B R wf).batchCoord (ix3 j a b) k
    + (dims N A B R wf).offCoord (ix3 j a b) k = _
  rw [GatherDims.batchCoord_eq_zero _ _ _ List.not_mem_nil]
  have hk : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases hk with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (dims N A B R wf).startIndexMap from List.mem_singleton.mpr rfl)]
    have hsi : (dims N A B R wf).siIdx (ix3 j a b) ⟨List.idxOf (0 : Fin 3) (dims N A B R wf).startIndexMap,
        List.idxOf_lt_length_iff.2 (List.mem_singleton.mpr rfl)⟩ = ix2 j 0 := by
      funext c; refine Fin.ext ?_
      match c with
      | ⟨0, _⟩ => rfl
      | ⟨1, _⟩ => rfl
    rw [hsi]
    rfl
  · unfold GatherDims.start
    rw [dif_neg (show (1 : Fin 3) ∉ (dims N A B R wf).startIndexMap by simp)]
    simp only [Nat.zero_add]
    rfl
  · unfold GatherDims.start
    rw [dif_neg (show (2 : Fin 3) ∉ (dims N A B R wf).startIndexMap by simp)]
    simp only [Nat.zero_add]
    rfl

end Cert.Proof.Slab

end
-- ==== Proof.ExpertsRef.lean ====
/- What the experts' reference computes, at an index of its result. -/
module

public import proofs.«01_k».proof.Proof.Gen.ExpertsReferenceIdeal.Run
public import proofs.«01_k».proof.Proof.ExpertsMath
public import proofs.«01_k».proof.Proof.ExpertsRange
public import proofs.«01_k».proof.Proof.SlabGather
public import Idealize.ShloMosaic.Lib.Tactic.WordOmega

@[expose] public section

set_option maxRecDepth 16384

noncomputable section

open Idealize.ShloMosaic Idealize.ShloMosaic.TcCoe Idealize.SL.Sem

namespace Cert.ExpertsReferenceIdeal.Ref

open Cert.ExpertsReferenceIdeal Cert.ExpertsReferenceIdeal.Gen Cert.ExpertsReferenceIdeal.Facts
open Cert.Proof.Experts Cert.Pre_table_in_range

/-- The blocks' experts, as a column; a negative number counts from the end. -/
def column (e : IVec S1088 32) : IVec S1088x1 32 :=
  broadcastInDim S1088x1 ![0] bcast_S1088_S1088x1_0
    (select (cmpi .slt e (broadcastInDim S1088 ![] bcast_S_S1088 (constantI S_ 32 0#32)))
      (addi e (broadcastInDim S1088 ![] bcast_S_S1088 (constantI S_ 32 64#32))) e)

/-- The gates' weights of every block. -/
def gateW (w : FVec Ideal S64x1024x512 .bf16) (e : IVec S1088 32) : FVec Ideal S1088x1024x256 .f32 :=
  Host.gather gather_S64x1024x256_S1088x1_S1088x1024x256_12_0_n_n_0_1_11024256
    (extf .f32 (extractStridedSlice S64x1024x256 ![0, 0, 0] w slices_S64x1024x512_S64x1024x256_0_0_0) bitsLt_bf16_f32) (column e)

/-- The factors' weights of every block. -/
def upW (w : FVec Ideal S64x1024x512 .bf16) (e : IVec S1088 32) : FVec Ideal S1088x1024x256 .f32 :=
  Host.gather gather_S64x1024x256_S1088x1_S1088x1024x256_12_0_n_n_0_1_11024256
    (extf .f32 (extractStridedSlice S64x1024x256 ![0, 0, 256] w slices_S64x1024x512_S64x1024x256_0_0_256) bitsLt_bf16_f32) (column e)

/-- The last product's weights of every block. -/
def downW (v : FVec Ideal S64x256x1024 .bf16) (e : IVec S1088 32) : FVec Ideal S1088x256x1024 .f32 :=
  Host.gather gather_S64x256x1024_S1088x1_S1088x256x1024_12_0_n_n_0_1_12561024 (extf .f32 v bitsLt_bf16_f32) (column e)

/-- The tokens by block, times a weight of every block. -/
def times (x : FVec Ideal S278528x1024 .f32) (w : FVec Ideal S1088x1024x256 .f32) : FVec Ideal S1088x256x256 .f32 :=
  Host.dotGeneral dot_S1088x256x1024_S1088x1024x256_S1088x256x256_2_1_1_2_0_0 none
    (shapeCast _ x shapeCasts_S278528x1024_S1088x256x1024) w

/-- The hidden units. -/
def hidden (g u : FVec Ideal S1088x256x256 .f32) : FVec Ideal S1088x256x256 .f32 :=
  mulf (mulf g (Host.divf (broadcastInDim S1088x256x256 ![] bcast_S_S1088x256x256 (constant S_ .f32 0x3F800000#32))
    (addf (broadcastInDim S1088x256x256 ![] bcast_S_S1088x256x256 (constant S_ .f32 0x3F800000#32)) (Host.exp (Host.negf g))))) u

/-- The last product. -/
def down (h : FVec Ideal S1088x256x256 .f32) (w : FVec Ideal S1088x256x1024 .f32) : FVec Ideal S1088x256x1024 .f32 :=
  Host.dotGeneral dot_S1088x256x256_S1088x256x1024_S1088x256x1024_2_1_1_2_0_0 none h w

/-- The blocks in use, by row. -/
def used (n : IVec S1 32) (y : FVec Ideal S1088x256x1024 .f32) : FVec Ideal S278528x1024 .f32 :=
  shapeCast _ (select (broadcastInDim S1088x256x1024 ![0, 1, 2] bcast_S1088x1x1_S1088x256x1024_0_1_2
      (broadcastInDim S1088x1x1 ![0] bcast_S1088_S1088x1x1_0
        (cmpi .slt (iotaInDim S1088 32 0) (broadcastInDim S1088 ![0] bcast_S1_S1088_0 n)))) y
    (broadcastInDim S1088x256x1024 ![] bcast_S_S1088x256x1024 (id (constant S_ .f32 0x00000000#32))))
    shapeCasts_S1088x256x1024_S278528x1024

theorem column_apply (e : IVec S1088 32) (j : Fin 1088) (h : (e (ix1 j)).toNat < 64) : column e (ix2 j 0) = e (ix1 j) := by
  have e1 : column e (ix2 j 0) = Scalar.select (IntOp.cmpi .slt (e (ix1 j)) 0#32) (IntOp.addi (e (ix1 j)) 64#32) (e (ix1 j)) := by
    pointwise [column]
  rw [e1]
  generalize e (ix1 j) = w at h ⊢
  have e2 : IntOp.cmpi .slt w 0#32 = 0#1 := by word_omega
  rw [e2]
  rfl

/-- The picked slab is the block's expert. -/
theorem pick (e : IVec S1088 32) (j : Fin 1088) (h : (e (ix1 j)).toNat < 64) :
    min (column e (ix2 j 0)).toInt.toNat (64 - 1) = (expertOf e j).val := by
  rw [column_apply e j h]
  show _ = min _ 63
  have e1 : (e (ix1 j)).toInt.toNat = (e (ix1 j)).toNat := by
    rw [BitVec.toInt_eq_toNat_of_lt (by omega)]
    rfl
  rw [e1]

theorem gateW_apply (w : FVec Ideal S64x1024x512 .bf16) (e : IVec S1088 32) (j : Fin 1088) (h : (e (ix1 j)).toNat < 64) (y : Fin 1024)
    (f : Fin 256) : gateW w e (ix3 j y f) = w (ix3 (expertOf e j) y ⟨f.val, by omega⟩) := by
  unfold gateW
  refine Eq.trans (Cert.Proof.Slab.gather_apply (N := 64) (A := 1024) (B := 256) (by norm_num) _ _ _ j y f) ?_
  pointwise
  refine congrArg (fun k : Fin 64 => w (ix3 k _ _)) (Fin.ext (pick e j h))

theorem upW_apply (w : FVec Ideal S64x1024x512 .bf16) (e : IVec S1088 32) (j : Fin 1088) (h : (e (ix1 j)).toNat < 64) (y : Fin 1024)
    (f : Fin 256) : upW w e (ix3 j y f) = w (ix3 (expertOf e j) y ⟨256 + f.val, by omega⟩) := by
  unfold upW
  refine Eq.trans (Cert.Proof.Slab.gather_apply (N := 64) (A := 1024) (B := 256) (by norm_num) _ _ _ j y f) ?_
  pointwise
  refine congrArg (fun k : Fin 64 => w (ix3 k _ _)) (Fin.ext (pick e j h))

theorem downW_apply (v : FVec Ideal S64x256x1024 .bf16) (e : IVec S1088 32) (j : Fin 1088) (h : (e (ix1 j)).toNat < 64) (f : Fin 256)
    (d : Fin 1024) : downW v e (ix3 j f d) = v (ix3 (expertOf e j) f d) := by
  unfold downW
  refine Eq.trans (Cert.Proof.Slab.gather_apply (N := 64) (A := 256) (B := 1024) (by norm_num) _ _ _ j f d) ?_
  pointwise
  refine congrArg (fun k : Fin 64 => v (ix3 k _ _)) (Fin.ext (pick e j h))

theorem times_apply (x : FVec Ideal S278528x1024 .f32) (w : FVec Ideal S1088x1024x256 .f32) (j : Fin 1088) (r f : Fin 256) :
    times x w (ix3 j r f) = ∑ y : Fin 1024, x (ix2 ⟨j.val * 256 + r.val, by omega⟩ y) * w (ix3 j y f) := by
  pointwise [times]

theorem hidden_apply (g u : FVec Ideal S1088x256x256 .f32) (j : Fin 1088) (r f : Fin 256) :
    hidden g u (ix3 j r f) = gated (g (ix3 j r f)) (u (ix3 j r f)) := by
  unfold hidden gated
  rw [← Ideal.ofBits_one_f32]
  rfl

theorem down_apply (h : FVec Ideal S1088x256x256 .f32) (w : FVec Ideal S1088x256x1024 .f32) (j : Fin 1088) (r : Fin 256) (d : Fin 1024) :
    down h w (ix3 j r d) = ∑ f : Fin 256, h (ix3 j r f) * w (ix3 j f d) := by
  pointwise [down]

theorem used_apply (n : IVec S1 32) (hn : (n (ix1 0)).toNat ≤ 1088) (y : FVec Ideal S1088x256x1024 .f32) (i : Fin 278528) (d : Fin 1024) :
    used n y (ix2 i d) = if i.val / 256 < (n (ix1 0)).toNat then y (ix3 ⟨i.val / 256, by omega⟩ ⟨i.val % 256, by omega⟩ d) else 0 := by
  have e1 : used n y (ix2 i d) = Scalar.select (IntOp.cmpi .slt (BitVec.ofNat 32 (i.val / 256)) (n (ix1 0)))
      (y (ix3 ⟨i.val / 256, by omega⟩ ⟨i.val % 256, by omega⟩ d)) (0 : EReal) := by
    pointwise [used]
    exact congrArg (Scalar.select _ _) Ideal.ofBits_zero_f32
  have hi : i.val / 256 < 1088 := by omega
  rw [e1]
  generalize n (ix1 0) = w at hn ⊢
  generalize y _ = z
  generalize i.val / 256 = b at hi ⊢
  by_cases hl : b < w.toNat
  · have e2 : IntOp.cmpi .slt (BitVec.ofNat 32 b) w = 1#1 := by word_omega
    rw [e2, if_pos hl]
    rfl
  · have e2 : IntOp.cmpi .slt (BitVec.ofNat 32 b) w = 0#1 := by word_omega
    rw [e2, if_neg hl]
    rfl

/-- The reference, whole. -/
theorem experts_eq (e : IVec S1088 32) (n : IVec S1 32) (x : FVec Ideal S278528x1024 .f32) (w : FVec Ideal S64x1024x512 .bf16)
    (v : FVec Ideal S64x256x1024 .bf16) (h : InRange e n) :
    used n (down (hidden (times x (gateW w e)) (times x (upW w e))) (downW v e))
      = fun y : S278528x1024.Idx => layer e n x w v (y 0) (y 1) := by
  funext y
  obtain ⟨i, d, rfl⟩ : ∃ (i : Fin 278528) (d : Fin 1024), y = ix2 i d := ⟨y 0, y 1, eq_ix2 y⟩
  show _ = layer e n x w v i d
  have hj := h.expert ⟨i.val / 256, by omega⟩
  have hi : (⟨i.val / 256 * 256 + i.val % 256, by omega⟩ : Fin 278528) = i := Fin.ext (by simp only; omega)
  rw [used_apply n h.le]
  unfold layer first
  simp only [down_apply, hidden_apply, times_apply, gateW_apply w e _ hj, upW_apply w e _ hj, downW_apply v e _ hj, hi]

end Cert.ExpertsReferenceIdeal.Ref

end
-- ==== Proof.ExpertsClaim.lean ====
/- The claims about the experts' kernel and its reference. -/
module

public import proofs.«01_k».proof.Defs
public import proofs.«01_k».proof.Proof.Gen.Experts
public import proofs.«01_k».proof.Proof.Gen.ExpertsIdeal
public import proofs.«01_k».proof.Proof.Gen.ExpertsReferenceIdeal
public import proofs.«01_k».proof.Proof.Gen.Pre_table_in_range
public import proofs.«01_k».proof.Proof.ExpertsTables
public import proofs.«01_k».proof.Proof.ExpertsArray
public import proofs.«01_k».proof.Proof.ExpertsRef
public import Idealize.ShloMosaic.Lib.Quiescent

@[expose] public section

noncomputable section

namespace Cert.Proof.Experts

open Idealize.ShloMosaic Idealize.SL.Sem

theorem frame_Experts : Cert.quiescent_Experts := fun m ρ hpre =>
  Cert.Experts.Blocks.frame m ρ (Cert.Experts.Blocks.ok_of_range _ (by
    rw [show Cert.Experts.Blocks.eTab (Cert.Experts.Blocks.tbl m) = _ from (Cert.Experts.Blocks.V_pre m 0 0).symm,
      show Cert.Experts.Blocks.nTab (Cert.Experts.Blocks.tbl m) = _ from (Cert.Experts.Blocks.V_pre m 0 1).symm]
    exact Cert.Pre_table_in_range.fn_range _ _ _ _ _ (ix1 0) (congrFun (hpre 0) (ix1 0))))

/-- The tables' ranges, of the precondition. -/
theorem range (m : (ℓ : Loc Cert.ExpertsIdeal.nD Cert.ExpertsIdeal.τ Cert.ExpertsIdeal.sig) → Buf (Elt Ideal) ℓ)
    (hpre : Cert.Pre_ExpertsIdeal m) (c : Dev Cert.ExpertsIdeal.nD) :
    Cert.Pre_table_in_range.InRange (Cert.ExpertsIdeal.Blocks.es m c) (Cert.ExpertsIdeal.Blocks.ns m c) :=
  Cert.Pre_table_in_range.fn_range _ _ _ _ _ (ix1 0) (congrFun (hpre c) (ix1 0))

/-- The same, of the tables the launch reads. -/
theorem range' (m : (ℓ : Loc Cert.ExpertsIdeal.nD Cert.ExpertsIdeal.τ Cert.ExpertsIdeal.sig) → Buf (Elt Ideal) ℓ)
    (hpre : Cert.Pre_ExpertsIdeal m) : Cert.ExpertsIdeal.Blocks.Range m := by
  unfold Cert.ExpertsIdeal.Blocks.Range
  rw [Cert.ExpertsIdeal.Blocks.eTab_eq m 0, Cert.ExpertsIdeal.Blocks.nTab_eq m 0]
  exact range m hpre 0

theorem frame_ExpertsIdeal : Cert.quiescent_ExpertsIdeal := fun m ρ hpre =>
  Cert.ExpertsIdeal.Blocks.frame m ρ (Cert.ExpertsIdeal.Blocks.okay m (range' m hpre))

theorem frame_ExpertsReferenceIdeal : Cert.quiescent_ExpertsReferenceIdeal := fun m ρ _ =>
  (θ_run Cert.ExpertsReferenceIdeal.defs _ _).mono
    (fun r h => ⟨fun c => (h c).2, Idealize.ShloMosaic.sem_eq_zero_of_no_sems (by decide) r.2⟩)
    (Cert.ExpertsReferenceIdeal.Value.run (F := Ideal) m ρ)

/-- The experts' kernel and its reference give the same result. -/
theorem experts : Cert.algebraic_ExpertsIdeal_ExpertsReferenceIdeal := by
  intro m ρ m' ρ' hpre hagree
  have h := range' m hpre
  refine ⟨fun c => Cert.ExpertsIdeal.Blocks.result m c, ?_, ?_⟩
  · exact (θ_run Cert.ExpertsIdeal.defs _ _).mono
      (fun _ hr c => ⟨(hr.1 c).1.trans (Cert.ExpertsIdeal.Blocks.final m h c), (hr.1 c).2⟩)
      (Cert.ExpertsIdeal.Blocks.runs m ρ (Cert.ExpertsIdeal.Blocks.okay m h))
  · refine (θ_run Cert.ExpertsReferenceIdeal.defs _ _).mono (fun _ hr c => ⟨(hr c).1.trans ?_, (hr c).2⟩)
      (Cert.ExpertsReferenceIdeal.Value.run (F := Ideal) m' ρ')
    rw [(hagree c).1, (hagree c).2.1, (hagree c).2.2.1, (hagree c).2.2.2.1, (hagree c).2.2.2.2]
    exact Cert.ExpertsReferenceIdeal.Ref.experts_eq _ _ _ _ _ (range m hpre c)

end Cert.Proof.Experts

end
-- ==== Proof.LayerNorm.lean ====
/- A row's layer normalisation, and the activation, as plain functions. -/
module

public import Idealize.ShloMosaic.PureOps.Ideal
public import Idealize.ShloMosaic.Lib.Pointwise

@[expose] public section

noncomputable section

namespace Cert.Proof.Norm

open Idealize.ShloMosaic

/-- 1024, the row's length. -/
abbrev count : EReal := Ideal.ofBits FTy.f32 0x44800000#32

/-- The number that keeps the square root away from 0. -/
abbrev eps : EReal := Ideal.ofBits FTy.f32 0x3727C5AC#32

/-- The weight of the residual. -/
abbrev alpha : EReal := Ideal.ofBits FTy.f32 0x3FD744FD#32

/-- The row's mean. -/
def mean (f : Fin 1024 → EReal) : EReal := Ideal.div (∑ x, f x) count

/-- The row's variance. -/
def var (f : Fin 1024 → EReal) : EReal := Ideal.div (∑ x, (f x - mean f) * (f x - mean f)) count

/-- The row with mean 0 and variance 1. -/
def unit (f : Fin 1024 → EReal) (d : Fin 1024) : EReal := (f d - mean f) * Ideal.rsqrt (var f + eps)

/-- The row's layer normalisation, with gain `g` and offset `b`. -/
def norm (f g b : Fin 1024 → EReal) (d : Fin 1024) : EReal := unit f d * g d + b d

/-- The activation: `h / 2 · (1 + erf (h / √2))`. -/
def gelu (h : EReal) : EReal :=
  Ideal.ofBits FTy.f32 0x3F000000#32 * h * (1 + (FloatOps.erf (F := Ideal) (φ := FTy.f32) (h * Ideal.ofBits FTy.f32 0x3F3504F3#32) : EReal))

end Cert.Proof.Norm

end
-- ==== Proof.OddMath.lean ====
/- The gated mixer of an odd layer, as plain sums: 128 neighbouring rows are mixed with one another. -/
module

public import proofs.«01_k».proof.Proof.LayerNorm

@[expose] public section

noncomputable section

namespace Cert.Proof.Odd

open Idealize.ShloMosaic Cert.Proof.Norm

variable (x : Fin 128 → Fin 1024 → EReal) (wi : Fin 1024 → Fin 2048 → EReal) (bi : Fin 2048 → EReal) (vg vb : Fin 1024 → EReal)
  (ws : Fin 8 → Fin 128 → Fin 128 → EReal) (bs : Fin 8 → Fin 128 → EReal) (wo : Fin 1024 → Fin 1024 → EReal) (g b : Fin 1024 → EReal)

/-- The hidden units of row `z`. -/
def hidden (z : Fin 1024 → EReal) (f : Fin 2048) : EReal := gelu (∑ y, z y * wi y f + bi f)

/-- Their first half. -/
def gate (z : Fin 1024 → EReal) (k : Fin 1024) : EReal := hidden wi bi z ⟨k.val, by omega⟩

/-- Their second half, normalised. -/
def value (z : Fin 1024 → EReal) (k : Fin 1024) : EReal := norm (fun k' => hidden wi bi z ⟨1024 + k'.val, by omega⟩) vg vb k

/-- Row `p`'s gate times the values of all rows, mixed by the weights of the column's group. -/
def gated (p : Fin 128) (k : Fin 1024) : EReal :=
  gate wi bi (x p) k * (∑ q, ws ⟨k.val / 128, by omega⟩ p q * value wi bi vg vb (x q) k + bs ⟨k.val / 128, by omega⟩ p)

/-- The mixer's result at row `p` of the 128. -/
def mixer (p : Fin 128) (d : Fin 1024) : EReal :=
  norm (fun e => alpha * x p e + ∑ k, gated x wi bi vg vb ws bs p k * wo k e) g b d

/-- The mixer at row `i`: rows `i / 128 * 128` to `i / 128 * 128 + 127` are mixed. -/
def layer (x : FVec Ideal ⟨2, ![32768, 1024]⟩ .f32) (wi : FVec Ideal ⟨2, ![1024, 2048]⟩ .f32) (bi : FVec Ideal ⟨1, ![2048]⟩ .f32)
    (vg vb : FVec Ideal ⟨1, ![1024]⟩ .f32) (ws : FVec Ideal ⟨3, ![8, 128, 128]⟩ .f32) (bs : FVec Ideal ⟨2, ![8, 128]⟩ .f32)
    (wo : FVec Ideal ⟨2, ![1024, 1024]⟩ .f32) (g b : FVec Ideal ⟨1, ![1024]⟩ .f32) (i : Fin 32768) (d : Fin 1024) : EReal :=
  mixer (fun q y => x (ix2 ⟨i.val / 128 * 128 + q.val, by omega⟩ y)) (fun y f => wi (ix2 y f)) (fun f => bi (ix1 f)) (fun k => vg (ix1 k))
    (fun k => vb (ix1 k)) (fun c p q => ws (ix3 c p q)) (fun c p => bs (ix2 c p)) (fun k e => wo (ix2 k e)) (fun e => g (ix1 e))
    (fun e => b (ix1 e)) ⟨i.val % 128, by omega⟩ d

end Cert.Proof.Odd

end
-- ==== Proof.OddTile.lean ====
/- What one grid point of the odd mixer's kernel computes from its blocks. -/
module

public import proofs.«01_k».proof.Proof.Gen.OddIdeal.Value
public import proofs.«01_k».proof.Proof.OddMath
public import Idealize.ShloMosaic.Lib.Pointwise
public import Idealize.ShloMosaic.Lib.Pipeline.ReadBack

@[expose] public section

set_option maxRecDepth 16384

noncomputable section

namespace Cert.OddIdeal.Tile

open Cert.OddIdeal Cert.OddIdeal.Gen Cert.Proof.Odd Cert.Proof.Norm
open Idealize.ShloMosaic Idealize.ShloMosaic.TcCoe Idealize.SL.Sem

section Payloads

variable (x0 : Vec Ideal S256x1024 .f32) (x1 : Vec Ideal S1024x2048 .bf16) (x2 : Vec Ideal S1x2048 .f32)
  (x3 x4 : Vec Ideal S1x1024 .f32) (x5 : Vec Ideal S8x128x128 .bf16) (x6 : Vec Ideal S128x8 .f32)

theorem hidden_apply (r : Fin 256) (f : Fin 2048) :
    k0_pay1 x0 x1 x2 (ix2 r f) = hidden (fun y f => x1 (ix2 y f)) (fun f => x2 (ix2 0 f)) (fun y => x0 (ix2 r y)) f := by
  pointwise [k0_pay1]
  rfl

theorem gate_apply (r : Fin 256) (k : Fin 1024) :
    k0_pay2 x0 x1 x2 (ix2 r k) = gate (fun y f => x1 (ix2 y f)) (fun f => x2 (ix2 0 f)) (fun y => x0 (ix2 r y)) k := by
  pointwise [k0_pay2]
  exact hidden_apply x0 x1 x2 r _

theorem unit_apply (r : Fin 256) (k : Fin 1024) :
    k0_pay4 x0 x1 x2 (ix2 r k)
      = unit (fun k' => hidden (fun y f => x1 (ix2 y f)) (fun f => x2 (ix2 0 f)) (fun y => x0 (ix2 r y)) ⟨1024 + k'.val, by omega⟩) k := by
  pointwise [k0_pay4]
  simp only [hidden_apply]
  rfl

theorem value_apply (r : Fin 256) (k : Fin 1024) :
    k0_pay6 (k0_pay3 x4) (k0_pay4 x0 x1 x2) (k0_pay5 x3) (ix2 r k)
      = value (fun y f => x1 (ix2 y f)) (fun f => x2 (ix2 0 f)) (fun k => x3 (ix2 0 k)) (fun k => x4 (ix2 0 k)) (fun y => x0 (ix2 r y)) k := by
  pointwise [k0_pay6, k0_pay3, k0_pay5]
  rw [unit_apply]
  rfl

theorem result_apply (s : Vec Ideal S256x1024 .bf16) (x7 : Vec Ideal S1024x1024 .bf16) (x8 x9 : Vec Ideal S1x1024 .f32)
    (r : Fin 256) (d : Fin 1024) :
    k0_pay30 x0 s x7 x8 x9 (ix2 r d)
      = norm (fun e => alpha * x0 (ix2 r e) + ∑ k, s (ix2 r k) * x7 (ix2 k e)) (fun e => x8 (ix2 0 e)) (fun e => x9 (ix2 0 e)) d := by
  pointwise [k0_pay30]
  rfl

/-- Row `r`'s gates times the mixed values: the row's 128 rows start at `r / 128 * 128`. -/
def blend (u : FVec Ideal S256x1024 .f32) (v : FVec Ideal S256x1024 .bf16) : Vec Ideal S256x1024 .bf16 := fun i =>
  have r : Fin 256 := i 0
  have k : Fin 1024 := i 1
  u (ix2 r k) * (∑ q : Fin 128, x5 (ix3 ⟨k.val / 128, by omega⟩ ⟨r.val % 128, by omega⟩ q) * v (ix2 ⟨r.val / 128 * 128 + q.val, by omega⟩ k)
    + x6 (ix2 ⟨r.val % 128, by omega⟩ ⟨k.val / 128, by omega⟩))

theorem blend_apply (u : FVec Ideal S256x1024 .f32) (v : FVec Ideal S256x1024 .bf16) (a c : ℕ) (ha : a < 2) (hc : c < 8) (p f : Fin 128) :
    blend x5 x6 u v (ix2 ⟨a * 128 + p.val, by omega⟩ ⟨c * 128 + f.val, by omega⟩)
      = u (ix2 ⟨a * 128 + p.val, by omega⟩ ⟨c * 128 + f.val, by omega⟩)
        * (∑ q : Fin 128, x5 (ix3 ⟨c, hc⟩ p q) * v (ix2 ⟨a * 128 + q.val, by omega⟩ ⟨c * 128 + f.val, by omega⟩) + x6 (ix2 p ⟨c, hc⟩)) := by
  have e1 : (c * 128 + f.val) / 128 = c := by omega
  have e2 : (a * 128 + p.val) % 128 = p.val := by omega
  have e3 : (a * 128 + p.val) / 128 = a := by omega
  show _ * (∑ q : Fin 128, x5 (ix3 ⟨(c * 128 + f.val) / 128, _⟩ ⟨(a * 128 + p.val) % 128, _⟩ q)
    * v (ix2 ⟨(a * 128 + p.val) / 128 * 128 + q.val, _⟩ _) + x6 (ix2 ⟨(a * 128 + p.val) % 128, _⟩ ⟨(c * 128 + f.val) / 128, _⟩)) = _
  simp only [e1, e2, e3]
  rfl

/-- The blend of the block's own gates and values, in terms of its rows. -/
theorem blend_eq (r : Fin 256) (k : Fin 1024) :
    blend x5 x6 (k0_pay2 x0 x1 x2) (k0_pay6 (k0_pay3 x4) (k0_pay4 x0 x1 x2) (k0_pay5 x3)) (ix2 r k)
      = gated (fun q y => x0 (ix2 ⟨r.val / 128 * 128 + q.val, by omega⟩ y)) (fun y f => x1 (ix2 y f)) (fun f => x2 (ix2 0 f))
          (fun k => x3 (ix2 0 k)) (fun k => x4 (ix2 0 k)) (fun c p q => x5 (ix3 c p q)) (fun c p => x6 (ix2 p c)) ⟨r.val % 128, by omega⟩ k := by
  unfold blend gated
  have e : r.val / 128 * 128 + r.val % 128 = r.val := by omega
  simp only [e]
  refine congrArg₂ (· * ·) (gate_apply x0 x1 x2 r k) (congrArg₂ (· + ·) (Finset.sum_congr rfl fun q _ => ?_) rfl)
  exact congrArg₂ (· * ·) rfl (value_apply x0 x1 x2 x3 x4 _ k)

end Payloads

end Cert.OddIdeal.Tile

end
-- ==== Proof.OddBlock.lean ====
/- The block that one grid point of the odd mixer's kernel writes: the sixteen tiles it stores are read back as one array. -/
module

public import proofs.«01_k».proof.Proof.OddTile

@[expose] public section

set_option maxRecDepth 16384

noncomputable section

namespace Cert.OddIdeal.Tile

open Cert.OddIdeal Cert.OddIdeal.Gen Cert.Proof.Odd Cert.Proof.Norm
open Idealize.ShloMosaic Idealize.ShloMosaic.TcCoe Idealize.SL.Sem

theorem zero2 : (![0, 0] : Fin 2 → Nat) = fun _ => 0 := by funext a; match a with | ⟨0, _⟩ => rfl | ⟨1, _⟩ => rfl

/-- Stores that are pieces of `G` leave `G` where they cover. -/
theorem canon_of_pieces {s : Shape} {e : EltTy} (G : s.Idx → Elt Ideal e) (L : List (View.Piece (Elt Ideal) s e)) (h : View.PiecesOf G L) (y : s.Idx)
    (t : LoadRect.Cov) (ht : LoadRect.covChk (L.map Sigma.fst) (LoadRect.whole s) t = true) : View.canon L y = G y := by
  have hc := LoadRect.cover_of_covChk L (LoadRect.whole s) t ht y
  rw [LoadRect.idx_whole] at hc
  have := View.canon_append_of_piecesOf G [] L h y hc
  rwa [List.append_nil] at this

/-- A tile stored at row `a` and column `c` of the grid of tiles is that tile of the blend. -/
theorem piece (x5 : Vec Ideal S8x128x128 .bf16) (x6 : Vec Ideal S128x8 .f32) (u : FVec Ideal S256x1024 .f32) (v : FVec Ideal S256x1024 .bf16)
    (a c : ℕ) (ha : a < 2) (hc : c < 8)
    (inb : ∀ i : Fin 2, (![a * 128, c * 128] : Fin 2 → ℕ) i + (![128, 128] : Fin 2 → ℕ) i ≤ S256x1024.size i)
    (inb5 : ∀ i : Fin 3, (![c, 0, 0] : Fin 3 → ℕ) i + (![1, 128, 128] : Fin 3 → ℕ) i ≤ S8x128x128.size i)
    (inb6 : ∀ i : Fin 2, (![0, c] : Fin 2 → ℕ) i + (![128, 1] : Fin 2 → ℕ) i ≤ S128x8.size i)
    (w : S128x128.Idx → EReal)
    (h : ∀ p f : Fin 128, w (ix2 p f) = u (ix2 ⟨a * 128 + p.val, by omega⟩ ⟨c * 128 + f.val, by omega⟩)
      * (∑ q : Fin 128, (View.ld (Val := Elt Ideal) x5 (Rect.unit (s := S8x128x128) ![c, 0, 0] ![1, 128, 128] inb5) (ix3 0 p q) : EReal)
          * v (ix2 ⟨a * 128 + q.val, by omega⟩ ⟨c * 128 + f.val, by omega⟩)
        + (View.ld (Val := Elt Ideal) x6 (Rect.unit (s := S128x8) ![0, c] ![128, 1] inb6) (ix2 p 0) : EReal))) (x : S128x128.Idx) :
    w x = blend x5 x6 u v ((Rect.unit (s := S256x1024) ![a * 128, c * 128] ![128, 128] inb).emb x) := by
  obtain ⟨p, f, rfl⟩ : ∃ p f : Fin 128, x = ix2 p f := ⟨x 0, x 1, eq_ix2 x⟩
  have e : (Rect.unit (s := S256x1024) ![a * 128, c * 128] ![128, 128] inb).emb (ix2 p f)
      = ix2 (⟨a * 128 + p.val, by omega⟩ : Fin 256) (⟨c * 128 + f.val, by omega⟩ : Fin 1024) := by
    funext i
    refine Fin.ext ?_
    match i with
    | ⟨0, _⟩ => show a * 128 + 1 * p.val = a * 128 + p.val; omega
    | ⟨1, _⟩ => show c * 128 + 1 * f.val = c * 128 + f.val; omega
  rw [e, blend_apply x5 x6 u v a c ha hc p f, h p f]
  refine congrArg₂ (· * ·) rfl (congrArg₂ (· + ·) (Finset.sum_congr rfl fun q _ => congrArg₂ (· * ·) ?_ rfl) ?_)
  · refine congrArg x5 (funext fun i => Fin.ext ?_)
    match i with
    | ⟨0, _⟩ => show c + 1 * 0 = c; omega
    | ⟨1, _⟩ => show 0 + 1 * p.val = p.val; omega
    | ⟨2, _⟩ => show 0 + 1 * q.val = q.val; omega
  · refine congrArg x6 (funext fun i => Fin.ext ?_)
    match i with
    | ⟨0, _⟩ => show 0 + 1 * p.val = p.val; omega
    | ⟨1, _⟩ => show c + 1 * 0 = c; omega

/-- The block a point writes, of the blocks it reads. -/
theorem out_eq (c : Dev nD) (i : grid0.Coords) (arg1 : Memref sig .tc .vmem S256x1024 .f32) (harg1 : arg1.IsWhole) (arg2 : Memref sig .tc .vmem S1024x2048 .bf16) (harg2 : arg2.IsWhole) (arg3 : Memref sig .tc .vmem S1x2048 .f32) (harg3 : arg3.IsWhole)
    (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole)
    (arg7 : Memref sig .tc .vmem S128x8 .f32) (harg7 : arg7.IsWhole) (arg8 : Memref sig .tc .vmem S1024x1024 .bf16) (harg8 : arg8.IsWhole) (arg9 : Memref sig .tc .vmem S1x1024 .f32) (harg9 : arg9.IsWhole)
    (arg10 : Memref sig .tc .vmem S1x1024 .f32) (harg10 : arg10.IsWhole) (arg11 : Memref sig .tc .vmem S256x1024 .f32) (harg11 : arg11.IsWhole) (arg12 : Memref sig .tc .vmem S256x1024 .bf16) (harg12 : arg12.IsWhole)

    (x0 : Vec Ideal S256x1024 .f32) (x1 : Vec Ideal S1024x2048 .bf16) (x2 : Vec Ideal S1x2048 .f32) (x3 x4 : Vec Ideal S1x1024 .f32)
    (x5 : Vec Ideal S8x128x128 .bf16) (x6 : Vec Ideal S128x8 .f32) (x7 : Vec Ideal S1024x1024 .bf16) (x8 x9 : Vec Ideal S1x1024 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = k0_pay30 x0 (blend x5 x6 (k0_pay2 x0 x1 x2) (k0_pay6 (k0_pay3 x4) (k0_pay4 x0 x1 x2) (k0_pay5 x3))) x7 x8 x9 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A
  dsimp only
  sl_unfold_words
  rw [View.canon_unit_zero zero2]
  simp only [View.readAt_eq_ld, View.readCov_eq_canon', harg1.read_unread, harg2.read_unread, harg3.read_unread, harg4.read_unread, harg5.read_unread,
    harg6.read_unread, harg7.read_unread, harg8.read_unread, harg9.read_unread, harg10.read_unread,
    View.ld_unit_zero (S := S256x1024) zero2, View.ld_unit_zero (S := S1024x2048) zero2, View.ld_unit_zero (S := S1x2048) zero2,
    View.ld_unit_zero (S := S1x1024) zero2, View.ld_unit_zero (S := S1024x1024) zero2]
  refine congrArg (fun s => k0_pay30 x0 s x7 x8 x9) (funext fun j => ?_)
  generalize k0_pay2 x0 x1 x2 = u
  generalize k0_pay3 x4 = y3
  generalize k0_pay4 x0 x1 x2 = y4
  generalize k0_pay5 x3 = y5
  rw [show (Rect.unit (s := S256x1024) ![0, 0] ![256, 1024] inb_S256x1024_S256x1024_0_0).toLoadRect.idx j = j from by
    funext i
    refine Fin.ext ?_
    match i with
    | ⟨0, _⟩ => show 0 + 1 * (j 0).val = (j 0).val; omega
    | ⟨1, _⟩ => show 0 + 1 * (j 1).val = (j 1).val; omega]
  refine canon_of_pieces (blend x5 x6 u (k0_pay6 y3 y4 y5)) _ ?_ j
    (.split 0 128 (.split 1 512 (.split 1 256 (.split 1 128 (.leaf 15) (.leaf 14)) (.split 1 128 (.leaf 13) (.leaf 12))) (.split 1 256 (.split 1 128 (.leaf 11) (.leaf 10)) (.split 1 128 (.leaf 9) (.leaf 8)))) (.split 1 512 (.split 1 256 (.split 1 128 (.leaf 7) (.leaf 6)) (.split 1 128 (.leaf 5) (.leaf 4))) (.split 1 256 (.split 1 128 (.leaf 3) (.leaf 2)) (.split 1 128 (.leaf 1) (.leaf 0))))) ?_
  · exact ⟨
    piece x5 x6 u (k0_pay6 y3 y4 y5) 1 7 (by omega) (by omega) inb_S256x1024_S128x128_128_896 inb_S8x128x128_S1x128x128_7_0_0
      inb_S128x8_S128x1_0_7 _ (fun p f => by
      pointwise [k0_pay29, k0_pay28]),
    piece x5 x6 u (k0_pay6 y3 y4 y5) 1 6 (by omega) (by omega) inb_S256x1024_S128x128_128_768 inb_S8x128x128_S1x128x128_6_0_0
      inb_S128x8_S128x1_0_6 _ (fun p f => by
      pointwise [k0_pay27]),
    piece x5 x6 u (k0_pay6 y3 y4 y5) 1 5 (by omega) (by omega) inb_S256x1024_S128x128_128_640 inb_S8x128x128_S1x128x128_5_0_0
      inb_S128x8_S128x1_0_5 _ (fun p f => by
      pointwise [k0_pay26]),
    piece x5 x6 u (k0_pay6 y3 y4 y5) 1 4 (by omega) (by omega) inb_S256x1024_S128x128_128_512 inb_S8x128x128_S1x128x128_4_0_0
      inb_S128x8_S128x1_0_4 _ (fun p f => by
      pointwise [k0_pay25, k0_pay24]),
    piece x5 x6 u (k0_pay6 y3 y4 y5) 1 3 (by omega) (by omega) inb_S256x1024_S128x128_128_384 inb_S8x128x128_S1x128x128_3_0_0
      inb_S128x8_S128x1_0_3 _ (fun p f => by
      pointwise [k0_pay23]),
    piece x5 x6 u (k0_pay6 y3 y4 y5) 1 2 (by omega) (by omega) inb_S256x1024_S128x128_128_256 inb_S8x128x128_S1x128x128_2_0_0
      inb_S128x8_S128x1_0_2 _ (fun p f => by
      pointwise [k0_pay22, k0_pay20, k0_pay21]),
    piece x5 x6 u (k0_pay6 y3 y4 y5) 1 1 (by omega) (by omega) inb_S256x1024_S128x128_128_128 inb_S8x128x128_S1x128x128_1_0_0
      inb_S128x8_S128x1_0_1 _ (fun p f => by
      pointwise [k0_pay19]),
    piece x5 x6 u (k0_pay6 y3 y4 y5) 1 0 (by omega) (by omega) inb_S256x1024_S128x128_128_0 inb_S8x128x128_S1x128x128_0_0_0
      inb_S128x8_S128x1_0_0 _ (fun p f => by
      pointwise [k0_pay18]),
    piece x5 x6 u (k0_pay6 y3 y4 y5) 0 7 (by omega) (by omega) inb_S256x1024_S128x128_0_896 inb_S8x128x128_S1x128x128_7_0_0
      inb_S128x8_S128x1_0_7 _ (fun p f => by
      pointwise [k0_pay17, k0_pay15, k0_pay16]),
    piece x5 x6 u (k0_pay6 y3 y4 y5) 0 6 (by omega) (by omega) inb_S256x1024_S128x128_0_768 inb_S8x128x128_S1x128x128_6_0_0
      inb_S128x8_S128x1_0_6 _ (fun p f => by
      pointwise [k0_pay14]),
    piece x5 x6 u (k0_pay6 y3 y4 y5) 0 5 (by omega) (by omega) inb_S256x1024_S128x128_0_640 inb_S8x128x128_S1x128x128_5_0_0
      inb_S128x8_S128x1_0_5 _ (fun p f => by
      pointwise [k0_pay13]),
    piece x5 x6 u (k0_pay6 y3 y4 y5) 0 4 (by omega) (by omega) inb_S256x1024_S128x128_0_512 inb_S8x128x128_S1x128x128_4_0_0
      inb_S128x8_S128x1_0_4 _ (fun p f => by
      pointwise [k0_pay12]),
    piece x5 x6 u (k0_pay6 y3 y4 y5) 0 3 (by omega) (by omega) inb_S256x1024_S128x128_0_384 inb_S8x128x128_S1x128x128_3_0_0
      inb_S128x8_S128x1_0_3 _ (fun p f => by
      pointwise [k0_pay11]),
    piece x5 x6 u (k0_pay6 y3 y4 y5) 0 2 (by omega) (by omega) inb_S256x1024_S128x128_0_256 inb_S8x128x128_S1x128x128_2_0_0
      inb_S128x8_S128x1_0_2 _ (fun p f => by
      pointwise [k0_pay10, k0_pay9, k0_pay6]),
    piece x5 x6 u (k0_pay6 y3 y4 y5) 0 1 (by omega) (by omega) inb_S256x1024_S128x128_0_128 inb_S8x128x128_S1x128x128_1_0_0
      inb_S128x8_S128x1_0_1 _ (fun p f => by
      pointwise [k0_pay8, k0_pay6]),
    piece x5 x6 u (k0_pay6 y3 y4 y5) 0 0 (by omega) (by omega) inb_S256x1024_S128x128_0_0 inb_S8x128x128_S1x128x128_0_0_0
      inb_S128x8_S128x1_0_0 _ (fun p f => by
      pointwise [k0_pay7, k0_pay6]),
    trivial⟩
  · simp only [List.map_cons, List.map_nil]
    decide +kernel

end Cert.OddIdeal.Tile

end
-- ==== Proof.OddArray.lean ====
/- What the odd mixer's result array holds at the end: the mixer, at every index. -/
module

public import proofs.«01_k».proof.Proof.OddBlock
public import Idealize.ShloMosaic.Lib.Pipeline.Value

@[expose] public section

set_option maxRecDepth 16384

noncomputable section

namespace Cert.OddIdeal.Array

open Cert.OddIdeal Cert.OddIdeal.Gen Cert.Proof.Odd
open Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev xs (c : Dev nD) : FVec Ideal S32768x1024 .f32 := m ((c : Thread nD τ).loc main_arg0)
abbrev wi (c : Dev nD) : FVec Ideal S1024x2048 .f32 := m ((c : Thread nD τ).loc main_arg1)
abbrev bi (c : Dev nD) : FVec Ideal S2048 .f32 := m ((c : Thread nD τ).loc main_arg2)
abbrev vg (c : Dev nD) : FVec Ideal S1024 .f32 := m ((c : Thread nD τ).loc main_arg3)
abbrev vb (c : Dev nD) : FVec Ideal S1024 .f32 := m ((c : Thread nD τ).loc main_arg4)
abbrev ws (c : Dev nD) : FVec Ideal S8x128x128 .f32 := m ((c : Thread nD τ).loc main_arg5)
abbrev bs (c : Dev nD) : FVec Ideal S8x128 .f32 := m ((c : Thread nD τ).loc main_arg6)
abbrev wo (c : Dev nD) : FVec Ideal S1024x1024 .f32 := m ((c : Thread nD τ).loc main_arg7)
abbrev g (c : Dev nD) : FVec Ideal S1024 .f32 := m ((c : Thread nD τ).loc main_arg8)
abbrev b (c : Dev nD) : FVec Ideal S1024 .f32 := m ((c : Thread nD τ).loc main_arg9)

/-- The result array's contents. -/
abbrev result (c : Dev nD) : Buf (Elt Ideal) ((c : Thread nD τ).loc main_v9) :=
  fun y : S32768x1024.Idx => layer (xs m c) (wi m c) (bi m c) (vg m c) (vb m c) (ws m c) (bs m c) (wo m c) (g m c) (b m c) (y 0) (y 1)

/-! ## The weights the host prepares -/

theorem V_main_v0 (c : Dev nD) : V m c main_v0 = truncf .bf16 (wi m c) bitsLt_bf16_f32 := by
  unfold V
  after_results_simp

theorem V_main_v1 (c : Dev nD) : V m c main_v1 = truncf .bf16 (ws m c) bitsLt_bf16_f32 := by
  unfold V
  after_results_simp

theorem V_main_v2 (c : Dev nD) : V m c main_v2 = transpose S128x8 [1, 0] (bs m c) transposes_S8x128_S128x8_1_0 := by
  unfold V
  after_results_simp

theorem V_main_v3 (c : Dev nD) : V m c main_v3 = truncf .bf16 (wo m c) bitsLt_bf16_f32 := by
  unfold V
  after_results_simp

theorem V_main_v4 (c : Dev nD) : V m c main_v4 = shapeCast S1x2048 (bi m c) shapeCasts_S2048_S1x2048 := by
  unfold V
  after_results_simp
  rfl

theorem V_main_v5 (c : Dev nD) : V m c main_v5 = shapeCast S1x1024 (vg m c) shapeCasts_S1024_S1x1024 := by
  unfold V
  after_results_simp
  rfl

theorem V_main_v6 (c : Dev nD) : V m c main_v6 = shapeCast S1x1024 (vb m c) shapeCasts_S1024_S1x1024 := by
  unfold V
  after_results_simp
  rfl

theorem V_main_v7 (c : Dev nD) : V m c main_v7 = shapeCast S1x1024 (g m c) shapeCasts_S1024_S1x1024 := by
  unfold V
  after_results_simp
  rfl

theorem V_main_v8 (c : Dev nD) : V m c main_v8 = shapeCast S1x1024 (b m c) shapeCasts_S1024_S1x1024 := by
  unfold V
  after_results_simp
  rfl

/-! ## The blocks: point `t` of the grid takes rows `256 t` to `256 t + 255`, and all of each weight -/

theorem index0 : ∀ t : Fin grid0.N, win0_0.index t 0 = t.val ∧ win0_0.index t 1 = 0 := by decide +kernel
theorem index10 : ∀ t : Fin grid0.N, win0_10.index t 0 = t.val ∧ win0_10.index t 1 = 0 := by decide +kernel
theorem index1 : ∀ (t : Fin grid0.N) (a : Fin 2), win0_1.index t a = 0 := by decide +kernel
theorem index2 : ∀ (t : Fin grid0.N) (a : Fin 2), win0_2.index t a = 0 := by decide +kernel
theorem index3 : ∀ (t : Fin grid0.N) (a : Fin 2), win0_3.index t a = 0 := by decide +kernel
theorem index4 : ∀ (t : Fin grid0.N) (a : Fin 2), win0_4.index t a = 0 := by decide +kernel
theorem index5 : ∀ (t : Fin grid0.N) (a : Fin 3), win0_5.index t a = 0 := by decide +kernel
theorem index6 : ∀ (t : Fin grid0.N) (a : Fin 2), win0_6.index t a = 0 := by decide +kernel
theorem index7 : ∀ (t : Fin grid0.N) (a : Fin 2), win0_7.index t a = 0 := by decide +kernel
theorem index8 : ∀ (t : Fin grid0.N) (a : Fin 2), win0_8.index t a = 0 := by decide +kernel
theorem index9 : ∀ (t : Fin grid0.N) (a : Fin 2), win0_9.index t a = 0 := by decide +kernel

theorem lt_128 (t : Fin cfg0.N) : t.val < 128 := t.isLt.trans_eq N_0

theorem block0_apply (c : Dev nD) (t : Fin cfg0.N) (r : Fin 256) (y : Fin 1024) :
    (iblk m c 0 t : Vec Ideal S256x1024 .f32) (ix2 r y) = xs m c (ix2 ⟨t.val * 256 + r.val, by have := lt_128 t; omega⟩ y) := by
  have hi := index0 t
  rw [← show V m c main_arg0 = xs m c from V_main_arg0 m c]
  unfold iblk
  rw [View.read_apply]
  show V m c main_arg0 _ = V m c main_arg0 _
  refine congrArg (V m c main_arg0) (funext fun b => Fin.ext ?_)
  match b with
  | ⟨0, _⟩ => show win0_0.index t 0 * 256 + 1 * r.val = _; rw [hi.1]; show _ = t.val * 256 + r.val; omega
  | ⟨1, _⟩ => show win0_0.index t 1 * 1024 + 1 * y.val = _; rw [hi.2]; show _ = y.val; omega

theorem block1_apply (c : Dev nD) (t : Fin cfg0.N) (a0 : Fin 1024) (a1 : Fin 2048) :
    (iblk m c 1 t : Vec Ideal S1024x2048 .bf16) (ix2 a0 a1) = wi m c (ix2 a0 a1) := by
  have e : (iblk m c 1 t : Vec Ideal S1024x2048 .bf16) (ix2 a0 a1) = (V m c main_v0 : Vec Ideal S1024x2048 .bf16) (ix2 a0 a1) := by
    unfold iblk
    rw [View.read_apply]
    show V m c main_v0 _ = V m c main_v0 _
    refine congrArg (V m c main_v0) (funext fun b => Fin.ext ?_)
    match b with
    | ⟨0, _⟩ => show win0_1.index t 0 * 1024 + 1 * a0.val = _; rw [index1 t 0]; show 0 * 1024 + 1 * a0.val = a0.val; omega
    | ⟨1, _⟩ => show win0_1.index t 1 * 2048 + 1 * a1.val = _; rw [index1 t 1]; show 0 * 2048 + 1 * a1.val = a1.val; omega
  rw [e, V_main_v0]
  pointwise

theorem block2_apply (c : Dev nD) (t : Fin cfg0.N) (a1 : Fin 2048) :
    (iblk m c 2 t : Vec Ideal S1x2048 .f32) (ix2 0 a1) = bi m c (ix1 a1) := by
  have e : (iblk m c 2 t : Vec Ideal S1x2048 .f32) (ix2 0 a1) = (V m c main_v4 : Vec Ideal S1x2048 .f32) (ix2 0 a1) := by
    unfold iblk
    rw [View.read_apply]
    show V m c main_v4 _ = V m c main_v4 _
    refine congrArg (V m c main_v4) (funext fun b => Fin.ext ?_)
    match b with
    | ⟨0, _⟩ => show win0_2.index t 0 * 1 + 1 * 0 = _; rw [index2 t 0]; show 0 * 1 + 1 * 0 = 0; omega
    | ⟨1, _⟩ => show win0_2.index t 1 * 2048 + 1 * a1.val = _; rw [index2 t 1]; show 0 * 2048 + 1 * a1.val = a1.val; omega
  rw [e, V_main_v4]
  pointwise

theorem block3_apply (c : Dev nD) (t : Fin cfg0.N) (a1 : Fin 1024) :
    (iblk m c 3 t : Vec Ideal S1x1024 .f32) (ix2 0 a1) = vg m c (ix1 a1) := by
  have e : (iblk m c 3 t : Vec Ideal S1x1024 .f32) (ix2 0 a1) = (V m c main_v5 : Vec Ideal S1x1024 .f32) (ix2 0 a1) := by
    unfold iblk
    rw [View.read_apply]
    show V m c main_v5 _ = V m c main_v5 _
    refine congrArg (V m c main_v5) (funext fun b => Fin.ext ?_)
    match b with
    | ⟨0, _⟩ => show win0_3.index t 0 * 1 + 1 * 0 = _; rw [index3 t 0]; show 0 * 1 + 1 * 0 = 0; omega
    | ⟨1, _⟩ => show win0_3.index t 1 * 1024 + 1 * a1.val = _; rw [index3 t 1]; show 0 * 1024 + 1 * a1.val = a1.val; omega
  rw [e, V_main_v5]
  pointwise

theorem block4_apply (c : Dev nD) (t : Fin cfg0.N) (a1 : Fin 1024) :
    (iblk m c 4 t : Vec Ideal S1x1024 .f32) (ix2 0 a1) = vb m c (ix1 a1) := by
  have e : (iblk m c 4 t : Vec Ideal S1x1024 .f32) (ix2 0 a1) = (V m c main_v6 : Vec Ideal S1x1024 .f32) (ix2 0 a1) := by
    unfold iblk
    rw [View.read_apply]
    show V m c main_v6 _ = V m c main_v6 _
    refine congrArg (V m c main_v6) (funext fun b => Fin.ext ?_)
    match b with
    | ⟨0, _⟩ => show win0_4.index t 0 * 1 + 1 * 0 = _; rw [index4 t 0]; show 0 * 1 + 1 * 0 = 0; omega
    | ⟨1, _⟩ => show win0_4.index t 1 * 1024 + 1 * a1.val = _; rw [index4 t 1]; show 0 * 1024 + 1 * a1.val = a1.val; omega
  rw [e, V_main_v6]
  pointwise

theorem block5_apply (c : Dev nD) (t : Fin cfg0.N) (a0 : Fin 8) (a1 : Fin 128) (a2 : Fin 128) :
    (iblk m c 5 t : Vec Ideal S8x128x128 .bf16) (ix3 a0 a1 a2) = ws m c (ix3 a0 a1 a2) := by
  have e : (iblk m c 5 t : Vec Ideal S8x128x128 .bf16) (ix3 a0 a1 a2) = (V m c main_v1 : Vec Ideal S8x128x128 .bf16) (ix3 a0 a1 a2) := by
    unfold iblk
    rw [View.read_apply]
    show V m c main_v1 _ = V m c main_v1 _
    refine congrArg (V m c main_v1) (funext fun b => Fin.ext ?_)
    match b with
    | ⟨0, _⟩ => show win0_5.index t 0 * 8 + 1 * a0.val = _; rw [index5 t 0]; show 0 * 8 + 1 * a0.val = a0.val; omega
    | ⟨1, _⟩ => show win0_5.index t 1 * 128 + 1 * a1.val = _; rw [index5 t 1]; show 0 * 128 + 1 * a1.val = a1.val; omega
    | ⟨2, _⟩ => show win0_5.index t 2 * 128 + 1 * a2.val = _; rw [index5 t 2]; show 0 * 128 + 1 * a2.val = a2.val; omega
  rw [e, V_main_v1]
  pointwise

theorem block6_apply (c : Dev nD) (t : Fin cfg0.N) (a0 : Fin 128) (a1 : Fin 8) :
    (iblk m c 6 t : Vec Ideal S128x8 .f32) (ix2 a0 a1) = bs m c (ix2 a1 a0) := by
  have e : (iblk m c 6 t : Vec Ideal S128x8 .f32) (ix2 a0 a1) = (V m c main_v2 : Vec Ideal S128x8 .f32) (ix2 a0 a1) := by
    unfold iblk
    rw [View.read_apply]
    show V m c main_v2 _ = V m c main_v2 _
    refine congrArg (V m c main_v2) (funext fun b => Fin.ext ?_)
    match b with
    | ⟨0, _⟩ => show win0_6.index t 0 * 128 + 1 * a0.val = _; rw [index6 t 0]; show 0 * 128 + 1 * a0.val = a0.val; omega
    | ⟨1, _⟩ => show win0_6.index t 1 * 8 + 1 * a1.val = _; rw [index6 t 1]; show 0 * 8 + 1 * a1.val = a1.val; omega
  rw [e, V_main_v2]
  pointwise

theorem block7_apply (c : Dev nD) (t : Fin cfg0.N) (a0 : Fin 1024) (a1 : Fin 1024) :
    (iblk m c 7 t : Vec Ideal S1024x1024 .bf16) (ix2 a0 a1) = wo m c (ix2 a0 a1) := by
  have e : (iblk m c 7 t : Vec Ideal S1024x1024 .bf16) (ix2 a0 a1) = (V m c main_v3 : Vec Ideal S1024x1024 .bf16) (ix2 a0 a1) := by
    unfold iblk
    rw [View.read_apply]
    show V m c main_v3 _ = V m c main_v3 _
    refine congrArg (V m c main_v3) (funext fun b => Fin.ext ?_)
    match b with
    | ⟨0, _⟩ => show win0_7.index t 0 * 1024 + 1 * a0.val = _; rw [index7 t 0]; show 0 * 1024 + 1 * a0.val = a0.val; omega
    | ⟨1, _⟩ => show win0_7.index t 1 * 1024 + 1 * a1.val = _; rw [index7 t 1]; show 0 * 1024 + 1 * a1.val = a1.val; omega
  rw [e, V_main_v3]
  pointwise

theorem block8_apply (c : Dev nD) (t : Fin cfg0.N) (a1 : Fin 1024) :
    (iblk m c 8 t : Vec Ideal S1x1024 .f32) (ix2 0 a1) = g m c (ix1 a1) := by
  have e : (iblk m c 8 t : Vec Ideal S1x1024 .f32) (ix2 0 a1) = (V m c main_v7 : Vec Ideal S1x1024 .f32) (ix2 0 a1) := by
    unfold iblk
    rw [View.read_apply]
    show V m c main_v7 _ = V m c main_v7 _
    refine congrArg (V m c main_v7) (funext fun b => Fin.ext ?_)
    match b with
    | ⟨0, _⟩ => show win0_8.index t 0 * 1 + 1 * 0 = _; rw [index8 t 0]; show 0 * 1 + 1 * 0 = 0; omega
    | ⟨1, _⟩ => show win0_8.index t 1 * 1024 + 1 * a1.val = _; rw [index8 t 1]; show 0 * 1024 + 1 * a1.val = a1.val; omega
  rw [e, V_main_v7]
  pointwise

theorem block9_apply (c : Dev nD) (t : Fin cfg0.N) (a1 : Fin 1024) :
    (iblk m c 9 t : Vec Ideal S1x1024 .f32) (ix2 0 a1) = b m c (ix1 a1) := by
  have e : (iblk m c 9 t : Vec Ideal S1x1024 .f32) (ix2 0 a1) = (V m c main_v8 : Vec Ideal S1x1024 .f32) (ix2 0 a1) := by
    unfold iblk
    rw [View.read_apply]
    show V m c main_v8 _ = V m c main_v8 _
    refine congrArg (V m c main_v8) (funext fun b => Fin.ext ?_)
    match b with
    | ⟨0, _⟩ => show win0_9.index t 0 * 1 + 1 * 0 = _; rw [index9 t 0]; show 0 * 1 + 1 * 0 = 0; omega
    | ⟨1, _⟩ => show win0_9.index t 1 * 1024 + 1 * a1.val = _; rw [index9 t 1]; show 0 * 1024 + 1 * a1.val = a1.val; omega
  rw [e, V_main_v8]
  pointwise

/-- What point `t` leaves in its block: rows `256 t` to `256 t + 255` of the mixer. -/
theorem block_eq (c : Dev nD) (t : Fin cfg0.N) (r : Fin 256) (d : Fin 1024) :
    k0_pay30 (iblk m c 0 t) (Tile.blend (iblk m c 5 t) (iblk m c 6 t) (k0_pay2 (iblk m c 0 t) (iblk m c 1 t) (iblk m c 2 t))
        (k0_pay6 (k0_pay3 (iblk m c 4 t)) (k0_pay4 (iblk m c 0 t) (iblk m c 1 t) (iblk m c 2 t)) (k0_pay5 (iblk m c 3 t))))
        (iblk m c 7 t) (iblk m c 8 t) (iblk m c 9 t) (ix2 r d)
      = layer (xs m c) (wi m c) (bi m c) (vg m c) (vb m c) (ws m c) (bs m c) (wo m c) (g m c) (b m c)
          ⟨t.val * 256 + r.val, by have := lt_128 t; omega⟩ d := by
  have ht := lt_128 t
  rw [Tile.result_apply]
  simp only [Tile.blend_eq]
  unfold layer mixer
  have e1 : (t.val * 256 + r.val) % 128 = r.val % 128 := by omega
  have e2 : ∀ q, t.val * 256 + (r.val / 128 * 128 + q) = (t.val * 256 + r.val) / 128 * 128 + q := fun q => by omega
  have e3 : (t.val * 256 + r.val) / 128 * 128 + r.val % 128 = t.val * 256 + r.val := by omega
  simp only [block0_apply m c t, block1_apply m c t, block2_apply m c t, block3_apply m c t, block4_apply m c t, block5_apply m c t,
    block6_apply m c t, block7_apply m c t, block8_apply m c t, block9_apply m c t, e1, e2, e3]

/-- What point `t` writes back is its block of the mixer. -/
theorem flushed_eq (c : Dev nD) (t : Fin cfg0.N) :
    (dats m 0 c).flushed 10 t = ((cfg0.win 10).blk t).view.read (Elt Ideal) (result m c) := by
  have ht := lt_128 t
  rw [Value.flushed10_A]
  funext y
  obtain ⟨r, d, rfl⟩ : ∃ (r : Fin 256) (d : Fin 1024), y = ix2 r d := ⟨y 0, y 1, eq_ix2 y⟩
  rw [Tile.out_eq]
  refine Eq.trans (b := k0_pay30 (iblk m c 0 t) (Tile.blend (iblk m c 5 t) (iblk m c 6 t)
    (k0_pay2 (iblk m c 0 t) (iblk m c 1 t) (iblk m c 2 t))
    (k0_pay6 (k0_pay3 (iblk m c 4 t)) (k0_pay4 (iblk m c 0 t) (iblk m c 1 t) (iblk m c 2 t)) (k0_pay5 (iblk m c 3 t))))
    (iblk m c 7 t) (iblk m c 8 t) (iblk m c 9 t) (ix2 r d)) rfl ?_
  rw [block_eq, View.read_apply, cast_eq]
  have hi := index10 t
  show _ = layer (xs m c) (wi m c) (bi m c) (vg m c) (vb m c) (ws m c) (bs m c) (wo m c) (g m c) (b m c)
    ((((cfg0.win 10).blk t).view.emb (ix2 r d) : S32768x1024.Idx) 0) ((((cfg0.win 10).blk t).view.emb (ix2 r d) : S32768x1024.Idx) 1)
  refine congrArg₂ (layer (xs m c) (wi m c) (bi m c) (vg m c) (vb m c) (ws m c) (bs m c) (wo m c) (g m c) (b m c))
    (Fin.ext (Eq.symm ?_)) (Fin.ext (Eq.symm ?_))
  · show win0_10.index t 0 * 256 + 1 * r.val = t.val * 256 + r.val
    rw [hi.1]; omega
  · show win0_10.index t 1 * 1024 + 1 * d.val = d.val
    rw [hi.2]; omega

/-- An index of the result array is in point `t`'s block. -/
theorem mem_blk (t : Fin cfg0.N) (i : S32768x1024.Idx) :
    i ∈ ((cfg0.win 10).blk t).view.set ↔ t.val * 256 ≤ (i 0 : Nat) ∧ (i 0 : Nat) < t.val * 256 + 256 := by
  show i ∈ ((View.whole main_v9).slice (win0_10.rect t)).set ↔ _
  rw [View.set_slice_whole, Rect.mem_set_unit]
  have hi := index10 t
  have h1 : (i 1 : Nat) < 1024 := (i 1).isLt
  have ex : win0_10.xsize (grid0.coords t) 0 = 256 ∧ win0_10.xsize (grid0.coords t) 1 = 1024 := ⟨rfl, rfl⟩
  have e0 : win0_10.index t 0 * win0_10.size 0 = t.val * 256 := by rw [hi.1]; rfl
  have e1 : win0_10.index t 1 * win0_10.size 1 = 0 := by rw [hi.2]; rfl
  refine ⟨fun h => ?_, fun h a => ?_⟩
  · have : win0_10.index t 0 * win0_10.size 0 ≤ (i 0 : Nat) ∧ (i 0 : Nat) < win0_10.index t 0 * win0_10.size 0 + win0_10.xsize (grid0.coords t) 0 := h 0
    rw [e0, ex.1] at this; exact this
  · match a with
    | ⟨0, _⟩ => show win0_10.index t 0 * win0_10.size 0 ≤ (i 0 : Nat) ∧ (i 0 : Nat) < win0_10.index t 0 * win0_10.size 0 + win0_10.xsize (grid0.coords t) 0
                rw [e0, ex.1]; exact h
    | ⟨1, _⟩ => show win0_10.index t 1 * win0_10.size 1 ≤ (i 1 : Nat) ∧ (i 1 : Nat) < win0_10.index t 1 * win0_10.size 1 + win0_10.xsize (grid0.coords t) 1
                rw [e1, ex.2]; omega

/-- The blocks cover the result array. -/
theorem cover (i : S32768x1024.Idx) :
    ∃ t : Fin cfg0.N, (cfg0.win 10).flush t = true ∧ i ∈ ((cfg0.win 10).blk t).view.set := by
  have h0 : (i 0 : Nat) < 32768 := (i 0).isLt
  refine ⟨⟨(i 0).val / 256, by show _ < grid0.N; rw [N_0]; omega⟩, ?_, ?_⟩
  · exact flush0_10 _
  · rw [mem_blk]
    dsimp only
    omega

/-- The result array ends holding the mixer. -/
theorem final (c : Dev nD) : (dats m 0 c).arrAt 10 cfg0.N = result m c :=
  (dats m 0 c).arrAt_eq_of_cover 10 (result m c) (fun t _ => flushed_eq m c t) cover

end Cert.OddIdeal.Array

end
-- ==== Proof.HostNorm.lean ====
/- The references' layer normalisation of 32768 rows, at an index. -/
module

public import proofs.«01_k».proof.Proof.LayerNorm
public import Idealize.ShloMosaic.Lib.StableHlo

@[expose] public section

set_option maxRecDepth 16384

noncomputable section

namespace Cert.Proof.Norm

open Idealize.ShloMosaic

abbrev One : Shape := ⟨0, ![]⟩
abbrev Line : Shape := ⟨1, ![1024]⟩
abbrev Row : Shape := ⟨2, ![1, 1024]⟩
abbrev Column : Shape := ⟨2, ![32768, 1]⟩
abbrev Rows : Shape := ⟨2, ![32768, 1024]⟩

theorem sum_apply (x : FVec Ideal Rows .f32) (init : FVec Ideal One .f32) (h : Rows.ReducesTo [1] ⟨1, ![32768]⟩) (hu : 0 < One.numel)
    (i : Fin 32768) : Host.reduceAdd x init h hu (ix1 i) = init (Shape.Idx.first hu) + ∑ k : Fin 1024, (x (ix2 i k) : EReal) := by
  rw [Host.reduceAdd_apply]
  exact Ideal.hostReduceAdd_r2_a1 _ _ _ _

/-- Each row's sum. -/
def sums (x : FVec Ideal Rows .f32) : FVec Ideal ⟨1, ![32768]⟩ .f32 :=
  Host.reduceAdd x (constant One .f32 0x00000000#32) (by decide : Rows.ReducesTo [1] ⟨1, ![32768]⟩) (by decide)

theorem sums_apply (x : FVec Ideal Rows .f32) (i : Fin 32768) : sums x (ix1 i) = ∑ k : Fin 1024, (x (ix2 i k) : EReal) := by
  unfold sums
  rw [sum_apply, show ∀ j, constant (F := Ideal) One .f32 0x00000000#32 j = (0 : EReal) from fun _ => Ideal.ofBits_zero_f32, zero_add]

/-- Each row's mean, as a column. -/
def means (x : FVec Ideal Rows .f32) : FVec Ideal Column .f32 :=
  Host.divf (broadcastInDim Column ![0] (by decide) (sums x)) (broadcastInDim Column ![] (by decide) (constant One .f32 0x44800000#32))

theorem means_apply (x : FVec Ideal Rows .f32) (i : Fin 32768) : means x (ix2 i 0) = mean fun k => x (ix2 i k) := by
  pointwise [means]
  rw [sums_apply]
  rfl

/-- Each row minus its mean. -/
def centered (x : FVec Ideal Rows .f32) : FVec Ideal Rows .f32 := subf x (broadcastInDim Rows ![0, 1] (by decide) (means x))

theorem centered_apply (x : FVec Ideal Rows .f32) (i : Fin 32768) (d : Fin 1024) :
    centered x (ix2 i d) = x (ix2 i d) - mean fun k => x (ix2 i k) := by
  pointwise [centered]
  rw [means_apply]

/-- Each row with mean 0 and variance 1. -/
def units (x : FVec Ideal Rows .f32) : FVec Ideal Rows .f32 :=
  mulf (centered x) (broadcastInDim Rows ![0, 1] (by decide) (Host.rsqrt (addf (means (mulf (centered x) (centered x)))
    (broadcastInDim Column ![] (by decide) (constant One .f32 0x3727C5AC#32)))))

theorem units_apply (x : FVec Ideal Rows .f32) (i : Fin 32768) (d : Fin 1024) :
    units x (ix2 i d) = unit (fun k => x (ix2 i k)) d := by
  pointwise [units]
  rw [means_apply, centered_apply]
  simp only [show ∀ k, mulf (centered x) (centered x) (ix2 i k) = centered x (ix2 i k) * centered x (ix2 i k) from fun _ => rfl, centered_apply]
  rfl

/-- Each row's layer normalisation, with gain `g` and offset `b`. -/
def norms (x : FVec Ideal Rows .f32) (g b : FVec Ideal Line .f32) : FVec Ideal Rows .f32 :=
  addf (mulf (units x) (broadcastInDim Rows ![0, 1] (by decide) (broadcastInDim Row ![1] (by decide) g)))
    (broadcastInDim Rows ![0, 1] (by decide) (broadcastInDim Row ![1] (by decide) b))

theorem norms_apply (x : FVec Ideal Rows .f32) (g b : FVec Ideal Line .f32) (i : Fin 32768) (d : Fin 1024) :
    norms x g b (ix2 i d) = norm (fun k => x (ix2 i k)) (fun k => g (ix1 k)) (fun k => b (ix1 k)) d := by
  pointwise [norms]
  rw [units_apply]
  rfl

end Cert.Proof.Norm

end
-- ==== Proof.OddRef.lean ====
/- What the odd mixer's reference computes, at an index of its result. -/
module

public import proofs.«01_k».proof.Proof.Gen.OddReferenceIdeal.Run
public import proofs.«01_k».proof.Proof.OddMath
public import proofs.«01_k».proof.Proof.HostNorm

@[expose] public section

set_option maxRecDepth 16384

noncomputable section

open Idealize.ShloMosaic Idealize.ShloMosaic.TcCoe Idealize.SL.Sem

namespace Cert.OddReferenceIdeal.Ref

open Cert.OddReferenceIdeal Cert.OddReferenceIdeal.Gen Cert.OddReferenceIdeal.Facts
open Cert.Proof.Odd Cert.Proof.Norm

/-- The first product, with its offset. -/
def first (x : FVec Ideal S32768x1024 .f32) (wi : FVec Ideal S1024x2048 .f32) (bi : FVec Ideal S2048 .f32) : FVec Ideal S32768x2048 .f32 :=
  addf (Host.dotGeneral dot_S32768x1024_S1024x2048_S32768x2048_1_0_0_1_n_n none x wi)
    (broadcastInDim S32768x2048 ![0, 1] bcast_S1x2048_S32768x2048_0_1 (broadcastInDim S1x2048 ![1] bcast_S2048_S1x2048_1 bi))

/-- The activation. -/
def act (h : FVec Ideal S32768x2048 .f32) : FVec Ideal S32768x2048 .f32 :=
  mulf (mulf (broadcastInDim S32768x2048 ![] bcast_S_S32768x2048 (constant S_ .f32 0x3F000000#32)) h)
    (addf (broadcastInDim S32768x2048 ![] bcast_S_S32768x2048 (constant S_ .f32 0x3F800000#32))
      (Host.erf (mulf h (broadcastInDim S32768x2048 ![] bcast_S_S32768x2048 (constant S_ .f32 0x3F3504F3#32)))))

/-- The two halves of the hidden units. -/
def low (h : FVec Ideal S32768x2048 .f32) : FVec Ideal S32768x1024 .f32 :=
  extractStridedSlice S32768x1024 ![0, 0] h slices_S32768x2048_S32768x1024_0_0
def high (h : FVec Ideal S32768x2048 .f32) : FVec Ideal S32768x1024 .f32 :=
  extractStridedSlice S32768x1024 ![0, 1024] h slices_S32768x2048_S32768x1024_0_1024

/-- The mix of each run of 128 rows, by the weights of each group of 128 columns. -/
def mix (v : FVec Ideal S32768x1024 .f32) (ws : FVec Ideal S8x128x128 .f32) (bs : FVec Ideal S8x128 .f32) : FVec Ideal S32768x1024 .f32 :=
  shapeCast S32768x1024 (addf
    (transpose S256x128x8x128 [1, 3, 0, 2]
      (Host.dotGeneral dot_S256x128x8x128_S8x128x128_S8x256x128x128_1_2_03_1_2_0 none
        (shapeCast S256x128x8x128 v shapeCasts_S32768x1024_S256x128x8x128) ws) transposes_S8x256x128x128_S256x128x8x128_1_3_0_2)
    (broadcastInDim S256x128x8x128 ![0, 1, 2, 3] bcast_S1x128x8x1_S256x128x8x128_0_1_2_3
      (broadcastInDim S1x128x8x1 ![1, 2, 3] bcast_S128x8x1_S1x128x8x1_1_2_3
        (broadcastInDim S128x8x1 ![0, 1] bcast_S128x8_S128x8x1_0_1 (transpose S128x8 [1, 0] bs transposes_S8x128_S128x8_1_0)))))
    shapeCasts_S256x128x8x128_S32768x1024

/-- The last product, on the residual. -/
def last (x y : FVec Ideal S32768x1024 .f32) (wo : FVec Ideal S1024x1024 .f32) : FVec Ideal S32768x1024 .f32 :=
  addf (mulf (broadcastInDim S32768x1024 ![] bcast_S_S32768x1024 (constant S_ .f32 0x3FD744FD#32)) x)
    (Host.dotGeneral dot_S32768x1024_S1024x1024_S32768x1024_1_0_0_1_n_n none y wo)

theorem first_apply (x : FVec Ideal S32768x1024 .f32) (wi : FVec Ideal S1024x2048 .f32) (bi : FVec Ideal S2048 .f32) (i : Fin 32768) (f : Fin 2048) :
    first x wi bi (ix2 i f) = ∑ y : Fin 1024, x (ix2 i y) * wi (ix2 y f) + bi (ix1 f) := by
  pointwise [first]

theorem act_apply (h : FVec Ideal S32768x2048 .f32) (i : Fin 32768) (f : Fin 2048) : act h (ix2 i f) = gelu (h (ix2 i f)) := by
  pointwise [act]
  rfl

theorem low_apply (h : FVec Ideal S32768x2048 .f32) (i : Fin 32768) (k : Fin 1024) : low h (ix2 i k) = h (ix2 i ⟨k.val, by omega⟩) := by
  pointwise [low]

theorem high_apply (h : FVec Ideal S32768x2048 .f32) (i : Fin 32768) (k : Fin 1024) : high h (ix2 i k) = h (ix2 i ⟨1024 + k.val, by omega⟩) := by
  pointwise [high]

theorem mix_apply (v : FVec Ideal S32768x1024 .f32) (ws : FVec Ideal S8x128x128 .f32) (bs : FVec Ideal S8x128 .f32) (i : Fin 32768) (k : Fin 1024) :
    mix v ws bs (ix2 i k) = ∑ q : Fin 128, ws (ix3 ⟨k.val / 128, by omega⟩ ⟨i.val % 128, by omega⟩ q) * v (ix2 ⟨i.val / 128 * 128 + q.val, by omega⟩ k)
      + bs (ix2 ⟨k.val / 128, by omega⟩ ⟨i.val % 128, by omega⟩) := by
  pointwise [mix]
  exact congrArg₂ (· + ·) (Finset.sum_congr rfl fun q _ => mul_comm _ _) rfl

theorem last_apply (x y : FVec Ideal S32768x1024 .f32) (wo : FVec Ideal S1024x1024 .f32) (i : Fin 32768) (d : Fin 1024) :
    last x y wo (ix2 i d) = alpha * x (ix2 i d) + ∑ k : Fin 1024, y (ix2 i k) * wo (ix2 k d) := by
  pointwise [last]

/-- The reference's result, of its arguments. -/
def whole (x : FVec Ideal S32768x1024 .f32) (wi : FVec Ideal S1024x2048 .f32) (bi : FVec Ideal S2048 .f32) (vg vb : FVec Ideal S1024 .f32)
    (ws : FVec Ideal S8x128x128 .f32) (bs : FVec Ideal S8x128 .f32) (wo : FVec Ideal S1024x1024 .f32) (g b : FVec Ideal S1024 .f32) :
    FVec Ideal S32768x1024 .f32 :=
  norms (last x (mulf (low (act (first x wi bi))) (mix (norms (high (act (first x wi bi))) vg vb) ws bs)) wo) g b

theorem result_eq (m : (ℓ : Loc nD τ sig) → Buf (Elt Ideal) ℓ) (c : Dev nD) :
    Value.res_out0 m c = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  unfold Value.res_out0 Value.res_main_v75
  rfl

theorem whole_apply (x : FVec Ideal S32768x1024 .f32) (wi : FVec Ideal S1024x2048 .f32) (bi : FVec Ideal S2048 .f32) (vg vb : FVec Ideal S1024 .f32)
    (ws : FVec Ideal S8x128x128 .f32) (bs : FVec Ideal S8x128 .f32) (wo : FVec Ideal S1024x1024 .f32) (g b : FVec Ideal S1024 .f32)
    (i : Fin 32768) (d : Fin 1024) : whole x wi bi vg vb ws bs wo g b (ix2 i d) = layer x wi bi vg vb ws bs wo g b i d := by
  unfold whole layer mixer gated gate value Proof.Odd.hidden
  have e : i.val / 128 * 128 + i.val % 128 = i.val := by omega
  rw [norms_apply]
  simp only [last_apply, show ∀ (u w : FVec Ideal S32768x1024 .f32) (k : Fin 1024), mulf u w (ix2 i k) = u (ix2 i k) * w (ix2 i k) from
    fun _ _ _ => rfl, mix_apply, low_apply, high_apply, norms_apply, act_apply, first_apply, e]

end Cert.OddReferenceIdeal.Ref

end
-- ==== Proof.OddClaim.lean ====
/- The claims about the odd mixer's kernel and its reference. -/
module

public import proofs.«01_k».proof.Defs
public import proofs.«01_k».proof.Proof.Gen.Odd
public import proofs.«01_k».proof.Proof.Gen.OddIdeal
public import proofs.«01_k».proof.Proof.Gen.OddReferenceIdeal
public import proofs.«01_k».proof.Proof.Gen.Odd.Frame
public import proofs.«01_k».proof.Proof.OddArray
public import proofs.«01_k».proof.Proof.OddRef
public import Idealize.ShloMosaic.Lib.Quiescent

@[expose] public section

noncomputable section

namespace Cert.Proof.Odd

open Idealize.ShloMosaic Idealize.SL.Sem

theorem frame_Odd : Cert.quiescent_Odd := fun m ρ _ => Cert.Odd.Gen.frame m ρ

theorem frame_OddIdeal : Cert.quiescent_OddIdeal := fun m ρ _ => Cert.OddIdeal.Gen.frame m ρ

theorem frame_OddReferenceIdeal : Cert.quiescent_OddReferenceIdeal := fun m ρ _ =>
  (θ_run Cert.OddReferenceIdeal.defs _ _).mono
    (fun r h => ⟨fun c => (h c).2, Idealize.ShloMosaic.sem_eq_zero_of_no_sems (by decide) r.2⟩)
    (Cert.OddReferenceIdeal.Value.run (F := Ideal) m ρ)

/-- The odd mixer's kernel and its reference give the same result. -/
theorem odd : Cert.algebraic_OddIdeal_OddReferenceIdeal := by
  intro m ρ m' ρ' _ hagree
  refine ⟨fun c => Cert.OddIdeal.Array.result m c, ?_, ?_⟩
  · exact (θ_run Cert.OddIdeal.defs _ _).mono
      (fun _ hr c => ⟨(hr c).1.trans (Cert.OddIdeal.Array.final m c), (hr c).2⟩)
      (Cert.OddIdeal.Value.run_blocks m ρ)
  · refine (θ_run Cert.OddReferenceIdeal.defs _ _).mono (fun _ hr c => ⟨(hr c).1.trans ?_, (hr c).2⟩)
      (Cert.OddReferenceIdeal.Value.run (F := Ideal) m' ρ')
    refine (Cert.OddReferenceIdeal.Ref.result_eq m' c).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    funext y
    refine Eq.trans (congrArg _ (eq_ix2 y)) ?_
    exact Cert.OddReferenceIdeal.Ref.whole_apply _ _ _ _ _ _ _ _ _ _ (y 0) (y 1)

end Cert.Proof.Odd

end
-- ==== Proof.EvenOutMath.lean ====
/- The output projection of an even layer, with its residual and normalisation, as plain sums. -/
module

public import proofs.«01_k».proof.Proof.LayerNorm

@[expose] public section

noncomputable section

namespace Cert.Proof.EvenOut

open Idealize.ShloMosaic Cert.Proof.Norm

/-- Row `i` of the result at column `d`: the residual plus the two halves' products, normalised. -/
def layer (a t : FVec Ideal ⟨2, ![32768, 512]⟩ .bf16) (x : FVec Ideal ⟨2, ![32768, 1024]⟩ .f32) (w : FVec Ideal ⟨2, ![1024, 1024]⟩ .f32)
    (g b : FVec Ideal ⟨1, ![1024]⟩ .f32) (i : Fin 32768) (d : Fin 1024) : EReal :=
  norm (fun e => alpha * x (ix2 i e) + (∑ k : Fin 512, a (ix2 i k) * w (ix2 ⟨k.val, by omega⟩ e)
    + ∑ k : Fin 512, t (ix2 i k) * w (ix2 ⟨512 + k.val, by omega⟩ e))) (fun e => g (ix1 e)) (fun e => b (ix1 e)) d

end Cert.Proof.EvenOut

end
-- ==== Proof.EvenOutArray.lean ====
/- What the result array of an even layer's output projection holds at the end, at every index. -/
module

public import proofs.«01_k».proof.Proof.Gen.EvenOutIdeal.Value
public import proofs.«01_k».proof.Proof.EvenOutMath
public import Idealize.ShloMosaic.Lib.Pointwise
public import Idealize.ShloMosaic.Lib.Pipeline.Value

@[expose] public section

set_option maxRecDepth 16384

noncomputable section

namespace Cert.EvenOutIdeal.Array

open Cert.EvenOutIdeal Cert.EvenOutIdeal.Gen Cert.Proof.EvenOut Cert.Proof.Norm
open Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev lefts (c : Dev nD) : FVec Ideal S32768x512 .bf16 := m ((c : Thread nD τ).loc main_arg0)
abbrev rights (c : Dev nD) : FVec Ideal S32768x512 .bf16 := m ((c : Thread nD τ).loc main_arg1)
abbrev xs (c : Dev nD) : FVec Ideal S32768x1024 .f32 := m ((c : Thread nD τ).loc main_arg2)
abbrev w (c : Dev nD) : FVec Ideal S1024x1024 .f32 := m ((c : Thread nD τ).loc main_arg3)
abbrev g (c : Dev nD) : FVec Ideal S1024 .f32 := m ((c : Thread nD τ).loc main_arg4)
abbrev b (c : Dev nD) : FVec Ideal S1024 .f32 := m ((c : Thread nD τ).loc main_arg5)

/-- The result array's contents. -/
abbrev result (c : Dev nD) : Buf (Elt Ideal) ((c : Thread nD τ).loc main_v5) :=
  fun y : S32768x1024.Idx => layer (lefts m c) (rights m c) (xs m c) (w m c) (g m c) (b m c) (y 0) (y 1)

/-! ## The weights the host prepares -/

theorem V_main_v1 (c : Dev nD) : V m c main_v1
    = extractStridedSlice S512x1024 ![0, 0] (truncf .bf16 (w m c) bitsLt_bf16_f32) slices_S1024x1024_S512x1024_0_0 := by
  unfold V
  after_results_simp

theorem V_main_v2 (c : Dev nD) : V m c main_v2
    = extractStridedSlice S512x1024 ![512, 0] (truncf .bf16 (w m c) bitsLt_bf16_f32) slices_S1024x1024_S512x1024_512_0 := by
  unfold V
  after_results_simp

theorem V_main_v3 (c : Dev nD) : V m c main_v3 = shapeCast S1x1024 (g m c) shapeCasts_S1024_S1x1024 := by
  unfold V
  after_results_simp
  rfl

theorem V_main_v4 (c : Dev nD) : V m c main_v4 = shapeCast S1x1024 (b m c) shapeCasts_S1024_S1x1024 := by
  unfold V
  after_results_simp
  rfl

/-! ## The blocks: point `t` of the grid takes rows `512 t` to `512 t + 511`, and all of each weight -/

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index7 : ∀ t : Fin grid0.N, win0_7.index t 0 = t.val ∧ win0_7.index t 1 = 0 := by decide +kernel
theorem index3 : ∀ (t : Fin grid0.N) (a : Fin 2), win0_3.index t a = 0 := by decide +kernel
theorem index4 : ∀ (t : Fin grid0.N) (a : Fin 2), win0_4.index t a = 0 := by decide +kernel
theorem index5 : ∀ (t : Fin grid0.N) (a : Fin 2), win0_5.index t a = 0 := by decide +kernel
theorem index6 : ∀ (t : Fin grid0.N) (a : Fin 2), win0_6.index t a = 0 := by decide +kernel

theorem lt_64 (t : Fin cfg0.N) : t.val < 64 := t.isLt.trans_eq N_0

theorem block0_apply (c : Dev nD) (t : Fin cfg0.N) (r : Fin 512) (y : Fin 512) :
    (iblk m c 0 t : Vec Ideal S512x512 .bf16) (ix2 r y) = lefts m c (ix2 ⟨t.val * 512 + r.val, by have := lt_64 t; omega⟩ y) := by
  have hi := index0 t
  rw [← show V m c main_arg0 = lefts m c from V_main_arg0 m c]
  unfold iblk
  rw [View.read_apply]
  show V m c main_arg0 _ = V m c main_arg0 _
  refine congrArg (V m c main_arg0) (funext fun b => Fin.ext ?_)
  match b with
  | ⟨0, _⟩ => show win0_0.index t 0 * 512 + 1 * r.val = _; rw [hi.1]; show _ = t.val * 512 + r.val; omega
  | ⟨1, _⟩ => show win0_0.index t 1 * 512 + 1 * y.val = _; rw [hi.2]; show _ = y.val; omega

theorem block1_apply (c : Dev nD) (t : Fin cfg0.N) (r : Fin 512) (y : Fin 512) :
    (iblk m c 1 t : Vec Ideal S512x512 .bf16) (ix2 r y) = rights m c (ix2 ⟨t.val * 512 + r.val, by have := lt_64 t; omega⟩ y) := by
  have hi := index1 t
  rw [← show V m c main_arg1 = rights m c from V_main_arg1 m c]
  unfold iblk
  rw [View.read_apply]
  show V m c main_arg1 _ = V m c main_arg1 _
  refine congrArg (V m c main_arg1) (funext fun b => Fin.ext ?_)
  match b with
  | ⟨0, _⟩ => show win0_1.index t 0 * 512 + 1 * r.val = _; rw [hi.1]; show _ = t.val * 512 + r.val; omega
  | ⟨1, _⟩ => show win0_1.index t 1 * 512 + 1 * y.val = _; rw [hi.2]; show _ = y.val; omega

theorem block2_apply (c : Dev nD) (t : Fin cfg0.N) (r : Fin 512) (y : Fin 1024) :
    (iblk m c 2 t : Vec Ideal S512x1024 .f32) (ix2 r y) = xs m c (ix2 ⟨t.val * 512 + r.val, by have := lt_64 t; omega⟩ y) := by
  have hi := index2 t
  rw [← show V m c main_arg2 = xs m c from V_main_arg2 m c]
  unfold iblk
  rw [View.read_apply]
  show V m c main_arg2 _ = V m c main_arg2 _
  refine congrArg (V m c main_arg2) (funext fun b => Fin.ext ?_)
  match b with
  | ⟨0, _⟩ => show win0_2.index t 0 * 512 + 1 * r.val = _; rw [hi.1]; show _ = t.val * 512 + r.val; omega
  | ⟨1, _⟩ => show win0_2.index t 1 * 1024 + 1 * y.val = _; rw [hi.2]; show _ = y.val; omega

theorem block3_apply (c : Dev nD) (t : Fin cfg0.N) (a0 : Fin 512) (a1 : Fin 1024) :
    (iblk m c 3 t : Vec Ideal S512x1024 .bf16) (ix2 a0 a1) = w m c (ix2 ⟨a0.val, by omega⟩ a1) := by
  have e : (iblk m c 3 t : Vec Ideal S512x1024 .bf16) (ix2 a0 a1) = (V m c main_v1 : Vec Ideal S512x1024 .bf16) (ix2 a0 a1) := by
    unfold iblk
    rw [View.read_apply]
    show V m c main_v1 _ = V m c main_v1 _
    refine congrArg (V m c main_v1) (funext fun b => Fin.ext ?_)
    match b with
    | ⟨0, _⟩ => show win0_3.index t 0 * 512 + 1 * a0.val = _; rw [index3 t 0]; show 0 * 512 + 1 * a0.val = a0.val; omega
    | ⟨1, _⟩ => show win0_3.index t 1 * 1024 + 1 * a1.val = _; rw [index3 t 1]; show 0 * 1024 + 1 * a1.val = a1.val; omega
  rw [e, V_main_v1]
  pointwise

theorem block4_apply (c : Dev nD) (t : Fin cfg0.N) (a0 : Fin 512) (a1 : Fin 1024) :
    (iblk m c 4 t : Vec Ideal S512x1024 .bf16) (ix2 a0 a1) = w m c (ix2 ⟨512 + a0.val, by omega⟩ a1) := by
  have e : (iblk m c 4 t : Vec Ideal S512x1024 .bf16) (ix2 a0 a1) = (V m c main_v2 : Vec Ideal S512x1024 .bf16) (ix2 a0 a1) := by
    unfold iblk
    rw [View.read_apply]
    show V m c main_v2 _ = V m c main_v2 _
    refine congrArg (V m c main_v2) (funext fun b => Fin.ext ?_)
    match b with
    | ⟨0, _⟩ => show win0_4.index t 0 * 512 + 1 * a0.val = _; rw [index4 t 0]; show 0 * 512 + 1 * a0.val = a0.val; omega
    | ⟨1, _⟩ => show win0_4.index t 1 * 1024 + 1 * a1.val = _; rw [index4 t 1]; show 0 * 1024 + 1 * a1.val = a1.val; omega
  rw [e, V_main_v2]
  pointwise

theorem block5_apply (c : Dev nD) (t : Fin cfg0.N) (a1 : Fin 1024) :
    (iblk m c 5 t : Vec Ideal S1x1024 .f32) (ix2 0 a1) = g m c (ix1 a1) := by
  have e : (iblk m c 5 t : Vec Ideal S1x1024 .f32) (ix2 0 a1) = (V m c main_v3 : Vec Ideal S1x1024 .f32) (ix2 0 a1) := by
    unfold iblk
    rw [View.read_apply]
    show V m c main_v3 _ = V m c main_v3 _
    refine congrArg (V m c main_v3) (funext fun b => Fin.ext ?_)
    match b with
    | ⟨0, _⟩ => show win0_5.index t 0 * 1 + 1 * 0 = _; rw [index5 t 0]; show 0 * 1 + 1 * 0 = 0; omega
    | ⟨1, _⟩ => show win0_5.index t 1 * 1024 + 1 * a1.val = _; rw [index5 t 1]; show 0 * 1024 + 1 * a1.val = a1.val; omega
  rw [e, V_main_v3]
  pointwise

theorem block6_apply (c : Dev nD) (t : Fin cfg0.N) (a1 : Fin 1024) :
    (iblk m c 6 t : Vec Ideal S1x1024 .f32) (ix2 0 a1) = b m c (ix1 a1) := by
  have e : (iblk m c 6 t : Vec Ideal S1x1024 .f32) (ix2 0 a1) = (V m c main_v4 : Vec Ideal S1x1024 .f32) (ix2 0 a1) := by
    unfold iblk
    rw [View.read_apply]
    show V m c main_v4 _ = V m c main_v4 _
    refine congrArg (V m c main_v4) (funext fun b => Fin.ext ?_)
    match b with
    | ⟨0, _⟩ => show win0_6.index t 0 * 1 + 1 * 0 = _; rw [index6 t 0]; show 0 * 1 + 1 * 0 = 0; omega
    | ⟨1, _⟩ => show win0_6.index t 1 * 1024 + 1 * a1.val = _; rw [index6 t 1]; show 0 * 1024 + 1 * a1.val = a1.val; omega
  rw [e, V_main_v4]
  pointwise

/-! ## One grid point -/

theorem tile_apply (x0 x1 : Vec Ideal S512x512 .bf16) (x2 : Vec Ideal S512x1024 .f32) (x3 x4 : Vec Ideal S512x1024 .bf16)
    (x5 x6 : Vec Ideal S1x1024 .f32) (r : Fin 512) (d : Fin 1024) :
    k0_pay1 x0 x3 x1 x4 x2 x5 x6 (ix2 r d)
      = norm (fun e => alpha * x2 (ix2 r e) + (∑ k : Fin 512, x0 (ix2 r k) * x3 (ix2 k e) + ∑ k : Fin 512, x1 (ix2 r k) * x4 (ix2 k e)))
          (fun e => x5 (ix2 0 e)) (fun e => x6 (ix2 0 e)) d := by
  pointwise [k0_pay1]
  rfl

theorem zero2 : (![0, 0] : Fin 2 → Nat) = fun _ => 0 := by decide

theorem out_eq (x0 x1 : Vec Ideal S512x512 .bf16) (x2 : Vec Ideal S512x1024 .f32) (x3 x4 : Vec Ideal S512x1024 .bf16)
    (x5 x6 : Vec Ideal S1x1024 .f32) : out0_7 x0 x1 x2 x3 x4 x5 x6 = k0_pay1 x0 x3 x1 x4 x2 x5 x6 := by
  unfold out0_7
  rw [View.canon_unit_zero zero2]
  simp only [View.ld_unit_zero (S := S512x512) zero2, View.ld_unit_zero (S := S512x1024) zero2, View.ld_unit_zero (S := S1x1024) zero2]

/-- What point `t` leaves in its block: rows `512 t` to `512 t + 511` of the result. -/
theorem block_eq (c : Dev nD) (t : Fin cfg0.N) (r : Fin 512) (d : Fin 1024) :
    k0_pay1 (iblk m c 0 t) (iblk m c 3 t) (iblk m c 1 t) (iblk m c 4 t) (iblk m c 2 t) (iblk m c 5 t) (iblk m c 6 t) (ix2 r d)
      = layer (lefts m c) (rights m c) (xs m c) (w m c) (g m c) (b m c) ⟨t.val * 512 + r.val, by have := lt_64 t; omega⟩ d := by
  rw [tile_apply]
  unfold layer
  simp only [block0_apply m c t, block1_apply m c t, block2_apply m c t, block3_apply m c t, block4_apply m c t, block5_apply m c t,
    block6_apply m c t]

/-- What point `t` writes back is its block of the result. -/
theorem flushed_eq (c : Dev nD) (t : Fin cfg0.N) :
    (dats m 0 c).flushed 7 t = ((cfg0.win 7).blk t).view.read (Elt Ideal) (result m c) := by
  have ht := lt_64 t
  rw [Value.flushed7]
  funext y
  obtain ⟨r, d, rfl⟩ : ∃ (r : Fin 512) (d : Fin 1024), y = ix2 r d := ⟨y 0, y 1, eq_ix2 y⟩
  rw [out_eq]
  refine Eq.trans (b := k0_pay1 (iblk m c 0 t) (iblk m c 3 t) (iblk m c 1 t) (iblk m c 4 t) (iblk m c 2 t) (iblk m c 5 t) (iblk m c 6 t)
    (ix2 r d)) rfl ?_
  rw [block_eq, View.read_apply, cast_eq]
  have hi := index7 t
  show _ = layer (lefts m c) (rights m c) (xs m c) (w m c) (g m c) (b m c)
    ((((cfg0.win 7).blk t).view.emb (ix2 r d) : S32768x1024.Idx) 0) ((((cfg0.win 7).blk t).view.emb (ix2 r d) : S32768x1024.Idx) 1)
  refine congrArg₂ (layer (lefts m c) (rights m c) (xs m c) (w m c) (g m c) (b m c))
    (Fin.ext (Eq.symm ?_)) (Fin.ext (Eq.symm ?_))
  · show win0_7.index t 0 * 512 + 1 * r.val = t.val * 512 + r.val
    rw [hi.1]; omega
  · show win0_7.index t 1 * 1024 + 1 * d.val = d.val
    rw [hi.2]; omega

/-- An index of the result array is in point `t`'s block. -/
theorem mem_blk (t : Fin cfg0.N) (i : S32768x1024.Idx) :
    i ∈ ((cfg0.win 7).blk t).view.set ↔ t.val * 512 ≤ (i 0 : Nat) ∧ (i 0 : Nat) < t.val * 512 + 512 := by
  show i ∈ ((View.whole main_v5).slice (win0_7.rect t)).set ↔ _
  rw [View.set_slice_whole, Rect.mem_set_unit]
  have hi := index7 t
  have h1 : (i 1 : Nat) < 1024 := (i 1).isLt
  have ex : win0_7.xsize (grid0.coords t) 0 = 512 ∧ win0_7.xsize (grid0.coords t) 1 = 1024 := ⟨rfl, rfl⟩
  have e0 : win0_7.index t 0 * win0_7.size 0 = t.val * 512 := by rw [hi.1]; rfl
  have e1 : win0_7.index t 1 * win0_7.size 1 = 0 := by rw [hi.2]; rfl
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e0, ex.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e0, ex.1]; exact h
    | ⟨1, _⟩ => show win0_7.index t 1 * win0_7.size 1 ≤ (i 1 : Nat) ∧ (i 1 : Nat) < win0_7.index t 1 * win0_7.size 1 + win0_7.xsize (grid0.coords t) 1
                rw [e1, ex.2]; omega

/-- The blocks cover the result array. -/
theorem cover (i : S32768x1024.Idx) :
    ∃ t : Fin cfg0.N, (cfg0.win 7).flush t = true ∧ i ∈ ((cfg0.win 7).blk t).view.set := by
  have h0 : (i 0 : Nat) < 32768 := (i 0).isLt
  refine ⟨⟨(i 0).val / 512, by show _ < grid0.N; rw [N_0]; omega⟩, ?_, ?_⟩
  · exact flush0_7 _
  · rw [mem_blk]
    dsimp only
    omega

/-- The result array ends holding the layer. -/
theorem final (c : Dev nD) : (dats m 0 c).arrAt 7 cfg0.N = result m c :=
  (dats m 0 c).arrAt_eq_of_cover 7 (result m c) (fun t _ => flushed_eq m c t) cover

end Cert.EvenOutIdeal.Array

end
-- ==== Proof.EvenOutRef.lean ====
/- What the reference of an even layer's output projection computes, at an index of its result. -/
module

public import proofs.«01_k».proof.Proof.Gen.EvenOutReferenceIdeal.Run
public import proofs.«01_k».proof.Proof.EvenOutMath
public import proofs.«01_k».proof.Proof.HostNorm

@[expose] public section

set_option maxRecDepth 16384

noncomputable section

open Idealize.ShloMosaic Idealize.ShloMosaic.TcCoe Idealize.SL.Sem

namespace Cert.EvenOutReferenceIdeal.Ref

open Cert.EvenOutReferenceIdeal Cert.EvenOutReferenceIdeal.Gen Cert.EvenOutReferenceIdeal.Facts
open Cert.Proof.EvenOut Cert.Proof.Norm

/-- The two halves side by side. -/
def both (a t : FVec Ideal S32768x512 .bf16) : FVec Ideal S32768x1024 .f32 :=
  extf .f32 (concatenate S32768x1024 1 [⟨S32768x512, a⟩, ⟨S32768x512, t⟩] concatenates_S32768x512_S32768x512_S32768x1024_d1) bitsLt_bf16_f32

/-- Their product, on the residual. -/
def last (x y : FVec Ideal S32768x1024 .f32) (w : FVec Ideal S1024x1024 .f32) : FVec Ideal S32768x1024 .f32 :=
  addf (mulf (broadcastInDim S32768x1024 ![] bcast_S_S32768x1024 (constant S_ .f32 0x3FD744FD#32)) x)
    (Host.dotGeneral dot_S32768x1024_S1024x1024_S32768x1024_1_0_0_1_n_n none y w)

theorem both_low (a t : FVec Ideal S32768x512 .bf16) (i : Fin 32768) (k : Fin 512) :
    both a t (ix2 i ⟨k.val, by omega⟩) = a (ix2 i k) := by
  pointwise [both]

theorem both_high (a t : FVec Ideal S32768x512 .bf16) (i : Fin 32768) (k : Fin 512) :
    both a t (ix2 i ⟨512 + k.val, by omega⟩) = t (ix2 i k) := by
  pointwise [both]

theorem last_apply (x y : FVec Ideal S32768x1024 .f32) (w : FVec Ideal S1024x1024 .f32) (i : Fin 32768) (d : Fin 1024) :
    last x y w (ix2 i d) = alpha * x (ix2 i d) + ∑ k : Fin 1024, y (ix2 i k) * w (ix2 k d) := by
  pointwise [last]

/-- A sum over 1024 indices, half by half. -/
theorem sum_halves (f : Fin 1024 → EReal) : ∑ k, f k = ∑ k : Fin 512, f ⟨k.val, by omega⟩ + ∑ k : Fin 512, f ⟨512 + k.val, by omega⟩ :=
  Fin.sum_univ_add (a := 512) (b := 512) f

/-- The reference's result, of its arguments. -/
def whole (a t : FVec Ideal S32768x512 .bf16) (x : FVec Ideal S32768x1024 .f32) (w : FVec Ideal S1024x1024 .f32) (g b : FVec Ideal S1024 .f32) :
    FVec Ideal S32768x1024 .f32 := norms (last x (both a t) w) g b

theorem result_eq (m : (ℓ : Loc nD τ sig) → Buf (Elt Ideal) ℓ) (c : Dev nD) :
    Value.res_out0 m c = whole (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Value.res_out0 Value.res_main_v29
  rfl

theorem whole_apply (a t : FVec Ideal S32768x512 .bf16) (x : FVec Ideal S32768x1024 .f32) (w : FVec Ideal S1024x1024 .f32)
    (g b : FVec Ideal S1024 .f32) (i : Fin 32768) (d : Fin 1024) : whole a t x w g b (ix2 i d) = layer a t x w g b i d := by
  unfold whole layer
  rw [norms_apply]
  simp only [last_apply, sum_halves, both_low, both_high]

end Cert.EvenOutReferenceIdeal.Ref

end
-- ==== Proof.EvenOutClaim.lean ====
/- The claims about the kernel of an even layer's output projection and its reference. -/
module

public import proofs.«01_k».proof.Defs
public import proofs.«01_k».proof.Proof.Gen.EvenOut
public import proofs.«01_k».proof.Proof.Gen.EvenOutIdeal
public import proofs.«01_k».proof.Proof.Gen.EvenOutReferenceIdeal
public import proofs.«01_k».proof.Proof.Gen.EvenOut.Frame
public import proofs.«01_k».proof.Proof.EvenOutArray
public import proofs.«01_k».proof.Proof.EvenOutRef
public import Idealize.ShloMosaic.Lib.Quiescent

@[expose] public section

noncomputable section

namespace Cert.Proof.EvenOut

open Idealize.ShloMosaic Idealize.SL.Sem

theorem frame_EvenOut : Cert.quiescent_EvenOut := fun m ρ _ => Cert.EvenOut.Gen.frame m ρ

theorem frame_EvenOutIdeal : Cert.quiescent_EvenOutIdeal := fun m ρ _ => Cert.EvenOutIdeal.Gen.frame m ρ

theorem frame_EvenOutReferenceIdeal : Cert.quiescent_EvenOutReferenceIdeal := fun m ρ _ =>
  (θ_run Cert.EvenOutReferenceIdeal.defs _ _).mono
    (fun r h => ⟨fun c => (h c).2, Idealize.ShloMosaic.sem_eq_zero_of_no_sems (by decide) r.2⟩)
    (Cert.EvenOutReferenceIdeal.Value.run (F := Ideal) m ρ)

/-- The kernel of an even layer's output projection and its reference give the same result. -/
theorem even_out : Cert.algebraic_EvenOutIdeal_EvenOutReferenceIdeal := by
  intro m ρ m' ρ' _ hagree
  refine ⟨fun c => Cert.EvenOutIdeal.Array.result m c, ?_, ?_⟩
  · exact (θ_run Cert.EvenOutIdeal.defs _ _).mono
      (fun _ hr c => ⟨(hr c).1.trans (Cert.EvenOutIdeal.Array.final m c), (hr c).2⟩)
      (Cert.EvenOutIdeal.Value.run_blocks m ρ)
  · refine (θ_run Cert.EvenOutReferenceIdeal.defs _ _).mono (fun _ hr c => ⟨(hr c).1.trans ?_, (hr c).2⟩)
      (Cert.EvenOutReferenceIdeal.Value.run (F := Ideal) m' ρ')
    refine (Cert.EvenOutReferenceIdeal.Ref.result_eq m' c).trans ?_
    rw [(hagree c).1, (hagree c).2.1, (hagree c).2.2.1, (hagree c).2.2.2.1, (hagree c).2.2.2.2.1, (hagree c).2.2.2.2.2]
    funext y
    refine Eq.trans (congrArg _ (eq_ix2 y)) ?_
    exact Cert.EvenOutReferenceIdeal.Ref.whole_apply _ _ _ _ _ _ (y 0) (y 1)

end Cert.Proof.EvenOut

end
-- ==== Proof.EvenInMath.lean ====
/- What the input projection of an even layer computes: the product with the weights, split into the columns to be transformed, the queries,
   the keys and the values; queries and keys normalised head by head and turned by their position's angles. -/
module

public import Idealize.ShloMosaic.Lib.Pointwise
public import proofs.«01_k».proof.Proof.OnlineSoftmax

@[expose] public section

noncomputable section

open Idealize.ShloMosaic

namespace Cert.Proof.EvenIn

/-- The constants, as the programs write them: a head's columns, one over it, what is added under the root, the scale of the queries. -/
abbrev columns : EReal := Ideal.ofBits FTy.f32 0x42800000#32
abbrev column : EReal := Ideal.ofBits FTy.f32 0x3C800000#32
abbrev eps : EReal := Ideal.ofBits FTy.f32 0x358637BD#32
abbrev eighth : EReal := Ideal.ofBits FTy.f32 0x3E000000#32

/-- A head's column over the root of the head's mean square, times the gain. -/
def normed (u g : Fin 64 → EReal) (j : Fin 64) : EReal := u j * Ideal.rsqrt (Ideal.div (∑ x, u x * u x) columns + eps) * g j

/-- The angle of pair `p` at position `t`: of the position's row in the first half of a head, of its column in the second. -/
def angle (t a p : ℕ) : EReal :=
  (if a < 1 then FloatOps.sitofp (F := Ideal) FTy.f32 (BitVec.ofNat 32 (t / 64)) else FloatOps.sitofp (F := Ideal) FTy.f32 (BitVec.ofNat 32 (t % 64)))
    * Ideal.pow (Ideal.ofBits FTy.f32 0x461C4000#32)
        (Ideal.div (-FloatOps.sitofp (F := Ideal) FTy.f32 (BitVec.ofNat 32 p)) (Ideal.ofBits FTy.f32 0x41800000#32))

/-- The two columns of the pair that column `j` is in. -/
def lo (j : Fin 64) : Fin 64 := ⟨j.val / 32 * 32 + j.val % 16, by omega⟩
def hi (j : Fin 64) : Fin 64 := ⟨j.val / 32 * 32 + 16 + j.val % 16, by omega⟩

/-- A head turned by the angles of position `t`. -/
def turned (y : Fin 64 → EReal) (t : ℕ) (j : Fin 64) : EReal :=
  if j.val / 16 % 2 < 1 then
    y (lo j) * Ideal.cos (angle t (j.val / 32) (j.val % 16)) - y (hi j) * Ideal.sin (angle t (j.val / 32) (j.val % 16))
  else
    y (hi j) * Ideal.cos (angle t (j.val / 32) (j.val % 16)) + y (lo j) * Ideal.sin (angle t (j.val / 32) (j.val % 16))

/-- The product, at row `i` and column `d`. -/
def prod (x : (⟨2, ![32768, 1024]⟩ : Shape).Idx → EReal) (w : (⟨2, ![1024, 1280]⟩ : Shape).Idx → EReal) (i : Fin 32768) (d : Fin 1280) : EReal :=
  ∑ k : Fin 1024, x (ix2 i k) * w (ix2 k d)

theorem column_eq : column = ((64⁻¹ : ℝ) : EReal) := by
  simp [Ideal.ofBits, Ideal.ieee]
  rw [← EReal.coe_mul]
  norm_num

theorem columns_eq : columns = ((64 : ℝ) : EReal) := by
  simp [Ideal.ofBits, Ideal.ieee]
  rw [← EReal.coe_mul]
  norm_num

/-- Dividing by 64 is multiplying by a sixty-fourth. -/
theorem mean_eq (a : EReal) : Ideal.div a columns = a * column := by
  rw [column_eq, columns_eq]
  unfold Ideal.div
  rw [if_neg (by norm_cast), EReal.coe_inv]

/-- Among the columns of several heads, those of one. -/
theorem sum_head (n : ℕ) (f : Fin n → EReal) (e : ℕ) (he : e * 64 + 64 ≤ n) (a : EReal) (ha : ∃ r : ℝ, 0 ≤ r ∧ a = (r : EReal)) :
    ∑ x : Fin n, f x * (if x.val / 64 = e then a else 0) = (∑ j : Fin 64, f ⟨e * 64 + j.val, by omega⟩) * a := by
  obtain ⟨r, hr, rfl⟩ := ha
  rw [mul_comm, Online.coe_mul_sum _ r hr]
  simp only [mul_ite, mul_zero]
  rw [← Finset.sum_filter]
  refine Finset.sum_nbij' (fun x => ⟨x.val % 64, by omega⟩) (fun j => ⟨e * 64 + j.val, by omega⟩) ?_ ?_ ?_ ?_ ?_
  · intro x _; exact Finset.mem_univ _
  · intro j _
    refine Finset.mem_filter.2 ⟨Finset.mem_univ _, ?_⟩
    show (e * 64 + j.val) / 64 = e
    omega
  · intro x hx
    have := (Finset.mem_filter.1 hx).2
    refine Fin.ext ?_
    show e * 64 + x.val % 64 = x.val
    omega
  · intro j _
    refine Fin.ext ?_
    show (e * 64 + j.val) % 64 = j.val
    omega
  · intro x hx
    have := (Finset.mem_filter.1 hx).2
    rw [mul_comm]
    refine congrArg (fun y => (r : EReal) * f y) (Fin.ext ?_)
    show x.val = e * 64 + x.val % 64
    omega

end Cert.Proof.EvenIn

end
-- ==== Proof.EvenInTables.lean ====
/- The arrays the host prepares for the input projection of an even layer: the table that averages a head's columns, the gains repeated for
   every head, and the cosines and sines of every position's angles. -/
module

public import proofs.«01_k».proof.Proof.Gen.EvenInIdeal.Value
public import proofs.«01_k».proof.Proof.EvenInMath
public import Idealize.ShloMosaic.Lib.Pointwise
public import Idealize.ShloMosaic.Lib.Pipeline.Value

@[expose] public section

set_option maxRecDepth 16384

noncomputable section

namespace Cert.EvenInIdeal.Tables

open Cert.EvenInIdeal Cert.EvenInIdeal.Gen Cert.Proof.EvenIn
open Idealize.ShloMosaic Idealize.ShloMosaic.TcCoe Idealize.SL.Sem

variable (m : (ℓ : Loc nD τ sig) → Buf (Elt Ideal) ℓ)

/-- A scalar, at every position. -/
abbrev all (v : IVec S_ 32) : IVec S8192 32 := broadcastInDim S8192 ![] bcast_S_S8192 v
abbrev positions : IVec S8192 32 := iotaInDim S8192 32 0
abbrev sixtyFour : IVec S_ 32 := constantI S_ 32 64#32

/-- The row of every position in the grid of 64 columns. -/
def rows : IVec S8192 32 :=
  select (andi (cmpi .ne (signi positions) (all (signi sixtyFour))) (cmpi .ne (Host.remsi positions (all sixtyFour)) (all (constantI S_ 32 0#32))))
    (subi (Host.divsi positions (all sixtyFour)) (all (constantI S_ 32 1#32))) (Host.divsi positions (all sixtyFour))

abbrev divisor : IVec S_ 32 := select (cmpi .eq sixtyFour (constantI S_ 32 0#32)) (constantI S_ 32 1#32) sixtyFour
abbrev rest : IVec S8192 32 := Host.remsi positions (all divisor)

/-- Its column. -/
def cols : IVec S8192 32 :=
  select (andi (cmpi .ne (cmpi .slt rest (all (constantI S_ 32 0#32)))
      (broadcastInDim S8192 ![] bcast_S_S8192 (cmpi .slt divisor (constantI S_ 32 0#32)))) (cmpi .ne rest (all (constantI S_ 32 0#32))))
    (addi rest (all divisor)) rest

/-- The angles of a coordinate. -/
def angs (p : IVec S8192 32) : FVec Ideal S8192x16 .f32 :=
  mulf (broadcastInDim S8192x16 ![0, 1] bcast_S8192x1_S8192x16_0_1 (broadcastInDim S8192x1 ![0] bcast_S8192_S8192x1_0 (sitofp .f32 p)))
    (broadcastInDim S8192x16 ![0, 1] bcast_S1x16_S8192x16_0_1 (broadcastInDim S1x16 ![1] bcast_S16_S1x16_1
      (Host.powf (broadcastInDim S16 ![] bcast_S_S16 (constant S_ .f32 0x461C4000#32))
        (Host.divf (Host.negf (sitofp .f32 (iotaInDim S16 32 0))) (broadcastInDim S16 ![] bcast_S_S16 (constant S_ .f32 0x41800000#32))))))

/-- A head's table, repeated for every head. -/
def tabs (f : FVec Ideal S8192x64 .f32) : FVec Ideal S8192x512 .f32 :=
  shapeCast S8192x512 (broadcastInDim S1x8192x8x64 ![0, 1, 2, 3] bcast_S1x8192x1x64_S1x8192x8x64_0_1_2_3
    (shapeCast S1x8192x1x64 f shapeCasts_S8192x64_S1x8192x1x64)) shapeCasts_S1x8192x8x64_S8192x512

/-- Four tables side by side. -/
def four (a b c d : FVec Ideal S8192x16 .f32) : FVec Ideal S8192x64 .f32 :=
  concatenate S8192x64 1 [⟨S8192x16, a⟩, ⟨S8192x16, b⟩, ⟨S8192x16, c⟩, ⟨S8192x16, d⟩] concatenates_S8192x16_S8192x16_S8192x16_S8192x16_S8192x64_d1

theorem four_congr (a b c d a' b' c' d' : FVec Ideal S8192x16 .f32) (ha : a = a') (hb : b = b') (hc : c = c') (hd : d = d') :
    tabs (four a b c d) = tabs (four a' b' c' d') := by
  rw [ha, hb, hc, hd]

abbrev all5 (v : IVec S_ 32) : IVec S512 32 := broadcastInDim S512 ![] bcast_S_S512 v
abbrev columns5 : IVec S512 32 := iotaInDim S512 32 0

/-- The head of every column. -/
def heads : IVec S512 32 :=
  select (andi (cmpi .ne (signi columns5) (all5 (signi sixtyFour))) (cmpi .ne (Host.remsi columns5 (all5 sixtyFour)) (all5 (constantI S_ 32 0#32))))
    (subi (Host.divsi columns5 (all5 sixtyFour)) (all5 (constantI S_ 32 1#32))) (Host.divsi columns5 (all5 sixtyFour))

/-- The table that averages a head's columns. -/
def means : FVec Ideal S512x512 .bf16 :=
  truncf .bf16 (select (cmpi .eq (broadcastInDim S512x512 ![0, 1] bcast_S512x1_S512x512_0_1 (broadcastInDim S512x1 ![0] bcast_S512_S512x1_0 heads))
      (broadcastInDim S512x512 ![0, 1] bcast_S1x512_S512x512_0_1 (broadcastInDim S1x512 ![1] bcast_S512_S1x512_1 heads)))
    (broadcastInDim S512x512 ![] bcast_S_S512x512 (constant (F := Ideal) S_ .f32 0x3C800000#32))
    (broadcastInDim S512x512 ![] bcast_S_S512x512 (constant (F := Ideal) S_ .f32 0x00000000#32))) bitsLt_bf16_f32

theorem pick35_0 (W : Valuation τ sig (Elt Ideal)) (f : FVec Ideal S8192x16 .f32) (h : W (Proc.devRef .tc main_v21) = f) :
    W (Proc.devRef .tc ((![main_v21, main_v22, main_v23, main_v24] : Fin 4 → Ref sig .tc) 0)) = f := h

theorem pick35_1 (W : Valuation τ sig (Elt Ideal)) (f : FVec Ideal S8192x16 .f32) (h : W (Proc.devRef .tc main_v22) = f) :
    W (Proc.devRef .tc ((![main_v21, main_v22, main_v23, main_v24] : Fin 4 → Ref sig .tc) 1)) = f := h

theorem pick35_2 (W : Valuation τ sig (Elt Ideal)) (f : FVec Ideal S8192x16 .f32) (h : W (Proc.devRef .tc main_v23) = f) :
    W (Proc.devRef .tc ((![main_v21, main_v22, main_v23, main_v24] : Fin 4 → Ref sig .tc) 2)) = f := h

theorem pick35_3 (W : Valuation τ sig (Elt Ideal)) (f : FVec Ideal S8192x16 .f32) (h : W (Proc.devRef .tc main_v24) = f) :
    W (Proc.devRef .tc ((![main_v21, main_v22, main_v23, main_v24] : Fin 4 → Ref sig .tc) 3)) = f := h

theorem pick38_0 (W : Valuation τ sig (Elt Ideal)) (f : FVec Ideal S8192x16 .f32) (h : W (Proc.devRef .tc main_v27) = f) :
    W (Proc.devRef .tc ((![main_v27, main_v28, main_v30, main_v31] : Fin 4 → Ref sig .tc) 0)) = f := h

theorem pick38_1 (W : Valuation τ sig (Elt Ideal)) (f : FVec Ideal S8192x16 .f32) (h : W (Proc.devRef .tc main_v28) = f) :
    W (Proc.devRef .tc ((![main_v27, main_v28, main_v30, main_v31] : Fin 4 → Ref sig .tc) 1)) = f := h

theorem pick38_2 (W : Valuation τ sig (Elt Ideal)) (f : FVec Ideal S8192x16 .f32) (h : W (Proc.devRef .tc main_v30) = f) :
    W (Proc.devRef .tc ((![main_v27, main_v28, main_v30, main_v31] : Fin 4 → Ref sig .tc) 2)) = f := h

theorem pick38_3 (W : Valuation τ sig (Elt Ideal)) (f : FVec Ideal S8192x16 .f32) (h : W (Proc.devRef .tc main_v31) = f) :
    W (Proc.devRef .tc ((![main_v27, main_v28, main_v30, main_v31] : Fin 4 → Ref sig .tc) 3)) = f := h

set_option maxHeartbeats 4000000 in
theorem V_main_v48 (c : Dev nD) : V m c main_v48 = means := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

set_option maxHeartbeats 4000000 in
theorem V_main_v52 (c : Dev nD) : V m c main_v52
    = shapeCast S1x512 (shapeCast S512 (broadcastInDim S8x64 ![0, 1] bcast_S1x64_S8x64_0_1
        (shapeCast S1x64 (m ((c : Thread nD τ).loc main_arg3)) shapeCasts_S64_S1x64)) shapeCasts_S8x64_S512) shapeCasts_S512_S1x512 := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

set_option maxHeartbeats 4000000 in
theorem V_main_v56 (c : Dev nD) : V m c main_v56
    = shapeCast S1x128 (shapeCast S128 (broadcastInDim S2x64 ![0, 1] bcast_S1x64_S2x64_0_1
        (shapeCast S1x64 (m ((c : Thread nD τ).loc main_arg4)) shapeCasts_S64_S1x64)) shapeCasts_S2x64_S128) shapeCasts_S128_S1x128 := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

set_option maxHeartbeats 4000000 in
theorem V_main_v39 (c : Dev nD) : V m c main_v39 = truncf (F := Ideal) .bf16 (m ((c : Thread nD τ).loc main_arg1)) bitsLt_bf16_f32 := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp

set_option maxHeartbeats 8000000 in
theorem V_main_v35 (c : Dev nD) : V m c main_v35 = tabs (four (Host.cos (angs rows)) (Host.cos (angs rows)) (Host.cos (angs cols)) (Host.cos (angs cols))) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  refine four_congr _ _ _ _ _ _ _ _ (pick35_0 _ _ ?_) (pick35_1 _ _ ?_) (pick35_2 _ _ ?_) (pick35_3 _ _ ?_)
  all_goals
    after_results_simp
    rfl

set_option maxHeartbeats 8000000 in
theorem V_main_v38 (c : Dev nD) : V m c main_v38
    = tabs (four (Host.negf (Host.sin (angs rows))) (Host.sin (angs rows)) (Host.negf (Host.sin (angs cols))) (Host.sin (angs cols))) := by
  unfold V
  simp only [hostOps0, hostOps0_1, hostOps0_2, hostOps0_3, hostOps0_4, hostOps0_5, hostOps0_6, hostOps0_7, hostOps0_8, List.flatten_cons,
    List.flatten_nil, List.append_nil, List.cons_append, List.nil_append]
  after_results_simp
  refine four_congr _ _ _ _ _ _ _ _ (pick38_0 _ _ ?_) (pick38_1 _ _ ?_) (pick38_2 _ _ ?_) (pick38_3 _ _ ?_)
  all_goals
    after_results_simp
    rfl

/-! ## What they hold -/

theorem rows_apply (t : Fin 8192) : rows (ix1 t) = BitVec.ofNat 32 (t.val / 64) := by
  revert t
  decide +kernel

theorem cols_apply (t : Fin 8192) : cols (ix1 t) = BitVec.ofNat 32 (t.val % 64) := by
  revert t
  decide +kernel

theorem heads_apply (t : Fin 512) : heads (ix1 t) = BitVec.ofNat 32 (t.val / 64) := by
  revert t
  decide +kernel

theorem angs_apply (p : IVec S8192 32) (t : Fin 8192) (j : Fin 16) : angs p (ix2 t j)
    = FloatOps.sitofp (F := Ideal) FTy.f32 (p (ix1 t)) * Ideal.pow (Ideal.ofBits FTy.f32 0x461C4000#32)
        (Ideal.div (-FloatOps.sitofp (F := Ideal) FTy.f32 (BitVec.ofNat 32 j.val)) (Ideal.ofBits FTy.f32 0x41800000#32)) := by
  pointwise [angs]

theorem tabs_apply (f : FVec Ideal S8192x64 .f32) (t : Fin 8192) (d : Fin 512) : tabs f (ix2 t d) = f (ix2 t ⟨d.val % 64, by omega⟩) := by
  pointwise [tabs]

theorem four_apply (a b c d : FVec Ideal S8192x16 .f32) (t : Fin 8192) (j : Fin 64) : four a b c d (ix2 t j)
    = (if j.val / 32 < 1 then if j.val / 16 % 2 < 1 then a (ix2 t ⟨j.val % 16, by omega⟩) else b (ix2 t ⟨j.val % 16, by omega⟩)
      else if j.val / 16 % 2 < 1 then c (ix2 t ⟨j.val % 16, by omega⟩) else d (ix2 t ⟨j.val % 16, by omega⟩)) := by
  pointwise [four]
  by_cases h1 : j.val < 16
  · rw [dif_pos h1, if_pos (show j.val / 32 < 1 by omega), if_pos (show j.val / 16 % 2 < 1 by omega)]
    exact congrArg (fun x => a (ix2 t x)) (Fin.ext (show j.val = j.val % 16 by omega))
  · rw [dif_neg h1]
    by_cases h2 : j.val - 16 < 16
    · rw [dif_pos h2, if_pos (show j.val / 32 < 1 by omega), if_neg (show ¬ j.val / 16 % 2 < 1 by omega)]
      exact congrArg (fun x => b (ix2 t x)) (Fin.ext (show j.val - 16 = j.val % 16 by omega))
    · rw [dif_neg h2]
      by_cases h3 : j.val - 16 - 16 < 16
      · rw [dif_pos h3, if_neg (show ¬ j.val / 32 < 1 by omega), if_pos (show j.val / 16 % 2 < 1 by omega)]
        exact congrArg (fun x => c (ix2 t x)) (Fin.ext (show j.val - 16 - 16 = j.val % 16 by omega))
      · rw [dif_neg h3, if_neg (show ¬ j.val / 32 < 1 by omega), if_neg (show ¬ j.val / 16 % 2 < 1 by omega)]
        exact congrArg (fun x => d (ix2 t x)) (Fin.ext (show j.val - 16 - 16 - 16 = j.val % 16 by omega))

theorem same_head (a b : Fin 8) : IntOp.cmpi .eq (BitVec.ofNat 32 a.val) (BitVec.ofNat 32 b.val) = if a.val = b.val then 1#1 else 0#1 := by
  revert a b
  decide

theorem means_apply (i j : Fin 512) : means (ix2 i j) = if i.val / 64 = j.val / 64 then column else 0 := by
  have e := same_head ⟨i.val / 64, by omega⟩ ⟨j.val / 64, by omega⟩
  pointwise [means]
  rw [heads_apply, heads_apply, e]
  dsimp only
  split_ifs <;> rfl

theorem gainQ_apply (g : FVec Ideal S64 .f32) (d : Fin 512) :
    shapeCast S1x512 (shapeCast S512 (broadcastInDim S8x64 ![0, 1] bcast_S1x64_S8x64_0_1 (shapeCast S1x64 g shapeCasts_S64_S1x64))
      shapeCasts_S8x64_S512) shapeCasts_S512_S1x512 (ix2 0 d) = g (ix1 ⟨d.val % 64, by omega⟩) := by
  pointwise

theorem gainK_apply (g : FVec Ideal S64 .f32) (d : Fin 128) :
    shapeCast S1x128 (shapeCast S128 (broadcastInDim S2x64 ![0, 1] bcast_S1x64_S2x64_0_1 (shapeCast S1x64 g shapeCasts_S64_S1x64))
      shapeCasts_S2x64_S128) shapeCasts_S128_S1x128 (ix2 0 d) = g (ix1 ⟨d.val % 64, by omega⟩) := by
  pointwise

theorem cos_apply (t : Fin 8192) (d : Fin 512) :
    tabs (four (Host.cos (angs rows)) (Host.cos (angs rows)) (Host.cos (angs cols)) (Host.cos (angs cols))) (ix2 t d)
      = Ideal.cos (angle t.val (d.val % 64 / 32) (d.val % 16)) := by
  have e : d.val % 64 % 16 = d.val % 16 := by omega
  have hc : ∀ (p : IVec S8192 32) (i : S8192x16.Idx), (Host.cos (angs p) : FVec Ideal S8192x16 .f32) i = Ideal.cos (angs p i) := fun _ _ => rfl
  rw [tabs_apply, four_apply]
  simp only [hc, angs_apply, rows_apply, cols_apply, e]
  unfold angle
  split_ifs <;> rfl

theorem sin_apply (t : Fin 8192) (d : Fin 512) :
    tabs (four (Host.negf (Host.sin (angs rows))) (Host.sin (angs rows)) (Host.negf (Host.sin (angs cols))) (Host.sin (angs cols))) (ix2 t d)
      = if d.val / 16 % 2 < 1 then -Ideal.sin (angle t.val (d.val % 64 / 32) (d.val % 16)) else Ideal.sin (angle t.val (d.val % 64 / 32) (d.val % 16)) := by
  have e : d.val % 64 % 16 = d.val % 16 := by omega
  have e' : d.val % 64 / 16 % 2 = d.val / 16 % 2 := by omega
  have hs : ∀ (p : IVec S8192 32) (i : S8192x16.Idx), (Host.sin (angs p) : FVec Ideal S8192x16 .f32) i = Ideal.sin (angs p i) := fun _ _ => rfl
  have hn : ∀ (p : FVec Ideal S8192x16 .f32) (i : S8192x16.Idx), (Host.negf p : FVec Ideal S8192x16 .f32) i = -(p i : EReal) := fun _ _ => rfl
  rw [tabs_apply, four_apply]
  simp only [hn, hs, angs_apply, rows_apply, cols_apply, e, e']
  unfold angle
  split_ifs <;> rfl

end Cert.EvenInIdeal.Tables

end
-- ==== Proof.EvenInTurn.lean ====
/- How the kernel normalises and turns the heads of a row all at once, and that it is what is asked of each head. -/
module

public import proofs.«01_k».proof.Proof.EvenInMath

@[expose] public section

noncomputable section

open Idealize.ShloMosaic

namespace Cert.Proof.EvenIn

/-- A column over the root of a weighted sum of the row's squares, times the gain. -/
abbrev nrm {n : ℕ} (u g : Fin n → EReal) (b : Fin n → Fin n → EReal) (d : Fin n) : EReal := u d * Ideal.rsqrt (∑ x, u x * u x * b x d + eps) * g d

/-- A column's partner: sixteen to the right in the first half of each run of 32, sixteen to the left in the second. -/
def partner {n : ℕ} (hn : n % 32 = 0) (d : Fin n) : Fin n :=
  if h : d.val / 16 % 2 < 1 then ⟨d.val + 16, by omega⟩ else ⟨d.val - 16, by omega⟩

theorem partner_first {n : ℕ} (hn : n % 32 = 0) (d : Fin n) (h : d.val / 16 % 2 < 1) : (partner hn d).val = d.val + 16 := by
  unfold partner
  rw [dif_pos h]

theorem partner_second {n : ℕ} (hn : n % 32 = 0) (d : Fin n) (h : ¬ d.val / 16 % 2 < 1) : (partner hn d).val = d.val - 16 := by
  unfold partner
  rw [dif_neg h]

theorem nrm_head {n : ℕ} (u g : Fin n → EReal) (b : Fin n → Fin n → EReal) (gain : Fin 64 → EReal)
    (hg : ∀ d, g d = gain ⟨d.val % 64, by omega⟩) (hb : ∀ x d, b x d = if x.val / 64 = d.val / 64 then column else 0)
    (e : ℕ) (he : e * 64 + 64 ≤ n) (j : Fin 64) (d : Fin n) (hd : d.val = e * 64 + j.val) :
    nrm u g b d = normed (fun x => u ⟨e * 64 + x.val, by omega⟩) gain j := by
  have e1 : d.val / 64 = e := by omega
  have e2 : (⟨d.val % 64, by omega⟩ : Fin 64) = j := Fin.ext (by show d.val % 64 = j.val; omega)
  have e3 : u d = u ⟨e * 64 + j.val, by omega⟩ := congrArg u (Fin.ext hd)
  unfold nrm normed
  rw [hg, e2, mean_eq, e3]
  simp only [hb, e1]
  rw [sum_head n (fun x => u x * u x) e he column ⟨64⁻¹, by norm_num, column_eq⟩]

theorem spin_head {n : ℕ} (hn : n % 32 = 0) (y : Fin n → EReal) (Y : Fin 64 → EReal) (t e : ℕ) (he : e * 64 + 64 ≤ n)
    (hy : ∀ (x : Fin 64) (d : Fin n), d.val = e * 64 + x.val → y d = Y x) (j : Fin 64) (d : Fin n) (hd : d.val = e * 64 + j.val) :
    y d * Ideal.cos (angle t (d.val % 64 / 32) (d.val % 16)) + y (partner hn d)
        * (if d.val / 16 % 2 < 1 then -Ideal.sin (angle t (d.val % 64 / 32) (d.val % 16)) else Ideal.sin (angle t (d.val % 64 / 32) (d.val % 16)))
      = turned Y t j := by
  have e1 : d.val % 64 / 32 = j.val / 32 := by omega
  have e2 : d.val % 16 = j.val % 16 := by omega
  have e3 : d.val / 16 % 2 = j.val / 16 % 2 := by omega
  unfold turned
  rw [e1, e2, e3]
  by_cases h : j.val / 16 % 2 < 1
  · have p := partner_first hn d (by omega)
    rw [if_pos h, if_pos h, hy (lo j) d (by show _ = e * 64 + (j.val / 32 * 32 + j.val % 16); omega),
      hy (hi j) (partner hn d) (by show _ = e * 64 + (j.val / 32 * 32 + 16 + j.val % 16); omega), mul_neg, sub_eq_add_neg]
  · have p := partner_second hn d (by omega)
    rw [if_neg h, if_neg h, hy (hi j) d (by show _ = e * 64 + (j.val / 32 * 32 + 16 + j.val % 16); omega),
      hy (lo j) (partner hn d) (by show _ = e * 64 + (j.val / 32 * 32 + j.val % 16); omega)]

/-- The four results, of the layer's input, the weights, the gain or the transform's table. -/
def queries (x : (⟨2, ![32768, 1024]⟩ : Shape).Idx → EReal) (w : (⟨2, ![1024, 1280]⟩ : Shape).Idx → EReal) (g : (⟨1, ![64]⟩ : Shape).Idx → EReal)
    (e : Fin 8) (i : Fin 32768) (j : Fin 64) : EReal :=
  turned (normed (fun k => prod x w i ⟨512 + (e.val * 64 + k.val), by omega⟩) (fun k => g (ix1 k))) (i.val % 8192) j * eighth

def keys (x : (⟨2, ![32768, 1024]⟩ : Shape).Idx → EReal) (w : (⟨2, ![1024, 1280]⟩ : Shape).Idx → EReal) (g : (⟨1, ![64]⟩ : Shape).Idx → EReal)
    (e : Fin 2) (i : Fin 32768) (j : Fin 64) : EReal :=
  turned (normed (fun k => prod x w i ⟨1024 + (e.val * 64 + k.val), by omega⟩) (fun k => g (ix1 k))) (i.val % 8192) j

def values (x : (⟨2, ![32768, 1024]⟩ : Shape).Idx → EReal) (w : (⟨2, ![1024, 1280]⟩ : Shape).Idx → EReal)
    (e : Fin 2) (i : Fin 32768) (j : Fin 64) : EReal :=
  prod x w i ⟨1152 + (e.val * 64 + j.val), by omega⟩

def spectra (x : (⟨2, ![32768, 1024]⟩ : Shape).Idx → EReal) (w : (⟨2, ![1024, 1280]⟩ : Shape).Idx → EReal) (cs : (⟨2, ![128, 256]⟩ : Shape).Idx → EReal)
    (e : Fin 2) (t : Fin 8192) (n : Fin 2048) : EReal :=
  ∑ k : Fin 128, prod x w ⟨n.val / 512 * 8192 + t.val, by omega⟩ ⟨n.val / 128 % 4 * 128 + k.val, by omega⟩ * cs (ix2 k ⟨e.val * 128 + n.val % 128, by omega⟩)

end Cert.Proof.EvenIn

end
-- ==== Proof.EvenInTile.lean ====
/- What one grid point of the input projection of an even layer computes of the blocks it reads. -/
module

public import proofs.«01_k».proof.Proof.Gen.EvenInIdeal.Value
public import proofs.«01_k».proof.Proof.EvenInTurn
public import Idealize.ShloMosaic.Lib.Pipeline.Value

@[expose] public section

set_option maxRecDepth 16384

noncomputable section

namespace Cert.EvenInIdeal.Tile

open Cert.EvenInIdeal Cert.EvenInIdeal.Gen Cert.Proof.EvenIn
open Idealize.ShloMosaic Idealize.ShloMosaic.TcCoe Idealize.SL.Sem

theorem prod_apply (x : Vec Ideal S512x1024 .f32) (w : Vec Ideal S1024x1280 .bf16) (r : Fin 512) (d : Fin 1280) :
    k0_pay4 x w (ix2 r d) = ∑ k : Fin 1024, x (ix2 r k) * w (ix2 k d) := by
  pointwise [k0_pay4]

/-- The lanes in the first half of each run of 32 take the first alternative. -/
theorem pick_apply (e : ℕ) (he : e < 128) (a b : EReal) :
    Scalar.select (IntOp.cmpi CmpIPredicate.slt (IntOp.andi (BitVec.ofNat 32 e) 31#32) 16#32) a b = if e / 16 % 2 < 1 then a else b := by
  have h : ∀ e : Fin 128, IntOp.cmpi CmpIPredicate.slt (IntOp.andi (BitVec.ofNat 32 e.val) 31#32) 16#32 = if e.val / 16 % 2 < 1 then 1#1 else 0#1 := by decide
  rw [h ⟨e, he⟩]
  dsimp only
  split_ifs <;> rfl

theorem q_apply (h : FVec Ideal S512x512 .f32) (g : Vec Ideal S1x512 .f32) (bm : Vec Ideal S512x512 .bf16) (c s : Vec Ideal S512x512 .f32)
    (r : Fin 512) (d : Fin 512) (y : Fin 512 → EReal)
    (hy : y = nrm (fun x => h (ix2 r x)) (fun x => g (ix2 0 x)) (fun x z => bm (ix2 x z))) :
    k0_pay19 k0_pay17 h g bm c s (ix2 r d) = (y d * c (ix2 r d) + y (partner (n := 512) rfl d) * s (ix2 r d)) * eighth := by
  pointwise [k0_pay19, k0_pay17]
  subst hy
  by_cases h1 : d.val < 128
  · rw [dif_pos h1, pick_apply _ h1]
    by_cases hh : d.val / 16 % 2 < 1
    · rw [if_pos (show (d.val) / 16 % 2 < 1 by omega)]
      have p := partner_first (n := 512) rfl d hh
      exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show (d.val + 128 - 112) % 128 = (partner (n := 512) rfl d).val by omega))
    · rw [if_neg (show ¬ (d.val) / 16 % 2 < 1 by omega)]
      have p := partner_second (n := 512) rfl d hh
      exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show (d.val + 128 - 16) % 128 = (partner (n := 512) rfl d).val by omega))
  · rw [dif_neg h1]
    by_cases h2 : d.val - 128 < 128
    · rw [dif_pos h2, pick_apply _ h2]
      by_cases hh : d.val / 16 % 2 < 1
      · rw [if_pos (show (d.val - 128) / 16 % 2 < 1 by omega)]
        have p := partner_first (n := 512) rfl d hh
        exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 128 + (d.val - 128 + 128 - 112) % 128 = (partner (n := 512) rfl d).val by omega))
      · rw [if_neg (show ¬ (d.val - 128) / 16 % 2 < 1 by omega)]
        have p := partner_second (n := 512) rfl d hh
        exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 128 + (d.val - 128 + 128 - 16) % 128 = (partner (n := 512) rfl d).val by omega))
    · rw [dif_neg h2]
      by_cases h3 : d.val - 128 - 128 < 128
      · rw [dif_pos h3, pick_apply _ h3]
        by_cases hh : d.val / 16 % 2 < 1
        · rw [if_pos (show (d.val - 128 - 128) / 16 % 2 < 1 by omega)]
          have p := partner_first (n := 512) rfl d hh
          exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 256 + (d.val - 128 - 128 + 128 - 112) % 128 = (partner (n := 512) rfl d).val by omega))
        · rw [if_neg (show ¬ (d.val - 128 - 128) / 16 % 2 < 1 by omega)]
          have p := partner_second (n := 512) rfl d hh
          exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 256 + (d.val - 128 - 128 + 128 - 16) % 128 = (partner (n := 512) rfl d).val by omega))
      · rw [dif_neg h3, pick_apply _ (show d.val - 128 - 128 - 128 < 128 by omega)]
        by_cases hh : d.val / 16 % 2 < 1
        · rw [if_pos (show (d.val - 128 - 128 - 128) / 16 % 2 < 1 by omega)]
          have p := partner_first (n := 512) rfl d hh
          exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 384 + (d.val - 128 - 128 - 128 + 128 - 112) % 128 = (partner (n := 512) rfl d).val by omega))
        · rw [if_neg (show ¬ (d.val - 128 - 128 - 128) / 16 % 2 < 1 by omega)]
          have p := partner_second (n := 512) rfl d hh
          exact congrArg (fun z => (nrm (fun x => h (ix2 r x)) (fun x => g (ix2 0 x)) (fun x z => bm (ix2 x z)) d * c (ix2 r d) + nrm (fun x => h (ix2 r x)) (fun x => g (ix2 0 x)) (fun x z => bm (ix2 x z)) z * s (ix2 r d)) * eighth) (Fin.ext (show 384 + (d.val - 128 - 128 - 128 + 128 - 16) % 128 = (partner (n := 512) rfl d).val by omega))

theorem k_apply (h : FVec Ideal S512x1280 .f32) (g : Vec Ideal S1x128 .f32) (bm : Vec Ideal S128x128 .bf16) (c s : Vec Ideal S512x128 .f32)
    (r : Fin 512) (d : Fin 128) (y : Fin 128 → EReal)
    (hy : y = nrm (fun x => h (ix2 r ⟨1024 + x.val, by omega⟩)) (fun x => g (ix2 0 x)) (fun x z => bm (ix2 x z))) :
    k0_pay29 h k0_pay17 g bm c s (ix2 r d) = y d * c (ix2 r d) + y (partner (n := 128) rfl d) * s (ix2 r d) := by
  pointwise [k0_pay29, k0_pay17]
  subst hy
  rw [pick_apply _ d.isLt]
  by_cases hh : d.val / 16 % 2 < 1
  · have p := partner_first (n := 128) rfl d hh
    have e : (d.val + 128 - 112) % 128 = (partner (n := 128) rfl d).val := by omega
    rw [if_pos hh]
    simp only [e, nrm, Fin.eta]
  · have p := partner_second (n := 128) rfl d hh
    have e : (d.val + 128 - 16) % 128 = (partner (n := 128) rfl d).val := by omega
    rw [if_neg hh]
    simp only [e, nrm, Fin.eta]

end Cert.EvenInIdeal.Tile

end
-- ==== Proof.EvenInBlocks.lean ====
/- The blocks that each grid point of the input projection of an even layer reads. -/
module

public import proofs.«01_k».proof.Proof.EvenInTables
public import proofs.«01_k».proof.Proof.EvenInTile

@[expose] public section

set_option maxRecDepth 16384

noncomputable section

namespace Cert.EvenInIdeal.Array

open Cert.EvenInIdeal Cert.EvenInIdeal.Gen Cert.EvenInIdeal.Tables Cert.Proof.EvenIn
open Idealize.ShloMosaic Idealize.ShloMosaic.TcCoe Idealize.SL.Sem

variable (m : (ℓ : Loc nD τ sig) → Buf (Elt Ideal) ℓ)

/-- The arguments on device `c`. -/
abbrev xs (c : Dev nD) : FVec Ideal S32768x1024 .f32 := m ((c : Thread nD τ).loc main_arg0)
abbrev w (c : Dev nD) : FVec Ideal S1024x1280 .f32 := m ((c : Thread nD τ).loc main_arg1)
abbrev cs (c : Dev nD) : FVec Ideal S128x256 .bf16 := m ((c : Thread nD τ).loc main_arg2)
abbrev gq (c : Dev nD) : FVec Ideal S64 .f32 := m ((c : Thread nD τ).loc main_arg3)
abbrev gk (c : Dev nD) : FVec Ideal S64 .f32 := m ((c : Thread nD τ).loc main_arg4)

/-! Point `t` of the grid takes rows `512 t` to `512 t + 511`: rows `512 (t % 16)` and on of sequence `t / 16`. -/

theorem index0 : ∀ t : Fin grid0.N, win0_0.index t 0 = t.val ∧ win0_0.index t 1 = 0 := by decide +kernel
theorem index1 : ∀ (t : Fin grid0.N) (a : Fin 2), win0_1.index t a = 0 := by decide +kernel
theorem index2 : ∀ (t : Fin grid0.N) (a : Fin 2), win0_2.index t a = 0 := by decide +kernel
theorem index3 : ∀ (t : Fin grid0.N) (a : Fin 2), win0_3.index t a = 0 := by decide +kernel
theorem index4 : ∀ (t : Fin grid0.N) (a : Fin 2), win0_4.index t a = 0 := by decide +kernel
theorem index5 : ∀ (t : Fin grid0.N) (a : Fin 2), win0_5.index t a = 0 := by decide +kernel
theorem index6 : ∀ t : Fin grid0.N, win0_6.index t 0 = t.val % 16 ∧ win0_6.index t 1 = 0 := by decide +kernel
theorem index7 : ∀ t : Fin grid0.N, win0_7.index t 0 = t.val % 16 ∧ win0_7.index t 1 = 0 := by decide +kernel

theorem lt_64 (t : Fin cfg0.N) : t.val < 64 := t.isLt.trans_eq N_0

theorem block0_apply (c : Dev nD) (t : Fin cfg0.N) (a0 : Fin 512) (a1 : Fin 1024) :
    (iblk m c 0 t : Vec Ideal S512x1024 .f32) (ix2 a0 a1) = xs m c (ix2 ⟨t.val * 512 + a0.val, by have := lt_64 t; omega⟩ a1) := by
  have e : (iblk m c 0 t : Vec Ideal S512x1024 .f32) (ix2 a0 a1) = V m c main_arg0 (ix2 ⟨t.val * 512 + a0.val, by have := lt_64 t; omega⟩ a1) := by
    unfold iblk
    rw [View.read_apply]
    show V m c main_arg0 _ = V m c main_arg0 _
    refine congrArg (V m c main_arg0) (funext fun b => Fin.ext ?_)
    match b with
    | ⟨0, _⟩ => show win0_0.index t 0 * 512 + 1 * a0.val = _; rw [(index0 t).1]; show t.val * 512 + 1 * a0.val = t.val * 512 + a0.val; omega
    | ⟨1, _⟩ => show win0_0.index t 1 * 1024 + 1 * a1.val = _; rw [(index0 t).2]; show 0 * 1024 + 1 * a1.val = a1.val; omega
  rw [e]
  rw [V_main_arg0]

theorem block1_apply (c : Dev nD) (t : Fin cfg0.N) (a0 : Fin 1024) (a1 : Fin 1280) :
    (iblk m c 1 t : Vec Ideal S1024x1280 .bf16) (ix2 a0 a1) = w m c (ix2 a0 a1) := by
  have e : (iblk m c 1 t : Vec Ideal S1024x1280 .bf16) (ix2 a0 a1) = V m c main_v39 (ix2 a0 a1) := by
    unfold iblk
    rw [View.read_apply]
    show V m c main_v39 _ = V m c main_v39 _
    refine congrArg (V m c main_v39) (funext fun b => Fin.ext ?_)
    match b with
    | ⟨0, _⟩ => show win0_1.index t 0 * 1024 + 1 * a0.val = _; rw [index1 t 0]; show 0 * 1024 + 1 * a0.val = a0.val; omega
    | ⟨1, _⟩ => show win0_1.index t 1 * 1280 + 1 * a1.val = _; rw [index1 t 1]; show 0 * 1280 + 1 * a1.val = a1.val; omega
  rw [e, V_main_v39]
  pointwise

theorem block2_apply (c : Dev nD) (t : Fin cfg0.N) (a0 : Fin 128) (a1 : Fin 256) :
    (iblk m c 2 t : Vec Ideal S128x256 .bf16) (ix2 a0 a1) = cs m c (ix2 a0 a1) := by
  have e : (iblk m c 2 t : Vec Ideal S128x256 .bf16) (ix2 a0 a1) = V m c main_arg2 (ix2 a0 a1) := by
    unfold iblk
    rw [View.read_apply]
    show V m c main_arg2 _ = V m c main_arg2 _
    refine congrArg (V m c main_arg2) (funext fun b => Fin.ext ?_)
    match b with
    | ⟨0, _⟩ => show win0_2.index t 0 * 128 + 1 * a0.val = _; rw [index2 t 0]; show 0 * 128 + 1 * a0.val = a0.val; omega
    | ⟨1, _⟩ => show win0_2.index t 1 * 256 + 1 * a1.val = _; rw [index2 t 1]; show 0 * 256 + 1 * a1.val = a1.val; omega
  rw [e]
  rw [V_main_arg2]

theorem block3_apply (c : Dev nD) (t : Fin cfg0.N) (a0 : Fin 512) (a1 : Fin 512) :
    (iblk m c 3 t : Vec Ideal S512x512 .bf16) (ix2 a0 a1) = (if a0.val / 64 = a1.val / 64 then column else 0) := by
  have e : (iblk m c 3 t : Vec Ideal S512x512 .bf16) (ix2 a0 a1) = V m c main_v48 (ix2 a0 a1) := by
    unfold iblk
    rw [View.read_apply]
    show V m c main_v48 _ = V m c main_v48 _
    refine congrArg (V m c main_v48) (funext fun b => Fin.ext ?_)
    match b with
    | ⟨0, _⟩ => show win0_3.index t 0 * 512 + 1 * a0.val = _; rw [index3 t 0]; show 0 * 512 + 1 * a0.val = a0.val; omega
    | ⟨1, _⟩ => show win0_3.index t 1 * 512 + 1 * a1.val = _; rw [index3 t 1]; show 0 * 512 + 1 * a1.val = a1.val; omega
  rw [e, V_main_v48, means_apply]

theorem block4_apply (c : Dev nD) (t : Fin cfg0.N) (a1 : Fin 512) :
    (iblk m c 4 t : Vec Ideal S1x512 .f32) (ix2 0 a1) = gq m c (ix1 ⟨a1.val % 64, by omega⟩) := by
  have e : (iblk m c 4 t : Vec Ideal S1x512 .f32) (ix2 0 a1) = V m c main_v52 (ix2 0 a1) := by
    unfold iblk
    rw [View.read_apply]
    show V m c main_v52 _ = V m c main_v52 _
    refine congrArg (V m c main_v52) (funext fun b => Fin.ext ?_)
    match b with
    | ⟨0, _⟩ => show win0_4.index t 0 * 1 + 1 * 0 = _; rw [index4 t 0]; show 0 * 1 + 1 * 0 = 0; omega
    | ⟨1, _⟩ => show win0_4.index t 1 * 512 + 1 * a1.val = _; rw [index4 t 1]; show 0 * 512 + 1 * a1.val = a1.val; omega
  rw [e, V_main_v52]
  exact gainQ_apply (gq m c) a1

theorem block5_apply (c : Dev nD) (t : Fin cfg0.N) (a1 : Fin 128) :
    (iblk m c 5 t : Vec Ideal S1x128 .f32) (ix2 0 a1) = gk m c (ix1 ⟨a1.val % 64, by omega⟩) := by
  have e : (iblk m c 5 t : Vec Ideal S1x128 .f32) (ix2 0 a1) = V m c main_v56 (ix2 0 a1) := by
    unfold iblk
    rw [View.read_apply]
    show V m c main_v56 _ = V m c main_v56 _
    refine congrArg (V m c main_v56) (funext fun b => Fin.ext ?_)
    match b with
    | ⟨0, _⟩ => show win0_5.index t 0 * 1 + 1 * 0 = _; rw [index5 t 0]; show 0 * 1 + 1 * 0 = 0; omega
    | ⟨1, _⟩ => show win0_5.index t 1 * 128 + 1 * a1.val = _; rw [index5 t 1]; show 0 * 128 + 1 * a1.val = a1.val; omega
  rw [e, V_main_v56]
  exact gainK_apply (gk m c) a1

theorem block6_apply (c : Dev nD) (t : Fin cfg0.N) (a0 : Fin 512) (a1 : Fin 512) :
    (iblk m c 6 t : Vec Ideal S512x512 .f32) (ix2 a0 a1) = Ideal.cos (angle (t.val % 16 * 512 + a0.val) (a1.val % 64 / 32) (a1.val % 16)) := by
  have e : (iblk m c 6 t : Vec Ideal S512x512 .f32) (ix2 a0 a1) = V m c main_v35 (ix2 ⟨t.val % 16 * 512 + a0.val, by omega⟩ a1) := by
    unfold iblk
    rw [View.read_apply]
    show V m c main_v35 _ = V m c main_v35 _
    refine congrArg (V m c main_v35) (funext fun b => Fin.ext ?_)
    match b with
    | ⟨0, _⟩ => show win0_6.index t 0 * 512 + 1 * a0.val = _; rw [(index6 t).1]; show t.val % 16 * 512 + 1 * a0.val = t.val % 16 * 512 + a0.val; omega
    | ⟨1, _⟩ => show win0_6.index t 1 * 512 + 1 * a1.val = _; rw [(index6 t).2]; show 0 * 512 + 1 * a1.val = a1.val; omega
  rw [e, V_main_v35, cos_apply]

theorem block7_apply (c : Dev nD) (t : Fin cfg0.N) (a0 : Fin 512) (a1 : Fin 512) :
    (iblk m c 7 t : Vec Ideal S512x512 .f32) (ix2 a0 a1) = (if a1.val / 16 % 2 < 1 then -Ideal.sin (angle (t.val % 16 * 512 + a0.val) (a1.val % 64 / 32) (a1.val % 16))
      else Ideal.sin (angle (t.val % 16 * 512 + a0.val) (a1.val % 64 / 32) (a1.val % 16))) := by
  have e : (iblk m c 7 t : Vec Ideal S512x512 .f32) (ix2 a0 a1) = V m c main_v38 (ix2 ⟨t.val % 16 * 512 + a0.val, by omega⟩ a1) := by
    unfold iblk
    rw [View.read_apply]
    show V m c main_v38 _ = V m c main_v38 _
    refine congrArg (V m c main_v38) (funext fun b => Fin.ext ?_)
    match b with
    | ⟨0, _⟩ => show win0_7.index t 0 * 512 + 1 * a0.val = _; rw [(index7 t).1]; show t.val % 16 * 512 + 1 * a0.val = t.val % 16 * 512 + a0.val; omega
    | ⟨1, _⟩ => show win0_7.index t 1 * 512 + 1 * a1.val = _; rw [(index7 t).2]; show 0 * 512 + 1 * a1.val = a1.val; omega
  rw [e, V_main_v38, sin_apply]

/-- The product at a row of the block. -/
theorem prod_block (c : Dev nD) (t : Fin cfg0.N) (r : Fin 512) (d : Fin 1280) :
    k0_pay4 (iblk m c 0 t) (iblk m c 1 t) (ix2 r d) = prod (xs m c) (w m c) ⟨t.val * 512 + r.val, by have := lt_64 t; omega⟩ d := by
  rw [Tile.prod_apply]
  unfold prod
  simp only [block0_apply m c t, block1_apply m c t]

theorem position (t : Fin cfg0.N) (r : Fin 512) : (t.val * 512 + r.val) % 8192 = t.val % 16 * 512 + r.val := by
  have := lt_64 t
  omega

/-- A point's queries. -/
theorem query_block (c : Dev nD) (t : Fin cfg0.N) (e : Fin 8) (r : Fin 512) (j : Fin 64) (d : Fin 512) (hd : d.val = e.val * 64 + j.val) :
    k0_pay19 k0_pay17 (extractStridedSlice S512x512 ![0, 512] (k0_pay4 (iblk m c 0 t) (iblk m c 1 t)) slices_S512x1280_o0_512_S512x512)
        (iblk m c 4 t) (iblk m c 3 t) (iblk m c 6 t) (iblk m c 7 t) (ix2 r d)
      = queries (xs m c) (w m c) (gq m c) e ⟨t.val * 512 + r.val, by have := lt_64 t; omega⟩ j := by
  have hu : ∀ x : Fin 512, extractStridedSlice S512x512 ![0, 512] (k0_pay4 (iblk m c 0 t) (iblk m c 1 t)) slices_S512x1280_o0_512_S512x512 (ix2 r x)
      = prod (xs m c) (w m c) ⟨t.val * 512 + r.val, by have := lt_64 t; omega⟩ ⟨512 + x.val, by omega⟩ := by
    intro x
    rw [← prod_block]
    pointwise
  rw [Tile.q_apply _ _ _ _ _ r d _ rfl, block6_apply, block7_apply]
  unfold queries
  rw [position]
  refine congrArg (· * eighth) (spin_head (n := 512) rfl _ _ _ e.val (by omega) (fun x z hz => ?_) j d hd)
  rw [nrm_head _ _ _ (fun k => gq m c (ix1 k)) (block4_apply m c t) (block3_apply m c t) e.val (by omega) x z hz]
  simp only [hu]

end Cert.EvenInIdeal.Array

end
-- ==== Proof.EvenInPieces.lean ====
/- What each grid point of the input projection of an even layer leaves in the blocks it writes. -/
module

public import proofs.«01_k».proof.Proof.EvenInBlocks

@[expose] public section

set_option maxRecDepth 16384

noncomputable section

namespace Cert.EvenInIdeal.Array

open Cert.EvenInIdeal Cert.EvenInIdeal.Gen Cert.Proof.EvenIn
open Idealize.ShloMosaic Idealize.ShloMosaic.TcCoe Idealize.SL.Sem
open Idealize.ShloMosaic.Pipeline (Dat)

variable (m : (ℓ : Loc nD τ sig) → Buf (Elt Ideal) ℓ)

/-! ## The keys use the corners of the tables -/

theorem corner128 (x : Vec Ideal S512x512 .bf16) (a b : Fin 128) :
    (View.ld (Val := Elt Ideal) x r0_22 : Vec Ideal S128x128 .bf16) (ix2 a b) = x (ix2 ⟨a.val, by omega⟩ ⟨b.val, by omega⟩) := by
  refine congrArg x (funext fun i => Fin.ext ?_)
  match i with
  | ⟨0, _⟩ => show 0 + 1 * a.val = a.val; omega
  | ⟨1, _⟩ => show 0 + 1 * b.val = b.val; omega

theorem corner512 (x : Vec Ideal S512x512 .f32) (a : Fin 512) (b : Fin 128) :
    (View.ld (Val := Elt Ideal) x r0_23 : Vec Ideal S512x128 .f32) (ix2 a b) = x (ix2 a ⟨b.val, by omega⟩) := by
  refine congrArg x (funext fun i => Fin.ext ?_)
  match i with
  | ⟨0, _⟩ => show 0 + 1 * a.val = a.val; omega
  | ⟨1, _⟩ => show 0 + 1 * b.val = b.val; omega

/-- A point's keys. -/
theorem key_block (c : Dev nD) (t : Fin cfg0.N) (e : Fin 2) (r : Fin 512) (j : Fin 64) (d : Fin 128) (hd : d.val = e.val * 64 + j.val) :
    k0_pay29 (k0_pay4 (iblk m c 0 t) (iblk m c 1 t)) k0_pay17 (iblk m c 5 t) (View.ld (Val := Elt Ideal) (iblk m c 3 t) r0_22)
        (View.ld (Val := Elt Ideal) (iblk m c 6 t) r0_23) (View.ld (Val := Elt Ideal) (iblk m c 7 t) r0_23) (ix2 r d)
      = keys (xs m c) (w m c) (gk m c) e ⟨t.val * 512 + r.val, by have := lt_64 t; omega⟩ j := by
  rw [Tile.k_apply _ _ _ _ _ r d _ rfl, corner512, corner512, block6_apply, block7_apply]
  unfold keys
  rw [position]
  refine spin_head (n := 128) rfl _ _ _ e.val (by omega) (fun x z hz => ?_) j d hd
  rw [nrm_head _ _ _ (fun k => gk m c (ix1 k)) (block5_apply m c t) (fun a b => (corner128 _ a b).trans (block3_apply m c t _ _)) e.val (by omega) x z hz]
  simp only [prod_block]

/-- A point's values. -/
theorem value_block (c : Dev nD) (t : Fin cfg0.N) (e : Fin 2) (r : Fin 512) (j : Fin 64) (d : Fin 1280) (hd : d.val = 1152 + (e.val * 64 + j.val)) :
    k0_pay4 (iblk m c 0 t) (iblk m c 1 t) (ix2 r d) = values (xs m c) (w m c) e ⟨t.val * 512 + r.val, by have := lt_64 t; omega⟩ j := by
  rw [prod_block]
  exact congrArg (prod (xs m c) (w m c) _) (Fin.ext hd)

/-! ## The transformed columns: eight tiles -/

/-- The block of transformed columns, of a block of products and the transform's table. -/
def tiles (h : FVec Ideal S512x1280 .f32) (cs : Vec Ideal S128x256 .bf16) : Vec Ideal S2x512x512 .bf16 := fun y =>
  have h0 : (y 0).val < 2 := (y 0).isLt
  have h2 : (y 2).val < 512 := (y 2).isLt
  (∑ k : Fin 128, h (ix2 (y 1) ⟨(y 2).val / 128 * 128 + k.val, by omega⟩) * cs (ix2 k ⟨(y 0).val * 128 + (y 2).val % 128, by omega⟩) : EReal)

/-- A tile stored for part `a` of the table and group `b` of columns. -/
theorem piece (h : FVec Ideal S512x1280 .f32) (cs : Vec Ideal S128x256 .bf16) (a b : ℕ) (ha : a < 2) (hb : b < 4)
    (inb : ∀ i : Fin 3, (![a, 0, b * 128] : Fin 3 → ℕ) i + (![1, 512, 128] : Fin 3 → ℕ) i ≤ S2x512x512.size i)
    (w : S1x512x128.Idx → EReal)
    (hw : ∀ (r : Fin 512) (f : Fin 128), w (ix3 0 r f)
      = ∑ k : Fin 128, h (ix2 r ⟨b * 128 + k.val, by omega⟩) * cs (ix2 k ⟨a * 128 + f.val, by omega⟩)) (x : S1x512x128.Idx) :
    w x = tiles h cs ((Rect.unit (s := S2x512x512) ![a, 0, b * 128] ![1, 512, 128] inb).emb x) := by
  obtain ⟨z, r, f, rfl⟩ : ∃ (z : Fin 1) (r : Fin 512) (f : Fin 128), x = ix3 z r f := ⟨x 0, x 1, x 2, eq_ix3 x⟩
  obtain rfl : z = 0 := Fin.eq_zero z
  rw [hw r f]
  refine Finset.sum_congr rfl fun k _ => congrArg₂ (· * ·) (congrArg h (funext fun i => Fin.ext ?_)) (congrArg cs (funext fun i => Fin.ext ?_))
  · match i with
    | ⟨0, _⟩ => show r.val = 0 + 1 * r.val; omega
    | ⟨1, _⟩ => show b * 128 + k.val = (b * 128 + 1 * f.val) / 128 * 128 + k.val; omega
  · match i with
    | ⟨0, _⟩ => rfl
    | ⟨1, _⟩ => show a * 128 + f.val = (a + 1 * 0) * 128 + (b * 128 + 1 * f.val) % 128; omega

theorem zero2 : (![0, 0] : Fin 2 → Nat) = fun _ => 0 := by decide

theorem out8_eq (x0 : Vec Ideal S512x1024 .f32) (x1 : Vec Ideal S1024x1280 .bf16) (x2 : Vec Ideal S128x256 .bf16) (x3 : Vec Ideal S512x512 .bf16)
    (x4 : Vec Ideal S1x512 .f32) (x5 : Vec Ideal S1x128 .f32) (x6 x7 : Vec Ideal S512x512 .f32) (y : S2x512x512.Idx) :
    out0_8 x0 x1 x2 x3 x4 x5 x6 x7 y = tiles (k0_pay4 x0 x1) x2 y := by
  unfold out0_8 k0_pay33
  simp only [View.ld_unit_zero (S := S512x1024) zero2, View.ld_unit_zero (S := S1024x1280) zero2, View.ld_unit_zero (S := S128x256) zero2]
  refine View.canon_apply_of_pieces (tiles (k0_pay4 x0 x1) x2) _ ?_ y (cover0_8 _ _ _ _ _ _ _ _ y)
  intro pc hpc
  rcases List.mem_cons.mp hpc with rfl | hpc
  · exact piece (k0_pay4 x0 x1) x2 1 3 (by omega) (by omega) inb_S2x512x512_S1x512x128_1_0_384 _ (fun r f => by pointwise [k0_pay16, k0_pay14])
  rcases List.mem_cons.mp hpc with rfl | hpc
  · exact piece (k0_pay4 x0 x1) x2 0 3 (by omega) (by omega) inb_S2x512x512_S1x512x128_0_0_384 _ (fun r f => by pointwise [k0_pay15, k0_pay14])
  rcases List.mem_cons.mp hpc with rfl | hpc
  · exact piece (k0_pay4 x0 x1) x2 1 2 (by omega) (by omega) inb_S2x512x512_S1x512x128_1_0_256 _ (fun r f => by pointwise [k0_pay13, k0_pay11])
  rcases List.mem_cons.mp hpc with rfl | hpc
  · exact piece (k0_pay4 x0 x1) x2 0 2 (by omega) (by omega) inb_S2x512x512_S1x512x128_0_0_256 _ (fun r f => by pointwise [k0_pay12, k0_pay11])
  rcases List.mem_cons.mp hpc with rfl | hpc
  · exact piece (k0_pay4 x0 x1) x2 1 1 (by omega) (by omega) inb_S2x512x512_S1x512x128_1_0_128 _ (fun r f => by pointwise [k0_pay10, k0_pay8])
  rcases List.mem_cons.mp hpc with rfl | hpc
  · exact piece (k0_pay4 x0 x1) x2 0 1 (by omega) (by omega) inb_S2x512x512_S1x512x128_0_0_128 _ (fun r f => by pointwise [k0_pay9, k0_pay8])
  rcases List.mem_cons.mp hpc with rfl | hpc
  · exact piece (k0_pay4 x0 x1) x2 1 0 (by omega) (by omega) inb_S2x512x512_S1x512x128_1_0_0 _ (fun r f => by pointwise [k0_pay7, k0_pay5])
  rcases List.mem_cons.mp hpc with rfl | hpc
  · exact piece (k0_pay4 x0 x1) x2 0 0 (by omega) (by omega) inb_S2x512x512_S1x512x128_0_0_0 _ (fun r f => by pointwise [k0_pay6, k0_pay5])
  nomatch hpc

theorem out9_eq (x0 : Vec Ideal S512x1024 .f32) (x1 : Vec Ideal S1024x1280 .bf16) (x2 : Vec Ideal S128x256 .bf16) (x3 : Vec Ideal S512x512 .bf16)
    (x4 : Vec Ideal S1x512 .f32) (x5 : Vec Ideal S1x128 .f32) (x6 x7 : Vec Ideal S512x512 .f32) (y : S8x512x64.Idx) :
    out0_9 x0 x1 x2 x3 x4 x5 x6 x7 y = Value.E9 x0 x1 x4 x3 x6 x7 y := by
  unfold out0_9
  rw [← Value.canon9_eq]
  simp only [k0_pay36, k0_pay35, k0_pay34, k0_pay33, View.ld_unit_zero (S := S512x1024) zero2, View.ld_unit_zero (S := S1024x1280) zero2,
    View.ld_unit_zero (S := S1x512) zero2, View.ld_unit_zero (S := S512x512) zero2]

theorem out10_eq (x0 : Vec Ideal S512x1024 .f32) (x1 : Vec Ideal S1024x1280 .bf16) (x2 : Vec Ideal S128x256 .bf16) (x3 : Vec Ideal S512x512 .bf16)
    (x4 : Vec Ideal S1x512 .f32) (x5 : Vec Ideal S1x128 .f32) (x6 x7 : Vec Ideal S512x512 .f32) (y : S2x512x64.Idx) :
    out0_10 x0 x1 x2 x3 x4 x5 x6 x7 y
      = Value.E10 x0 x1 x5 (View.ld (Val := Elt Ideal) x3 r0_22) (View.ld (Val := Elt Ideal) x6 r0_23) (View.ld (Val := Elt Ideal) x7 r0_23) y := by
  unfold out0_10
  rw [← Value.canon10_eq]
  simp only [k0_pay34, k0_pay33, View.ld_unit_zero (S := S512x1024) zero2, View.ld_unit_zero (S := S1024x1280) zero2, View.ld_unit_zero (S := S1x128) zero2]

theorem out11_eq (x0 : Vec Ideal S512x1024 .f32) (x1 : Vec Ideal S1024x1280 .bf16) (x2 : Vec Ideal S128x256 .bf16) (x3 : Vec Ideal S512x512 .bf16)
    (x4 : Vec Ideal S1x512 .f32) (x5 : Vec Ideal S1x128 .f32) (x6 x7 : Vec Ideal S512x512 .f32) (y : S2x512x64.Idx) :
    out0_11 x0 x1 x2 x3 x4 x5 x6 x7 y = Value.E11 x0 x1 y := by
  unfold out0_11
  rw [← Value.canon11_eq]
  simp only [k0_pay33, View.ld_unit_zero (S := S512x1024) zero2, View.ld_unit_zero (S := S1024x1280) zero2]

/-! ## What a point leaves, in the terms of the layer -/

theorem out8_block (c : Dev nD) (t : Fin cfg0.N) (e : Fin 2) (r : Fin 512) (d : Fin 512) :
    out0_8 (iblk m c 0 t) (iblk m c 1 t) (iblk m c 2 t) (iblk m c 3 t) (iblk m c 4 t) (iblk m c 5 t) (iblk m c 6 t) (iblk m c 7 t) (ix3 e r d)
      = spectra (xs m c) (w m c) (cs m c) e ⟨t.val % 16 * 512 + r.val, by omega⟩ ⟨t.val / 16 * 512 + d.val, by have := lt_64 t; omega⟩ := by
  have ht := lt_64 t
  rw [out8_eq]
  unfold tiles spectra
  refine Finset.sum_congr rfl fun k _ => congrArg₂ (· * ·) ((prod_block m c t r ⟨d.val / 128 * 128 + k.val, by omega⟩).trans
    (congrArg₂ (prod (xs m c) (w m c)) (Fin.ext ?_) (Fin.ext ?_))) ((block2_apply m c t k ⟨e.val * 128 + d.val % 128, by omega⟩).trans
      (congrArg (cs m c) (congrArg (ix2 k) (Fin.ext ?_))))
  · show t.val * 512 + r.val = (t.val / 16 * 512 + d.val) / 512 * 8192 + (t.val % 16 * 512 + r.val); omega
  · show d.val / 128 * 128 + k.val = (t.val / 16 * 512 + d.val) / 128 % 4 * 128 + k.val; omega
  · show e.val * 128 + d.val % 128 = e.val * 128 + (t.val / 16 * 512 + d.val) % 128; omega

theorem out9_block (c : Dev nD) (t : Fin cfg0.N) (e : Fin 8) (r : Fin 512) (j : Fin 64) :
    out0_9 (iblk m c 0 t) (iblk m c 1 t) (iblk m c 2 t) (iblk m c 3 t) (iblk m c 4 t) (iblk m c 5 t) (iblk m c 6 t) (iblk m c 7 t) (ix3 e r j)
      = queries (xs m c) (w m c) (gq m c) e ⟨t.val * 512 + r.val, by have := lt_64 t; omega⟩ j := by
  rw [out9_eq]
  show k0_pay19 k0_pay17 (extractStridedSlice S512x512 ![0, 512] (k0_pay4 (iblk m c 0 t) (iblk m c 1 t)) slices_S512x1280_o0_512_S512x512)
        (iblk m c 4 t) (iblk m c 3 t) (iblk m c 6 t) (iblk m c 7 t) (Value.ix9_0 (ix3 e r j)) = _
  have hx : Value.ix9_0 (ix3 e r j) = ix2 r (⟨e.val * 64 + j.val, by omega⟩ : Fin 512) := by
    funext i
    match i with
    | ⟨0, _⟩ => rfl
    | ⟨1, _⟩ => rfl
  rw [hx]
  exact query_block m c t e r j _ rfl

theorem out10_block (c : Dev nD) (t : Fin cfg0.N) (e : Fin 2) (r : Fin 512) (j : Fin 64) :
    out0_10 (iblk m c 0 t) (iblk m c 1 t) (iblk m c 2 t) (iblk m c 3 t) (iblk m c 4 t) (iblk m c 5 t) (iblk m c 6 t) (iblk m c 7 t) (ix3 e r j)
      = keys (xs m c) (w m c) (gk m c) e ⟨t.val * 512 + r.val, by have := lt_64 t; omega⟩ j := by
  rw [out10_eq]
  show k0_pay29 (k0_pay4 (iblk m c 0 t) (iblk m c 1 t)) k0_pay17 (iblk m c 5 t) (View.ld (Val := Elt Ideal) (iblk m c 3 t) r0_22)
        (View.ld (Val := Elt Ideal) (iblk m c 6 t) r0_23) (View.ld (Val := Elt Ideal) (iblk m c 7 t) r0_23) (Value.ix10_0 (ix3 e r j)) = _
  have hx : Value.ix10_0 (ix3 e r j) = ix2 r (⟨e.val * 64 + j.val, by omega⟩ : Fin 128) := by
    funext i
    match i with
    | ⟨0, _⟩ => rfl
    | ⟨1, _⟩ => rfl
  rw [hx]
  exact key_block m c t e r j _ rfl

theorem out11_block (c : Dev nD) (t : Fin cfg0.N) (e : Fin 2) (r : Fin 512) (j : Fin 64) :
    out0_11 (iblk m c 0 t) (iblk m c 1 t) (iblk m c 2 t) (iblk m c 3 t) (iblk m c 4 t) (iblk m c 5 t) (iblk m c 6 t) (iblk m c 7 t) (ix3 e r j)
      = values (xs m c) (w m c) e ⟨t.val * 512 + r.val, by have := lt_64 t; omega⟩ j := by
  rw [out11_eq]
  show k0_pay4 (iblk m c 0 t) (iblk m c 1 t) (Value.ix11_0 (ix3 e r j)) = _
  have hx : Value.ix11_0 (ix3 e r j) = ix2 r (⟨e.val * 64 + j.val + 1152, by omega⟩ : Fin 1280) := by
    funext i
    match i with
    | ⟨0, _⟩ => rfl
    | ⟨1, _⟩ => rfl
  rw [hx]
  exact value_block m c t e r j _ (by show e.val * 64 + j.val + 1152 = 1152 + (e.val * 64 + j.val); omega)

end Cert.EvenInIdeal.Array

end
-- ==== Proof.EvenInArray.lean ====
/- What the result arrays of the input projection of an even layer hold at the end, at every index. -/
module

public import proofs.«01_k».proof.Proof.EvenInPieces

@[expose] public section

set_option maxRecDepth 16384

noncomputable section

namespace Cert.EvenInIdeal.Array

open Cert.EvenInIdeal Cert.EvenInIdeal.Gen Cert.Proof.EvenIn
open Idealize.ShloMosaic Idealize.ShloMosaic.TcCoe Idealize.SL.Sem
open Idealize.ShloMosaic.Pipeline (Dat)

variable (m : (ℓ : Loc nD τ sig) → Buf (Elt Ideal) ℓ)

theorem index8 : ∀ t : Fin grid0.N, win0_8.index t 0 = 0 ∧ win0_8.index t 1 = t.val % 16 ∧ win0_8.index t 2 = t.val / 16 := by decide +kernel
theorem index9 : ∀ t : Fin grid0.N, win0_9.index t 0 = 0 ∧ win0_9.index t 1 = t.val ∧ win0_9.index t 2 = 0 := by decide +kernel
theorem index10 : ∀ t : Fin grid0.N, win0_10.index t 0 = 0 ∧ win0_10.index t 1 = t.val ∧ win0_10.index t 2 = 0 := by decide +kernel
theorem index11 : ∀ t : Fin grid0.N, win0_11.index t 0 = 0 ∧ win0_11.index t 1 = t.val ∧ win0_11.index t 2 = 0 := by decide +kernel

/-- The results' contents. -/
abbrev result8 (c : Dev nD) : Buf (Elt Ideal) ((c : Thread nD τ).loc main_v57_0) :=
  fun y : S2x8192x2048.Idx => spectra (xs m c) (w m c) (cs m c) (y 0) (y 1) (y 2)
abbrev result9 (c : Dev nD) : Buf (Elt Ideal) ((c : Thread nD τ).loc main_v57_1) :=
  fun y : S8x32768x64.Idx => queries (xs m c) (w m c) (gq m c) (y 0) (y 1) (y 2)
abbrev result10 (c : Dev nD) : Buf (Elt Ideal) ((c : Thread nD τ).loc main_v57_2) :=
  fun y : S2x32768x64.Idx => keys (xs m c) (w m c) (gk m c) (y 0) (y 1) (y 2)
abbrev result11 (c : Dev nD) : Buf (Elt Ideal) ((c : Thread nD τ).loc main_v57_3) :=
  fun y : S2x32768x64.Idx => values (xs m c) (w m c) (y 0) (y 1) (y 2)

/-! ## The transformed columns -/

/-- What point `t` writes back is its block of the result. -/
theorem flushed8_eq (c : Dev nD) (t : Fin cfg0.N) :
    (dats m 0 c).flushed 8 t = ((cfg0.win 8).blk t).view.read (Elt Ideal) (result8 m c) := by
  have ht := lt_64 t
  rw [Value.flushed8]
  funext y
  obtain ⟨e, r, d, rfl⟩ : ∃ (e : Fin 2) (r : Fin 512) (d : Fin 512), y = ix3 e r d := ⟨y 0, y 1, y 2, eq_ix3 y⟩
  refine Eq.trans (b := out0_8 (iblk m c 0 t) (iblk m c 1 t) (iblk m c 2 t) (iblk m c 3 t) (iblk m c 4 t) (iblk m c 5 t) (iblk m c 6 t) (iblk m c 7 t)
    (ix3 e r d)) rfl ?_
  rw [out8_block, View.read_apply, cast_eq]
  have hi := index8 t
  have e0 : (((cfg0.win 8).blk t).view.emb (ix3 e r d) : S2x8192x2048.Idx) 0 = e := Fin.ext (by
    show win0_8.index t 0 * 2 + 1 * e.val = e.val
    rw [hi.1]; omega)
  have e1 : (((cfg0.win 8).blk t).view.emb (ix3 e r d) : S2x8192x2048.Idx) 1 = (⟨t.val % 16 * 512 + r.val, by omega⟩ : Fin 8192) := Fin.ext (by
    show win0_8.index t 1 * 512 + 1 * r.val = t.val % 16 * 512 + r.val
    rw [hi.2.1]; omega)
  have e2 : (((cfg0.win 8).blk t).view.emb (ix3 e r d) : S2x8192x2048.Idx) 2 = (⟨t.val / 16 * 512 + d.val, by omega⟩ : Fin 2048) := Fin.ext (by
    show win0_8.index t 2 * 512 + 1 * d.val = t.val / 16 * 512 + d.val
    rw [hi.2.2]; omega)
  show _ = spectra (xs m c) (w m c) (cs m c) ((((cfg0.win 8).blk t).view.emb (ix3 e r d) : S2x8192x2048.Idx) 0)
    ((((cfg0.win 8).blk t).view.emb (ix3 e r d) : S2x8192x2048.Idx) 1) ((((cfg0.win 8).blk t).view.emb (ix3 e r d) : S2x8192x2048.Idx) 2)
  rw [e0, e1, e2]

/-- An index of the result array is in point `t`'s block. -/
theorem mem_blk8 (t : Fin cfg0.N) (i : S2x8192x2048.Idx) :
    i ∈ ((cfg0.win 8).blk t).view.set ↔ (t.val % 16 * 512 ≤ (i 1 : Nat) ∧ (i 1 : Nat) < t.val % 16 * 512 + 512)
      ∧ (t.val / 16 * 512 ≤ (i 2 : Nat) ∧ (i 2 : Nat) < t.val / 16 * 512 + 512) := by
  show i ∈ ((View.whole main_v57_0).slice (win0_8.rect t)).set ↔ _
  rw [View.set_slice_whole, Rect.mem_set_unit]
  have hi := index8 t
  have h0 : (i 0 : Nat) < 2 := (i 0).isLt
  have e0 : win0_8.index t 0 * win0_8.size 0 = 0 := by rw [hi.1]; exact Nat.zero_mul _
  have e1 : win0_8.index t 1 * win0_8.size 1 = t.val % 16 * 512 := by rw [hi.2.1]; rfl
  have e2 : win0_8.index t 2 * win0_8.size 2 = t.val / 16 * 512 := by rw [hi.2.2]; rfl
  have ex : win0_8.xsize (grid0.coords t) 0 = 2 ∧ win0_8.xsize (grid0.coords t) 1 = 512 ∧ win0_8.xsize (grid0.coords t) 2 = 512 := ⟨rfl, rfl, rfl⟩
  refine ⟨fun h => ?_, fun h a => ?_⟩
  · have h1 : win0_8.index t 1 * win0_8.size 1 ≤ (i 1 : Nat) ∧ (i 1 : Nat) < win0_8.index t 1 * win0_8.size 1 + win0_8.xsize (grid0.coords t) 1 := h 1
    have h2 : win0_8.index t 2 * win0_8.size 2 ≤ (i 2 : Nat) ∧ (i 2 : Nat) < win0_8.index t 2 * win0_8.size 2 + win0_8.xsize (grid0.coords t) 2 := h 2
    rw [e1, ex.2.1] at h1
    rw [e2, ex.2.2] at h2
    exact ⟨h1, h2⟩
  · match a with
    | ⟨0, _⟩ => show win0_8.index t 0 * win0_8.size 0 ≤ (i 0 : Nat) ∧ (i 0 : Nat) < win0_8.index t 0 * win0_8.size 0 + win0_8.xsize (grid0.coords t) 0
                rw [e0, ex.1]; omega
    | ⟨1, _⟩ => show win0_8.index t 1 * win0_8.size 1 ≤ (i 1 : Nat) ∧ (i 1 : Nat) < win0_8.index t 1 * win0_8.size 1 + win0_8.xsize (grid0.coords t) 1
                rw [e1, ex.2.1]; exact h.1
    | ⟨2, _⟩ => show win0_8.index t 2 * win0_8.size 2 ≤ (i 2 : Nat) ∧ (i 2 : Nat) < win0_8.index t 2 * win0_8.size 2 + win0_8.xsize (grid0.coords t) 2
                rw [e2, ex.2.2]; exact h.2

/-- The blocks cover the result array. -/
theorem cover8 (i : S2x8192x2048.Idx) : ∃ t : Fin cfg0.N, (cfg0.win 8).flush t = true ∧ i ∈ ((cfg0.win 8).blk t).view.set := by
  have h1 : (i 1 : Nat) < 8192 := (i 1).isLt
  have h2 : (i 2 : Nat) < 2048 := (i 2).isLt
  refine ⟨⟨(i 2).val / 512 * 16 + (i 1).val / 512, by show _ < grid0.N; rw [N_0]; omega⟩, flush0_8 _, ?_⟩
  rw [mem_blk8]
  dsimp only
  omega

/-- The result array's final contents. -/
theorem final8 (c : Dev nD) : (dats m 0 c).arrAt 8 cfg0.N = result8 m c :=
  (dats m 0 c).arrAt_eq_of_cover 8 (result8 m c) (fun t _ => flushed8_eq m c t) cover8

/-! ## The queries -/

/-- What point `t` writes back is its block of the result. -/
theorem flushed9_eq (c : Dev nD) (t : Fin cfg0.N) :
    (dats m 0 c).flushed 9 t = ((cfg0.win 9).blk t).view.read (Elt Ideal) (result9 m c) := by
  have ht := lt_64 t
  rw [Value.flushed9]
  funext y
  obtain ⟨e, r, d, rfl⟩ : ∃ (e : Fin 8) (r : Fin 512) (d : Fin 64), y = ix3 e r d := ⟨y 0, y 1, y 2, eq_ix3 y⟩
  refine Eq.trans (b := out0_9 (iblk m c 0 t) (iblk m c 1 t) (iblk m c 2 t) (iblk m c 3 t) (iblk m c 4 t) (iblk m c 5 t) (iblk m c 6 t) (iblk m c 7 t)
    (ix3 e r d)) rfl ?_
  rw [out9_block, View.read_apply, cast_eq]
  have hi := index9 t
  have e0 : (((cfg0.win 9).blk t).view.emb (ix3 e r d) : S8x32768x64.Idx) 0 = e := Fin.ext (by
    show win0_9.index t 0 * 8 + 1 * e.val = e.val
    rw [hi.1]; omega)
  have e1 : (((cfg0.win 9).blk t).view.emb (ix3 e r d) : S8x32768x64.Idx) 1 = (⟨t.val * 512 + r.val, by omega⟩ : Fin 32768) := Fin.ext (by
    show win0_9.index t 1 * 512 + 1 * r.val = t.val * 512 + r.val
    rw [hi.2.1]; omega)
  have e2 : (((cfg0.win 9).blk t).view.emb (ix3 e r d) : S8x32768x64.Idx) 2 = d := Fin.ext (by
    show win0_9.index t 2 * 64 + 1 * d.val = d.val
    rw [hi.2.2]; omega)
  show _ = queries (xs m c) (w m c) (gq m c) ((((cfg0.win 9).blk t).view.emb (ix3 e r d) : S8x32768x64.Idx) 0)
    ((((cfg0.win 9).blk t).view.emb (ix3 e r d) : S8x32768x64.Idx) 1) ((((cfg0.win 9).blk t).view.emb (ix3 e r d) : S8x32768x64.Idx) 2)
  rw [e0, e1, e2]

/-- An index of the result array is in point `t`'s block. -/
theorem mem_blk9 (t : Fin cfg0.N) (i : S8x32768x64.Idx) :
    i ∈ ((cfg0.win 9).blk t).view.set ↔ (t.val * 512 ≤ (i 1 : Nat) ∧ (i 1 : Nat) < t.val * 512 + 512)
      ∧ (0 * 64 ≤ (i 2 : Nat) ∧ (i 2 : Nat) < 0 * 64 + 64) := by
  show i ∈ ((View.whole main_v57_1).slice (win0_9.rect t)).set ↔ _
  rw [View.set_slice_whole, Rect.mem_set_unit]
  have hi := index9 t
  have h0 : (i 0 : Nat) < 8 := (i 0).isLt
  have e0 : win0_9.index t 0 * win0_9.size 0 = 0 := by rw [hi.1]; exact Nat.zero_mul _
  have e1 : win0_9.index t 1 * win0_9.size 1 = t.val * 512 := by rw [hi.2.1]; rfl
  have e2 : win0_9.index t 2 * win0_9.size 2 = 0 * 64 := by rw [hi.2.2]; rfl
  have ex : win0_9.xsize (grid0.coords t) 0 = 8 ∧ win0_9.xsize (grid0.coords t) 1 = 512 ∧ win0_9.xsize (grid0.coords t) 2 = 64 := ⟨rfl, rfl, rfl⟩
  refine ⟨fun h => ?_, fun h a => ?_⟩
  · have h1 : win0_9.index t 1 * win0_9.size 1 ≤ (i 1 : Nat) ∧ (i 1 : Nat) < win0_9.index t 1 * win0_9.size 1 + win0_9.xsize (grid0.coords t) 1 := h 1
    have h2 : win0_9.index t 2 * win0_9.size 2 ≤ (i 2 : Nat) ∧ (i 2 : Nat) < win0_9.index t 2 * win0_9.size 2 + win0_9.xsize (grid0.coords t) 2 := h 2
    rw [e1, ex.2.1] at h1
    rw [e2, ex.2.2] at h2
    exact ⟨h1, h2⟩
  · match a with
    | ⟨0, _⟩ => show win0_9.index t 0 * win0_9.size 0 ≤ (i 0 : Nat) ∧ (i 0 : Nat) < win0_9.index t 0 * win0_9.size 0 + win0_9.xsize (grid0.coords t) 0
                rw [e0, ex.1]; omega
    | ⟨1, _⟩ => show win0_9.index t 1 * win0_9.size 1 ≤ (i 1 : Nat) ∧ (i 1 : Nat) < win0_9.index t 1 * win0_9.size 1 + win0_9.xsize (grid0.coords t) 1
                rw [e1, ex.2.1]; exact h.1
    | ⟨2, _⟩ => show win0_9.index t 2 * win0_9.size 2 ≤ (i 2 : Nat) ∧ (i 2 : Nat) < win0_9.index t 2 * win0_9.size 2 + win0_9.xsize (grid0.coords t) 2
                rw [e2, ex.2.2]; exact h.2

/-- The blocks cover the result array. -/
theorem cover9 (i : S8x32768x64.Idx) : ∃ t : Fin cfg0.N, (cfg0.win 9).flush t = true ∧ i ∈ ((cfg0.win 9).blk t).view.set := by
  have h1 : (i 1 : Nat) < 32768 := (i 1).isLt
  have h2 : (i 2 : Nat) < 64 := (i 2).isLt
  refine ⟨⟨(i 1).val / 512, by show _ < grid0.N; rw [N_0]; omega⟩, flush0_9 _, ?_⟩
  rw [mem_blk9]
  dsimp only
  omega

/-- The result array's final contents. -/
theorem final9 (c : Dev nD) : (dats m 0 c).arrAt 9 cfg0.N = result9 m c :=
  (dats m 0 c).arrAt_eq_of_cover 9 (result9 m c) (fun t _ => flushed9_eq m c t) cover9

/-! ## The keys -/

/-- What point `t` writes back is its block of the result. -/
theorem flushed10_eq (c : Dev nD) (t : Fin cfg0.N) :
    (dats m 0 c).flushed 10 t = ((cfg0.win 10).blk t).view.read (Elt Ideal) (result10 m c) := by
  have ht := lt_64 t
  rw [Value.flushed10]
  funext y
  obtain ⟨e, r, d, rfl⟩ : ∃ (e : Fin 2) (r : Fin 512) (d : Fin 64), y = ix3 e r d := ⟨y 0, y 1, y 2, eq_ix3 y⟩
  refine Eq.trans (b := out0_10 (iblk m c 0 t) (iblk m c 1 t) (iblk m c 2 t) (iblk m c 3 t) (iblk m c 4 t) (iblk m c 5 t) (iblk m c 6 t) (iblk m c 7 t)
    (ix3 e r d)) rfl ?_
  rw [out10_block, View.read_apply, cast_eq]
  have hi := index10 t
  have e0 : (((cfg0.win 10).blk t).view.emb (ix3 e r d) : S2x32768x64.Idx) 0 = e := Fin.ext (by
    show win0_10.index t 0 * 2 + 1 * e.val = e.val
    rw [hi.1]; omega)
  have e1 : (((cfg0.win 10).blk t).view.emb (ix3 e r d) : S2x32768x64.Idx) 1 = (⟨t.val * 512 + r.val, by omega⟩ : Fin 32768) := Fin.ext (by
    show win0_10.index t 1 * 512 + 1 * r.val = t.val * 512 + r.val
    rw [hi.2.1]; omega)
  have e2 : (((cfg0.win 10).blk t).view.emb (ix3 e r d) : S2x32768x64.Idx) 2 = d := Fin.ext (by
    show win0_10.index t 2 * 64 + 1 * d.val = d.val
    rw [hi.2.2]; omega)
  show _ = keys (xs m c) (w m c) (gk m c) ((((cfg0.win 10).blk t).view.emb (ix3 e r d) : S2x32768x64.Idx) 0)
    ((((cfg0.win 10).blk t).view.emb (ix3 e r d) : S2x32768x64.Idx) 1) ((((cfg0.win 10).blk t).view.emb (ix3 e r d) : S2x32768x64.Idx) 2)
  rw [e0, e1, e2]

/-- An index of the result array is in point `t`'s block. -/
theorem mem_blk10 (t : Fin cfg0.N) (i : S2x32768x64.Idx) :
    i ∈ ((cfg0.win 10).blk t).view.set ↔ (t.val * 512 ≤ (i 1 : Nat) ∧ (i 1 : Nat) < t.val * 512 + 512)
      ∧ (0 * 64 ≤ (i 2 : Nat) ∧ (i 2 : Nat) < 0 * 64 + 64) := by
  show i ∈ ((View.whole main_v57_2).slice (win0_10.rect t)).set ↔ _
  rw [View.set_slice_whole, Rect.mem_set_unit]
  have hi := index10 t
  have h0 : (i 0 : Nat) < 2 := (i 0).isLt
  have e0 : win0_10.index t 0 * win0_10.size 0 = 0 := by rw [hi.1]; exact Nat.zero_mul _
  have e1 : win0_10.index t 1 * win0_10.size 1 = t.val * 512 := by rw [hi.2.1]; rfl
  have e2 : win0_10.index t 2 * win0_10.size 2 = 0 * 64 := by rw [hi.2.2]; rfl
  have ex : win0_10.xsize (grid0.coords t) 0 = 2 ∧ win0_10.xsize (grid0.coords t) 1 = 512 ∧ win0_10.xsize (grid0.coords t) 2 = 64 := ⟨rfl, rfl, rfl⟩
  refine ⟨fun h => ?_, fun h a => ?_⟩
  · have h1 : win0_10.index t 1 * win0_10.size 1 ≤ (i 1 : Nat) ∧ (i 1 : Nat) < win0_10.index t 1 * win0_10.size 1 + win0_10.xsize (grid0.coords t) 1 := h 1
    have h2 : win0_10.index t 2 * win0_10.size 2 ≤ (i 2 : Nat) ∧ (i 2 : Nat) < win0_10.index t 2 * win0_10.size 2 + win0_10.xsize (grid0.coords t) 2 := h 2
    rw [e1, ex.2.1] at h1
    rw [e2, ex.2.2] at h2
    exact ⟨h1, h2⟩
  · match a with
    | ⟨0, _⟩ => show win0_10.index t 0 * win0_10.size 0 ≤ (i 0 : Nat) ∧ (i 0 : Nat) < win0_10.index t 0 * win0_10.size 0 + win0_10.xsize (grid0.coords t) 0
                rw [e0, ex.1]; omega
    | ⟨1, _⟩ => show win0_10.index t 1 * win0_10.size 1 ≤ (i 1 : Nat) ∧ (i 1 : Nat) < win0_10.index t 1 * win0_10.size 1 + win0_10.xsize (grid0.coords t) 1
                rw [e1, ex.2.1]; exact h.1
    | ⟨2, _⟩ => show win0_10.index t 2 * win0_10.size 2 ≤ (i 2 : Nat) ∧ (i 2 : Nat) < win0_10.index t 2 * win0_10.size 2 + win0_10.xsize (grid0.coords t) 2
                rw [e2, ex.2.2]; exact h.2

/-- The blocks cover the result array. -/
theorem cover10 (i : S2x32768x64.Idx) : ∃ t : Fin cfg0.N, (cfg0.win 10).flush t = true ∧ i ∈ ((cfg0.win 10).blk t).view.set := by
  have h1 : (i 1 : Nat) < 32768 := (i 1).isLt
  have h2 : (i 2 : Nat) < 64 := (i 2).isLt
  refine ⟨⟨(i 1).val / 512, by show _ < grid0.N; rw [N_0]; omega⟩, flush0_10 _, ?_⟩
  rw [mem_blk10]
  dsimp only
  omega

/-- The result array's final contents. -/
theorem final10 (c : Dev nD) : (dats m 0 c).arrAt 10 cfg0.N = result10 m c :=
  (dats m 0 c).arrAt_eq_of_cover 10 (result10 m c) (fun t _ => flushed10_eq m c t) cover10

/-! ## The values -/

/-- What point `t` writes back is its block of the result. -/
theorem flushed11_eq (c : Dev nD) (t : Fin cfg0.N) :
    (dats m 0 c).flushed 11 t = ((cfg0.win 11).blk t).view.read (Elt Ideal) (result11 m c) := by
  have ht := lt_64 t
  rw [Value.flushed11]
  funext y
  obtain ⟨e, r, d, rfl⟩ : ∃ (e : Fin 2) (r : Fin 512) (d : Fin 64), y = ix3 e r d := ⟨y 0, y 1, y 2, eq_ix3 y⟩
  refine Eq.trans (b := out0_11 (iblk m c 0 t) (iblk m c 1 t) (iblk m c 2 t) (iblk m c 3 t) (iblk m c 4 t) (iblk m c 5 t) (iblk m c 6 t) (iblk m c 7 t)
    (ix3 e r d)) rfl ?_
  rw [out11_block, View.read_apply, cast_eq]
  have hi := index11 t
  have e0 : (((cfg0.win 11).blk t).view.emb (ix3 e r d) : S2x32768x64.Idx) 0 = e := Fin.ext (by
    show win0_11.index t 0 * 2 + 1 * e.val = e.val
    rw [hi.1]; omega)
  have e1 : (((cfg0.win 11).blk t).view.emb (ix3 e r d) : S2x32768x64.Idx) 1 = (⟨t.val * 512 + r.val, by omega⟩ : Fin 32768) := Fin.ext (by
    show win0_11.index t 1 * 512 + 1 * r.val = t.val * 512 + r.val
    rw [hi.2.1]; omega)
  have e2 : (((cfg0.win 11).blk t).view.emb (ix3 e r d) : S2x32768x64.Idx) 2 = d := Fin.ext (by
    show win0_11.index t 2 * 64 + 1 * d.val = d.val
    rw [hi.2.2]; omega)
  show _ = values (xs m c) (w m c) ((((cfg0.win 11).blk t).view.emb (ix3 e r d) : S2x32768x64.Idx) 0)
    ((((cfg0.win 11).blk t).view.emb (ix3 e r d) : S2x32768x64.Idx) 1) ((((cfg0.win 11).blk t).view.emb (ix3 e r d) : S2x32768x64.Idx) 2)
  rw [e0, e1, e2]

/-- An index of the result array is in point `t`'s block. -/
theorem mem_blk11 (t : Fin cfg0.N) (i : S2x32768x64.Idx) :
    i ∈ ((cfg0.win 11).blk t).view.set ↔ (t.val * 512 ≤ (i 1 : Nat) ∧ (i 1 : Nat) < t.val * 512 + 512)
      ∧ (0 * 64 ≤ (i 2 : Nat) ∧ (i 2 : Nat) < 0 * 64 + 64) := by
  show i ∈ ((View.whole main_v57_3).slice (win0_11.rect t)).set ↔ _
  rw [View.set_slice_whole, Rect.mem_set_unit]
  have hi := index11 t
  have h0 : (i 0 : Nat) < 2 := (i 0).isLt
  have e0 : win0_11.index t 0 * win0_11.size 0 = 0 := by rw [hi.1]; exact Nat.zero_mul _
  have e1 : win0_11.index t 1 * win0_11.size 1 = t.val * 512 := by rw [hi.2.1]; rfl
  have e2 : win0_11.index t 2 * win0_11.size 2 = 0 * 64 := by rw [hi.2.2]; rfl
  have ex : win0_11.xsize (grid0.coords t) 0 = 2 ∧ win0_11.xsize (grid0.coords t) 1 = 512 ∧ win0_11.xsize (grid0.coords t) 2 = 64 := ⟨rfl, rfl, rfl⟩
  refine ⟨fun h => ?_, fun h a => ?_⟩
  · have h1 : win0_11.index t 1 * win0_11.size 1 ≤ (i 1 : Nat) ∧ (i 1 : Nat) < win0_11.index t 1 * win0_11.size 1 + win0_11.xsize (grid0.coords t) 1 := h 1
    have h2 : win0_11.index t 2 * win0_11.size 2 ≤ (i 2 : Nat) ∧ (i 2 : Nat) < win0_11.index t 2 * win0_11.size 2 + win0_11.xsize (grid0.coords t) 2 := h 2
    rw [e1, ex.2.1] at h1
    rw [e2, ex.2.2] at h2
    exact ⟨h1, h2⟩
  · match a with
    | ⟨0, _⟩ => show win0_11.index t 0 * win0_11.size 0 ≤ (i 0 : Nat) ∧ (i 0 : Nat) < win0_11.index t 0 * win0_11.size 0 + win0_11.xsize (grid0.coords t) 0
                rw [e0, ex.1]; omega
    | ⟨1, _⟩ => show win0_11.index t 1 * win0_11.size 1 ≤ (i 1 : Nat) ∧ (i 1 : Nat) < win0_11.index t 1 * win0_11.size 1 + win0_11.xsize (grid0.coords t) 1
                rw [e1, ex.2.1]; exact h.1
    | ⟨2, _⟩ => show win0_11.index t 2 * win0_11.size 2 ≤ (i 2 : Nat) ∧ (i 2 : Nat) < win0_11.index t 2 * win0_11.size 2 + win0_11.xsize (grid0.coords t) 2
                rw [e2, ex.2.2]; exact h.2

/-- The blocks cover the result array. -/
theorem cover11 (i : S2x32768x64.Idx) : ∃ t : Fin cfg0.N, (cfg0.win 11).flush t = true ∧ i ∈ ((cfg0.win 11).blk t).view.set := by
  have h1 : (i 1 : Nat) < 32768 := (i 1).isLt
  have h2 : (i 2 : Nat) < 64 := (i 2).isLt
  refine ⟨⟨(i 1).val / 512, by show _ < grid0.N; rw [N_0]; omega⟩, flush0_11 _, ?_⟩
  rw [mem_blk11]
  dsimp only
  omega

/-- The result array's final contents. -/
theorem final11 (c : Dev nD) : (dats m 0 c).arrAt 11 cfg0.N = result11 m c :=
  (dats m 0 c).arrAt_eq_of_cover 11 (result11 m c) (fun t _ => flushed11_eq m c t) cover11

end Cert.EvenInIdeal.Array

end
-- ==== Proof.EvenInRef.lean ====
/- What the reference of an even layer's input projection computes, at an index of each of its results. -/
module

public import proofs.«01_k».proof.Proof.Gen.EvenInReferenceIdeal.Run
public import proofs.«01_k».proof.Proof.EvenInMath

@[expose] public section

set_option maxRecDepth 16384

noncomputable section

open Idealize.ShloMosaic Idealize.ShloMosaic.TcCoe Idealize.SL.Sem

namespace Cert.EvenInReferenceIdeal.Ref

open Cert.EvenInReferenceIdeal Cert.EvenInReferenceIdeal.Gen Cert.EvenInReferenceIdeal.Facts Cert.Proof.EvenIn

/-- The angles. -/
def angles : FVec Ideal S8192x2x16 .f32 :=
  mulf (broadcastInDim S8192x2x16 ![0, 1, 2] bcast_S8192x2x1_S8192x2x16_0_1_2 (broadcastInDim S8192x2x1 ![0, 1] bcast_S8192x2_S8192x2x1_0_1 (concatenate S8192x2 1 [⟨S8192x1, (broadcastInDim S8192x1 ![0] bcast_S8192_S8192x1_0 (shapeCast _ (broadcastInDim S128x64 ![0] bcast_S128_S128x64_0 (sitofp .f32 (iotaInDim S128 32 0))) shapeCasts_S128x64_S8192))⟩, ⟨S8192x1, (broadcastInDim S8192x1 ![0] bcast_S8192_S8192x1_0 (shapeCast _ (broadcastInDim S128x64 ![0, 1] bcast_S1x64_S128x64_0_1 (shapeCast _ (sitofp .f32 (iotaInDim S64 32 0)) shapeCasts_S64_S1x64)) shapeCasts_S128x64_S8192))⟩] concatenates_S8192x1_S8192x1_S8192x2_d1))) (broadcastInDim S8192x2x16 ![0, 1, 2] bcast_S1x1x16_S8192x2x16_0_1_2 (broadcastInDim S1x1x16 ![2] bcast_S16_S1x1x16_2 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Each head's columns over the root of their mean square, times the gain. -/
def normsQ (q : FVec Ideal S4x8192x8x64 .f32) (g : FVec Ideal S64 .f32) : FVec Ideal S4x8192x8x64 .f32 :=
  mulf (mulf q (broadcastInDim S4x8192x8x64 ![0, 1, 2, 3] bcast_S4x8192x8x1_S4x8192x8x64_0_1_2_3 (Host.rsqrt (addf (Host.divf (broadcastInDim S4x8192x8x1 ![0, 1, 2] bcast_S4x8192x8_S4x8192x8x1_0_1_2 (Host.reduceAdd (mulf q q) (constant S_ .f32 0x00000000#32) reducesTo_S4x8192x8x64_S4x8192x8_d3 h_S_)) (broadcastInDim S4x8192x8x1 ![] bcast_S_S4x8192x8x1 (constant S_ .f32 0x42800000#32))) (broadcastInDim S4x8192x8x1 ![] bcast_S_S4x8192x8x1 (constant S_ .f32 0x358637BD#32)))))) (broadcastInDim S4x8192x8x64 ![0, 1, 2, 3] bcast_S1x1x1x64_S4x8192x8x64_0_1_2_3 (broadcastInDim S1x1x1x64 ![3] bcast_S64_S1x1x1x64_3 g))

/-- The heads, turned by the angles. -/
def pairsQ (y : FVec Ideal S4x8192x8x64 .f32) : FVec Ideal S4x8192x8x64 .f32 :=
  shapeCast _ (concatenate S4x8192x8x2x2x16 4 [⟨S4x8192x8x2x1x16, (broadcastInDim S4x8192x8x2x1x16 ![0, 1, 2, 3, 5] bcast_S4x8192x8x2x16_S4x8192x8x2x1x16_0_1_2_3_5 (subf (mulf (shapeCast _ (extractStridedSlice S4x8192x8x2x1x16 ![0, 0, 0, 0, 0, 0] (shapeCast _ y shapeCasts_S4x8192x8x64_S4x8192x8x2x2x16) slices_S4x8192x8x2x2x16_S4x8192x8x2x1x16_0_0_0_0_0_0) shapeCasts_S4x8192x8x2x1x16_S4x8192x8x2x16) (broadcastInDim S4x8192x8x2x16 ![0, 1, 2, 3, 4] bcast_S1x8192x1x2x16_S4x8192x8x2x16_0_1_2_3_4 (broadcastInDim S1x8192x1x2x16 ![1, 3, 4] bcast_S8192x2x16_S1x8192x1x2x16_1_3_4 (Host.cos angles)))) (mulf (shapeCast _ (extractStridedSlice S4x8192x8x2x1x16 ![0, 0, 0, 0, 1, 0] (shapeCast _ y shapeCasts_S4x8192x8x64_S4x8192x8x2x2x16) slices_S4x8192x8x2x2x16_S4x8192x8x2x1x16_0_0_0_0_1_0) shapeCasts_S4x8192x8x2x1x16_S4x8192x8x2x16) (broadcastInDim S4x8192x8x2x16 ![0, 1, 2, 3, 4] bcast_S1x8192x1x2x16_S4x8192x8x2x16_0_1_2_3_4 (broadcastInDim S1x8192x1x2x16 ![1, 3, 4] bcast_S8192x2x16_S1x8192x1x2x16_1_3_4 (Host.sin angles))))))⟩, ⟨S4x8192x8x2x1x16, (broadcastInDim S4x8192x8x2x1x16 ![0, 1, 2, 3, 5] bcast_S4x8192x8x2x16_S4x8192x8x2x1x16_0_1_2_3_5 (addf (mulf (shapeCast _ (extractStridedSlice S4x8192x8x2x1x16 ![0, 0, 0, 0, 1, 0] (shapeCast _ y shapeCasts_S4x8192x8x64_S4x8192x8x2x2x16) slices_S4x8192x8x2x2x16_S4x8192x8x2x1x16_0_0_0_0_1_0) shapeCasts_S4x8192x8x2x1x16_S4x8192x8x2x16) (broadcastInDim S4x8192x8x2x16 ![0, 1, 2, 3, 4] bcast_S1x8192x1x2x16_S4x8192x8x2x16_0_1_2_3_4 (broadcastInDim S1x8192x1x2x16 ![1, 3, 4] bcast_S8192x2x16_S1x8192x1x2x16_1_3_4 (Host.cos angles)))) (mulf (shapeCast _ (extractStridedSlice S4x8192x8x2x1x16 ![0, 0, 0, 0, 0, 0] (shapeCast _ y shapeCasts_S4x8192x8x64_S4x8192x8x2x2x16) slices_S4x8192x8x2x2x16_S4x8192x8x2x1x16_0_0_0_0_0_0) shapeCasts_S4x8192x8x2x1x16_S4x8192x8x2x16) (broadcastInDim S4x8192x8x2x16 ![0, 1, 2, 3, 4] bcast_S1x8192x1x2x16_S4x8192x8x2x16_0_1_2_3_4 (broadcastInDim S1x8192x1x2x16 ![1, 3, 4] bcast_S8192x2x16_S1x8192x1x2x16_1_3_4 (Host.sin angles))))))⟩] concatenates_S4x8192x8x2x1x16_S4x8192x8x2x1x16_S4x8192x8x2x2x16_d4) shapeCasts_S4x8192x8x2x2x16_S4x8192x8x64

/-- The queries, scaled, one head after another. -/
def turnedQ (y : FVec Ideal S4x8192x8x64 .f32) : FVec Ideal S8x32768x64 .bf16 :=
  truncf .bf16 (transpose S8x32768x64 [1, 0, 2] (shapeCast _ (mulf (pairsQ y) (broadcastInDim S4x8192x8x64 ![] bcast_S_S4x8192x8x64 (constant S_ .f32 0x3E000000#32))) shapeCasts_S4x8192x8x64_S32768x8x64) transposes_S32768x8x64_S8x32768x64_1_0_2) bitsLt_bf16_f32

/-- The same for the keys. -/
def normsK (q : FVec Ideal S4x8192x2x64 .f32) (g : FVec Ideal S64 .f32) : FVec Ideal S4x8192x2x64 .f32 :=
  mulf (mulf q (broadcastInDim S4x8192x2x64 ![0, 1, 2, 3] bcast_S4x8192x2x1_S4x8192x2x64_0_1_2_3 (Host.rsqrt (addf (Host.divf (broadcastInDim S4x8192x2x1 ![0, 1, 2] bcast_S4x8192x2_S4x8192x2x1_0_1_2 (Host.reduceAdd (mulf q q) (constant S_ .f32 0x00000000#32) reducesTo_S4x8192x2x64_S4x8192x2_d3 h_S_)) (broadcastInDim S4x8192x2x1 ![] bcast_S_S4x8192x2x1 (constant S_ .f32 0x42800000#32))) (broadcastInDim S4x8192x2x1 ![] bcast_S_S4x8192x2x1 (constant S_ .f32 0x358637BD#32)))))) (broadcastInDim S4x8192x2x64 ![0, 1, 2, 3] bcast_S1x1x1x64_S4x8192x2x64_0_1_2_3 (broadcastInDim S1x1x1x64 ![3] bcast_S64_S1x1x1x64_3 g))

/-- The same, unscaled, for the keys. -/
def turnedK (y : FVec Ideal S4x8192x2x64 .f32) : FVec Ideal S2x32768x64 .bf16 :=
  truncf .bf16 (transpose S2x32768x64 [1, 0, 2] (shapeCast _ (shapeCast _ (concatenate S4x8192x2x2x2x16 4 [⟨S4x8192x2x2x1x16, (broadcastInDim S4x8192x2x2x1x16 ![0, 1, 2, 3, 5] bcast_S4x8192x2x2x16_S4x8192x2x2x1x16_0_1_2_3_5 (subf (mulf (shapeCast _ (extractStridedSlice S4x8192x2x2x1x16 ![0, 0, 0, 0, 0, 0] (shapeCast _ y shapeCasts_S4x8192x2x64_S4x8192x2x2x2x16) slices_S4x8192x2x2x2x16_S4x8192x2x2x1x16_0_0_0_0_0_0) shapeCasts_S4x8192x2x2x1x16_S4x8192x2x2x16) (broadcastInDim S4x8192x2x2x16 ![0, 1, 2, 3, 4] bcast_S1x8192x1x2x16_S4x8192x2x2x16_0_1_2_3_4 (broadcastInDim S1x8192x1x2x16 ![1, 3, 4] bcast_S8192x2x16_S1x8192x1x2x16_1_3_4 (Host.cos angles)))) (mulf (shapeCast _ (extractStridedSlice S4x8192x2x2x1x16 ![0, 0, 0, 0, 1, 0] (shapeCast _ y shapeCasts_S4x8192x2x64_S4x8192x2x2x2x16) slices_S4x8192x2x2x2x16_S4x8192x2x2x1x16_0_0_0_0_1_0) shapeCasts_S4x8192x2x2x1x16_S4x8192x2x2x16) (broadcastInDim S4x8192x2x2x16 ![0, 1, 2, 3, 4] bcast_S1x8192x1x2x16_S4x8192x2x2x16_0_1_2_3_4 (broadcastInDim S1x8192x1x2x16 ![1, 3, 4] bcast_S8192x2x16_S1x8192x1x2x16_1_3_4 (Host.sin angles))))))⟩, ⟨S4x8192x2x2x1x16, (broadcastInDim S4x8192x2x2x1x16 ![0, 1, 2, 3, 5] bcast_S4x8192x2x2x16_S4x8192x2x2x1x16_0_1_2_3_5 (addf (mulf (shapeCast _ (extractStridedSlice S4x8192x2x2x1x16 ![0, 0, 0, 0, 1, 0] (shapeCast _ y shapeCasts_S4x8192x2x64_S4x8192x2x2x2x16) slices_S4x8192x2x2x2x16_S4x8192x2x2x1x16_0_0_0_0_1_0) shapeCasts_S4x8192x2x2x1x16_S4x8192x2x2x16) (broadcastInDim S4x8192x2x2x16 ![0, 1, 2, 3, 4] bcast_S1x8192x1x2x16_S4x8192x2x2x16_0_1_2_3_4 (broadcastInDim S1x8192x1x2x16 ![1, 3, 4] bcast_S8192x2x16_S1x8192x1x2x16_1_3_4 (Host.cos angles)))) (mulf (shapeCast _ (extractStridedSlice S4x8192x2x2x1x16 ![0, 0, 0, 0, 0, 0] (shapeCast _ y shapeCasts_S4x8192x2x64_S4x8192x2x2x2x16) slices_S4x8192x2x2x2x16_S4x8192x2x2x1x16_0_0_0_0_0_0) shapeCasts_S4x8192x2x2x1x16_S4x8192x2x2x16) (broadcastInDim S4x8192x2x2x16 ![0, 1, 2, 3, 4] bcast_S1x8192x1x2x16_S4x8192x2x2x16_0_1_2_3_4 (broadcastInDim S1x8192x1x2x16 ![1, 3, 4] bcast_S8192x2x16_S1x8192x1x2x16_1_3_4 (Host.sin angles))))))⟩] concatenates_S4x8192x2x2x1x16_S4x8192x2x2x1x16_S4x8192x2x2x2x16_d4) shapeCasts_S4x8192x2x2x2x16_S4x8192x2x64) shapeCasts_S4x8192x2x64_S32768x2x64) transposes_S32768x2x64_S2x32768x64_1_0_2) bitsLt_bf16_f32

/-- The product with the weights. -/
def prods (x : FVec Ideal S32768x1024 .f32) (w : FVec Ideal S1024x1280 .f32) : FVec Ideal S32768x1280 .f32 :=
  Host.dotGeneral dot_S32768x1024_S1024x1280_S32768x1280_1_0_0_1_n_n none x w

/-- The queries, the keys, the transformed columns and the values, of the product. -/
def wholeQ (h : FVec Ideal S32768x1280 .f32) (g : FVec Ideal S64 .f32) : FVec Ideal S8x32768x64 .bf16 :=
  turnedQ (normsQ (shapeCast _ (extractStridedSlice S32768x512 ![0, 512] h slices_S32768x1280_S32768x512_0_512) shapeCasts_S32768x512_S4x8192x8x64) g)

def wholeK (h : FVec Ideal S32768x1280 .f32) (g : FVec Ideal S64 .f32) : FVec Ideal S2x32768x64 .bf16 :=
  turnedK (normsK (shapeCast _ (extractStridedSlice S32768x128 ![0, 1024] h slices_S32768x1280_S32768x128_0_1024) shapeCasts_S32768x128_S4x8192x2x64) g)

def wholeZ (h : FVec Ideal S32768x1280 .f32) (cs : FVec Ideal S128x256 .bf16) : FVec Ideal S2x8192x2048 .bf16 :=
  truncf .bf16 (shapeCast _ (transpose S2x8192x4x4x128 [0, 3, 2, 4, 1] (Host.dotGeneral dot_S128x2x128_S4x8192x4x128_S2x128x4x8192x4_0_3_12_012_n_n none (shapeCast _ (extf .f32 cs bitsLt_bf16_f32) shapeCasts_S128x256_S128x2x128) (shapeCast _ (extractStridedSlice S32768x512 ![0, 0] h slices_S32768x1280_S32768x512_0_0) shapeCasts_S32768x512_S4x8192x4x128)) transposes_S2x128x4x8192x4_S2x8192x4x4x128_0_3_2_4_1) shapeCasts_S2x8192x4x4x128_S2x8192x2048) bitsLt_bf16_f32

def wholeV (h : FVec Ideal S32768x1280 .f32) : FVec Ideal S2x32768x64 .bf16 :=
  truncf .bf16 (transpose S2x32768x64 [1, 0, 2] (shapeCast _ (extractStridedSlice S32768x128 ![0, 1152] h slices_S32768x1280_S32768x128_0_1152) shapeCasts_S32768x128_S32768x2x64) transposes_S32768x2x64_S2x32768x64_1_0_2) bitsLt_bf16_f32

theorem prods_apply (x : FVec Ideal S32768x1024 .f32) (w : FVec Ideal S1024x1280 .f32) (i : Fin 32768) (d : Fin 1280) :
    prods x w (ix2 i d) = ∑ k : Fin 1024, x (ix2 i k) * w (ix2 k d) := by
  pointwise [prods]

theorem wholeV_apply (h : FVec Ideal S32768x1280 .f32) (e : Fin 2) (i : Fin 32768) (j : Fin 64) :
    wholeV h (ix3 e i j) = h (ix2 i ⟨1152 + (e.val * 64 + j.val), by omega⟩) := by
  pointwise [wholeV]

theorem wholeZ_apply (h : FVec Ideal S32768x1280 .f32) (cs : FVec Ideal S128x256 .bf16) (e : Fin 2) (t : Fin 8192) (n : Fin 2048) :
    wholeZ h cs (ix3 e t n) = ∑ x : Fin 128, h (ix2 ⟨n.val / 512 * 8192 + t.val, by omega⟩ ⟨n.val / 128 % 4 * 128 + x.val, by omega⟩)
      * cs (ix2 x ⟨e.val * 128 + n.val % 128, by omega⟩) := by
  pointwise [wholeZ]
  exact Finset.sum_congr rfl fun x _ => mul_comm _ _

theorem angles_apply (t : Fin 8192) (a : Fin 2) (p : Fin 16) : angles (ix3 t a p) = angle t.val a.val p.val := by
  pointwise [angles]
  unfold angle
  split_ifs <;> rfl

end Cert.EvenInReferenceIdeal.Ref

end
-- ==== Proof.EvenInRefQ.lean ====
/- The queries of the reference of an even layer's input projection, at every index. -/
module

public import proofs.«01_k».proof.Proof.EvenInRef

@[expose] public section

set_option maxRecDepth 65536

noncomputable section

open Idealize.ShloMosaic Idealize.ShloMosaic.TcCoe Idealize.SL.Sem

namespace Cert.EvenInReferenceIdeal.Ref

open Cert.EvenInReferenceIdeal Cert.EvenInReferenceIdeal.Gen Cert.EvenInReferenceIdeal.Facts Cert.Proof.EvenIn

theorem resultQ (m : (ℓ : Loc nD τ sig) → Buf (Elt Ideal) ℓ) (c : Dev nD) :
    Value.res_out1 m c = wholeQ (prods (m ((c : Thread nD τ).loc main_arg0)) (m ((c : Thread nD τ).loc main_arg1))) (m ((c : Thread nD τ).loc main_arg3)) := by
  unfold Value.res_out1 Value.res_main_v109
  rfl

theorem normsQ_apply (h : FVec Ideal S32768x1280 .f32) (g : FVec Ideal S64 .f32) (a : Fin 4) (t : Fin 8192) (e : Fin 8) (j : Fin 64) :
    normsQ (shapeCast _ (extractStridedSlice S32768x512 ![0, 512] h slices_S32768x1280_S32768x512_0_512) shapeCasts_S32768x512_S4x8192x8x64) g (ix4 a t e j)
      = normed (fun x => h (ix2 ⟨a.val * 8192 + t.val, by omega⟩ ⟨512 + (e.val * 64 + x.val), by omega⟩)) (fun x => g (ix1 x)) j := by
  pointwise [normsQ]
  rfl

theorem pairsQ_apply (y : FVec Ideal S4x8192x8x64 .f32) (a : Fin 4) (t : Fin 8192) (e : Fin 8) (j : Fin 64) :
    pairsQ y (ix4 a t e j) = turned (fun x => y (ix4 a t e x)) t.val j := by
  pointwise [pairsQ]
  simp only [angles_apply, turned]
  rfl

/-- A scaled array of heads, one head after another. -/
theorem flatQ_apply (z : FVec Ideal S4x8192x8x64 .f32) (e : Fin 8) (i : Fin 32768) (j : Fin 64) :
    (truncf .bf16 (transpose S8x32768x64 [1, 0, 2] (shapeCast S32768x8x64 (mulf z (broadcastInDim S4x8192x8x64 ![] bcast_S_S4x8192x8x64
        (constant S_ .f32 0x3E000000#32))) shapeCasts_S4x8192x8x64_S32768x8x64) transposes_S32768x8x64_S8x32768x64_1_0_2) bitsLt_bf16_f32
        : FVec Ideal S8x32768x64 .bf16) (ix3 e i j)
      = z (ix4 ⟨i.val / 8192, by omega⟩ ⟨i.val % 8192, by omega⟩ e j) * eighth := by
  pointwise

theorem turnedQ_apply (y : FVec Ideal S4x8192x8x64 .f32) (e : Fin 8) (i : Fin 32768) (j : Fin 64) :
    turnedQ y (ix3 e i j) = turned (fun x => y (ix4 ⟨i.val / 8192, by omega⟩ ⟨i.val % 8192, by omega⟩ e x)) (i.val % 8192) j * eighth := by
  unfold turnedQ
  rw [flatQ_apply, pairsQ_apply]

theorem wholeQ_apply (h : FVec Ideal S32768x1280 .f32) (g : FVec Ideal S64 .f32) (e : Fin 8) (i : Fin 32768) (j : Fin 64) :
    wholeQ h g (ix3 e i j) = turned (normed (fun x => h (ix2 i ⟨512 + (e.val * 64 + x.val), by omega⟩)) (fun x => g (ix1 x))) (i.val % 8192) j * eighth := by
  have ei : i.val / 8192 * 8192 + i.val % 8192 = i.val := by omega
  unfold wholeQ
  rw [turnedQ_apply]
  simp only [normsQ_apply, ei]

end Cert.EvenInReferenceIdeal.Ref

end
-- ==== Proof.EvenInRefK.lean ====
/- The keys of the reference of an even layer's input projection, at every index. -/
module

public import proofs.«01_k».proof.Proof.EvenInRef

@[expose] public section

set_option maxRecDepth 65536

noncomputable section

open Idealize.ShloMosaic Idealize.ShloMosaic.TcCoe Idealize.SL.Sem

namespace Cert.EvenInReferenceIdeal.Ref

open Cert.EvenInReferenceIdeal Cert.EvenInReferenceIdeal.Gen Cert.EvenInReferenceIdeal.Facts Cert.Proof.EvenIn

theorem resultK (m : (ℓ : Loc nD τ sig) → Buf (Elt Ideal) ℓ) (c : Dev nD) :
    Value.res_out2 m c = wholeK (prods (m ((c : Thread nD τ).loc main_arg0)) (m ((c : Thread nD τ).loc main_arg1))) (m ((c : Thread nD τ).loc main_arg4)) := by
  unfold Value.res_out2 Value.res_main_v112
  rfl

theorem normsK_apply (h : FVec Ideal S32768x1280 .f32) (g : FVec Ideal S64 .f32) (a : Fin 4) (t : Fin 8192) (e : Fin 2) (j : Fin 64) :
    normsK (shapeCast _ (extractStridedSlice S32768x128 ![0, 1024] h slices_S32768x1280_S32768x128_0_1024) shapeCasts_S32768x128_S4x8192x2x64) g (ix4 a t e j)
      = normed (fun x => h (ix2 ⟨a.val * 8192 + t.val, by omega⟩ ⟨1024 + (e.val * 64 + x.val), by omega⟩)) (fun x => g (ix1 x)) j := by
  pointwise [normsK]
  rfl

theorem turnedK_apply (y : FVec Ideal S4x8192x2x64 .f32) (e : Fin 2) (i : Fin 32768) (j : Fin 64) :
    turnedK y (ix3 e i j) = turned (fun x => y (ix4 ⟨i.val / 8192, by omega⟩ ⟨i.val % 8192, by omega⟩ e x)) (i.val % 8192) j := by
  pointwise [turnedK]
  simp only [angles_apply, turned]
  rfl

theorem wholeK_apply (h : FVec Ideal S32768x1280 .f32) (g : FVec Ideal S64 .f32) (e : Fin 2) (i : Fin 32768) (j : Fin 64) :
    wholeK h g (ix3 e i j) = turned (normed (fun x => h (ix2 i ⟨1024 + (e.val * 64 + x.val), by omega⟩)) (fun x => g (ix1 x))) (i.val % 8192) j := by
  have ei : i.val / 8192 * 8192 + i.val % 8192 = i.val := by omega
  unfold wholeK
  rw [turnedK_apply]
  simp only [normsK_apply, ei]

end Cert.EvenInReferenceIdeal.Ref

end
-- ==== Proof.EvenInClaim.lean ====
/- The claims about the kernel of an even layer's input projection and its reference. -/
module

public import proofs.«01_k».proof.Defs
public import proofs.«01_k».proof.Proof.Gen.EvenIn
public import proofs.«01_k».proof.Proof.Gen.EvenInIdeal
public import proofs.«01_k».proof.Proof.Gen.EvenInReferenceIdeal
public import proofs.«01_k».proof.Proof.Gen.EvenIn.Frame
public import proofs.«01_k».proof.Proof.EvenInArray
public import proofs.«01_k».proof.Proof.EvenInRefQ
public import proofs.«01_k».proof.Proof.EvenInRefK
public import Idealize.ShloMosaic.Lib.Quiescent

@[expose] public section

noncomputable section

namespace Cert.Proof.EvenIn

open Idealize.ShloMosaic Idealize.SL.Sem

theorem frame_EvenIn : Cert.quiescent_EvenIn := fun m ρ _ => Cert.EvenIn.Gen.frame m ρ

theorem frame_EvenInIdeal : Cert.quiescent_EvenInIdeal := fun m ρ _ => Cert.EvenInIdeal.Gen.frame m ρ

theorem frame_EvenInReferenceIdeal : Cert.quiescent_EvenInReferenceIdeal := fun m ρ _ =>
  (θ_run Cert.EvenInReferenceIdeal.defs _ _).mono
    (fun r h => ⟨fun c => (h c).2.2.2.2, Idealize.ShloMosaic.sem_eq_zero_of_no_sems (by decide) r.2⟩)
    (Cert.EvenInReferenceIdeal.Value.run (F := Ideal) m ρ)

/-! ## The reference's results are those of the layer -/

open Cert.EvenInReferenceIdeal Cert.EvenInReferenceIdeal.Ref in
theorem ref_spectra (x : FVec Ideal S32768x1024 .f32) (w : FVec Ideal S1024x1280 .f32) (cs : FVec Ideal S128x256 .bf16) :
    wholeZ (prods x w) cs = fun y : S2x8192x2048.Idx => spectra x w cs (y 0) (y 1) (y 2) := by
  funext y
  obtain ⟨e, i, j, rfl⟩ : ∃ (e : Fin 2) (i : Fin 8192) (j : Fin 2048), y = ix3 e i j := ⟨y 0, y 1, y 2, eq_ix3 y⟩
  rw [wholeZ_apply]
  simp only [prods_apply]
  rfl

open Cert.EvenInReferenceIdeal Cert.EvenInReferenceIdeal.Ref in
theorem ref_queries (x : FVec Ideal S32768x1024 .f32) (w : FVec Ideal S1024x1280 .f32) (g : FVec Ideal S64 .f32) :
    wholeQ (prods x w) g = fun y : S8x32768x64.Idx => queries x w g (y 0) (y 1) (y 2) := by
  funext y
  obtain ⟨e, i, j, rfl⟩ : ∃ (e : Fin 8) (i : Fin 32768) (j : Fin 64), y = ix3 e i j := ⟨y 0, y 1, y 2, eq_ix3 y⟩
  rw [wholeQ_apply]
  simp only [prods_apply]
  rfl

open Cert.EvenInReferenceIdeal Cert.EvenInReferenceIdeal.Ref in
theorem ref_keys (x : FVec Ideal S32768x1024 .f32) (w : FVec Ideal S1024x1280 .f32) (g : FVec Ideal S64 .f32) :
    wholeK (prods x w) g = fun y : S2x32768x64.Idx => keys x w g (y 0) (y 1) (y 2) := by
  funext y
  obtain ⟨e, i, j, rfl⟩ : ∃ (e : Fin 2) (i : Fin 32768) (j : Fin 64), y = ix3 e i j := ⟨y 0, y 1, y 2, eq_ix3 y⟩
  rw [wholeK_apply]
  simp only [prods_apply]
  rfl

open Cert.EvenInReferenceIdeal Cert.EvenInReferenceIdeal.Ref in
theorem ref_values (x : FVec Ideal S32768x1024 .f32) (w : FVec Ideal S1024x1280 .f32) :
    wholeV (prods x w) = fun y : S2x32768x64.Idx => values x w (y 0) (y 1) (y 2) := by
  funext y
  obtain ⟨e, i, j, rfl⟩ : ∃ (e : Fin 2) (i : Fin 32768) (j : Fin 64), y = ix3 e i j := ⟨y 0, y 1, y 2, eq_ix3 y⟩
  rw [wholeV_apply]
  simp only [prods_apply]
  rfl

/-- The kernel of an even layer's input projection and its reference give the same four results. -/
theorem even_in : Cert.algebraic_EvenInIdeal_EvenInReferenceIdeal := by
  intro m ρ m' ρ' _ hagree
  refine ⟨fun c => Cert.EvenInIdeal.Array.result8 m c, fun c => Cert.EvenInIdeal.Array.result9 m c, fun c => Cert.EvenInIdeal.Array.result10 m c,
    fun c => Cert.EvenInIdeal.Array.result11 m c, ?_, ?_⟩
  · exact (θ_run Cert.EvenInIdeal.defs _ _).mono
      (fun _ hr c => ⟨(hr c).1.trans (Cert.EvenInIdeal.Array.final8 m c), (hr c).2.1.trans (Cert.EvenInIdeal.Array.final9 m c),
        (hr c).2.2.1.trans (Cert.EvenInIdeal.Array.final10 m c), (hr c).2.2.2.1.trans (Cert.EvenInIdeal.Array.final11 m c), (hr c).2.2.2.2⟩)
      (Cert.EvenInIdeal.Value.run_blocks m ρ)
  · refine (θ_run Cert.EvenInReferenceIdeal.defs _ _).mono (fun _ hr c =>
        ⟨(hr c).1.trans ?_, (hr c).2.1.trans ?_, (hr c).2.2.1.trans ?_, (hr c).2.2.2.1.trans ?_, (hr c).2.2.2.2⟩)
      (Cert.EvenInReferenceIdeal.Value.run (F := Ideal) m' ρ')
    · rw [(hagree c).1, (hagree c).2.1, (hagree c).2.2.1]
      exact ref_spectra _ _ _
    · refine (Cert.EvenInReferenceIdeal.Ref.resultQ m' c).trans ?_
      rw [(hagree c).1, (hagree c).2.1, (hagree c).2.2.2.1]
      exact ref_queries _ _ _
    · refine (Cert.EvenInReferenceIdeal.Ref.resultK m' c).trans ?_
      rw [(hagree c).1, (hagree c).2.1, (hagree c).2.2.2.2]
      exact ref_keys _ _ _
    · rw [(hagree c).1, (hagree c).2.1]
      exact ref_values _ _

end Cert.Proof.EvenIn

end
-- ==== Proof.LnInArray.lean ====
/- What the result array of the first layer normalisation holds at the end, at every index. -/
module

public import proofs.«01_k».proof.Proof.Gen.LnInIdeal.Value
public import proofs.«01_k».proof.Proof.LayerNorm
public import Idealize.ShloMosaic.Lib.Pointwise
public import Idealize.ShloMosaic.Lib.Pipeline.Value

@[expose] public section

set_option maxRecDepth 16384

noncomputable section

namespace Cert.LnInIdeal.Array

open Cert.LnInIdeal Cert.LnInIdeal.Gen Cert.Proof.Norm
open Idealize.ShloMosaic Idealize.ShloMosaic.TcCoe Idealize.SL.Sem
open Idealize.ShloMosaic.Pipeline (Dat)

variable (m : (ℓ : Loc nD τ sig) → Buf (Elt Ideal) ℓ)

/-- The arguments on device `c`. -/
abbrev xs (c : Dev nD) : FVec Ideal S32768x1024 .f32 := m ((c : Thread nD τ).loc main_arg0)
abbrev g (c : Dev nD) : FVec Ideal S1024 .f32 := m ((c : Thread nD τ).loc main_arg1)
abbrev b (c : Dev nD) : FVec Ideal S1024 .f32 := m ((c : Thread nD τ).loc main_arg2)

/-- Row `i`'s layer normalisation, at column `d`. -/
def row (x : FVec Ideal S32768x1024 .f32) (g b : FVec Ideal S1024 .f32) (i : Fin 32768) (d : Fin 1024) : EReal :=
  norm (fun e => x (ix2 i e)) (fun e => g (ix1 e)) (fun e => b (ix1 e)) d

/-- The result array's contents. -/
abbrev result (c : Dev nD) : Buf (Elt Ideal) ((c : Thread nD τ).loc main_v2) :=
  fun y : S32768x1024.Idx => row (xs m c) (g m c) (b m c) (y 0) (y 1)

/-! ## The gain and the offset as the host prepares them -/

theorem V_main_v0 (c : Dev nD) : V m c main_v0 = shapeCast S1x1024 (g m c) shapeCasts_S1024_S1x1024 := by
  unfold V
  after_results_simp
  rfl

theorem V_main_v1 (c : Dev nD) : V m c main_v1 = shapeCast S1x1024 (b m c) shapeCasts_S1024_S1x1024 := by
  unfold V
  after_results_simp
  rfl

/-! ## The blocks: point `t` of the grid takes rows `512 t` to `512 t + 511` -/

theorem index0 : ∀ t : Fin grid0.N, win0_0.index t 0 = t.val ∧ win0_0.index t 1 = 0 := by decide +kernel
theorem index3 : ∀ t : Fin grid0.N, win0_3.index t 0 = t.val ∧ win0_3.index t 1 = 0 := by decide +kernel
theorem index1 : ∀ (t : Fin grid0.N) (a : Fin 2), win0_1.index t a = 0 := by decide +kernel
theorem index2 : ∀ (t : Fin grid0.N) (a : Fin 2), win0_2.index t a = 0 := by decide +kernel

theorem lt_64 (t : Fin cfg0.N) : t.val < 64 := t.isLt.trans_eq N_0

theorem block0_apply (c : Dev nD) (t : Fin cfg0.N) (r : Fin 512) (y : Fin 1024) :
    (iblk m c 0 t : Vec Ideal S512x1024 .f32) (ix2 r y) = xs m c (ix2 ⟨t.val * 512 + r.val, by have := lt_64 t; omega⟩ y) := by
  have hi := index0 t
  rw [← show V m c main_arg0 = xs m c from V_main_arg0 m c]
  unfold iblk
  rw [View.read_apply]
  show V m c main_arg0 _ = V m c main_arg0 _
  refine congrArg (V m c main_arg0) (funext fun b => Fin.ext ?_)
  match b with
  | ⟨0, _⟩ => show win0_0.index t 0 * 512 + 1 * r.val = _; rw [hi.1]; show _ = t.val * 512 + r.val; omega
  | ⟨1, _⟩ => show win0_0.index t 1 * 1024 + 1 * y.val = _; rw [hi.2]; show _ = y.val; omega

theorem block1_apply (c : Dev nD) (t : Fin cfg0.N) (a1 : Fin 1024) :
    (iblk m c 1 t : Vec Ideal S1x1024 .f32) (ix2 0 a1) = g m c (ix1 a1) := by
  have e : (iblk m c 1 t : Vec Ideal S1x1024 .f32) (ix2 0 a1) = (V m c main_v0 : Vec Ideal S1x1024 .f32) (ix2 0 a1) := by
    unfold iblk
    rw [View.read_apply]
    show V m c main_v0 _ = V m c main_v0 _
    refine congrArg (V m c main_v0) (funext fun b => Fin.ext ?_)
    match b with
    | ⟨0, _⟩ => show win0_1.index t 0 * 1 + 1 * 0 = _; rw [index1 t 0]; show 0 * 1 + 1 * 0 = 0; omega
    | ⟨1, _⟩ => show win0_1.index t 1 * 1024 + 1 * a1.val = _; rw [index1 t 1]; show 0 * 1024 + 1 * a1.val = a1.val; omega
  rw [e, V_main_v0]
  pointwise

theorem block2_apply (c : Dev nD) (t : Fin cfg0.N) (a1 : Fin 1024) :
    (iblk m c 2 t : Vec Ideal S1x1024 .f32) (ix2 0 a1) = b m c (ix1 a1) := by
  have e : (iblk m c 2 t : Vec Ideal S1x1024 .f32) (ix2 0 a1) = (V m c main_v1 : Vec Ideal S1x1024 .f32) (ix2 0 a1) := by
    unfold iblk
    rw [View.read_apply]
    show V m c main_v1 _ = V m c main_v1 _
    refine congrArg (V m c main_v1) (funext fun b => Fin.ext ?_)
    match b with
    | ⟨0, _⟩ => show win0_2.index t 0 * 1 + 1 * 0 = _; rw [index2 t 0]; show 0 * 1 + 1 * 0 = 0; omega
    | ⟨1, _⟩ => show win0_2.index t 1 * 1024 + 1 * a1.val = _; rw [index2 t 1]; show 0 * 1024 + 1 * a1.val = a1.val; omega
  rw [e, V_main_v1]
  pointwise

/-! ## One grid point -/

theorem tile_apply (x0 : Vec Ideal S512x1024 .f32) (x1 x2 : Vec Ideal S1x1024 .f32) (r : Fin 512) (d : Fin 1024) :
    k0_pay1 x0 x1 x2 (ix2 r d) = norm (fun e => x0 (ix2 r e)) (fun e => x1 (ix2 0 e)) (fun e => x2 (ix2 0 e)) d := by
  pointwise [k0_pay1]
  rfl

theorem zero2 : (![0, 0] : Fin 2 → Nat) = fun _ => 0 := by decide

theorem out_eq (x0 : Vec Ideal S512x1024 .f32) (x1 x2 : Vec Ideal S1x1024 .f32) : out0_3 x0 x1 x2 = k0_pay1 x0 x1 x2 := by
  unfold out0_3
  rw [View.canon_unit_zero zero2]
  simp only [View.ld_unit_zero (S := S512x1024) zero2, View.ld_unit_zero (S := S1x1024) zero2]

/-- What point `t` leaves in its block: rows `512 t` to `512 t + 511` of the result. -/
theorem block_eq (c : Dev nD) (t : Fin cfg0.N) (r : Fin 512) (d : Fin 1024) :
    k0_pay1 (iblk m c 0 t) (iblk m c 1 t) (iblk m c 2 t) (ix2 r d)
      = row (xs m c) (g m c) (b m c) ⟨t.val * 512 + r.val, by have := lt_64 t; omega⟩ d := by
  rw [tile_apply]
  unfold row
  simp only [block0_apply m c t, block1_apply m c t, block2_apply m c t]

/-- What point `t` writes back is its block of the result. -/
theorem flushed_eq (c : Dev nD) (t : Fin cfg0.N) :
    (dats m 0 c).flushed 3 t = ((cfg0.win 3).blk t).view.read (Elt Ideal) (result m c) := by
  have ht := lt_64 t
  rw [Value.flushed3]
  funext y
  obtain ⟨r, d, rfl⟩ : ∃ (r : Fin 512) (d : Fin 1024), y = ix2 r d := ⟨y 0, y 1, eq_ix2 y⟩
  rw [out_eq]
  refine Eq.trans (b := k0_pay1 (iblk m c 0 t) (iblk m c 1 t) (iblk m c 2 t) (ix2 r d)) rfl ?_
  rw [block_eq, View.read_apply, cast_eq]
  have hi := index3 t
  show _ = row (xs m c) (g m c) (b m c)
    ((((cfg0.win 3).blk t).view.emb (ix2 r d) : S32768x1024.Idx) 0) ((((cfg0.win 3).blk t).view.emb (ix2 r d) : S32768x1024.Idx) 1)
  refine congrArg₂ (row (xs m c) (g m c) (b m c)) (Fin.ext (Eq.symm ?_)) (Fin.ext (Eq.symm ?_))
  · show win0_3.index t 0 * 512 + 1 * r.val = t.val * 512 + r.val
    rw [hi.1]; omega
  · show win0_3.index t 1 * 1024 + 1 * d.val = d.val
    rw [hi.2]; omega

/-- An index of the result array is in point `t`'s block. -/
theorem mem_blk (t : Fin cfg0.N) (i : S32768x1024.Idx) :
    i ∈ ((cfg0.win 3).blk t).view.set ↔ t.val * 512 ≤ (i 0 : Nat) ∧ (i 0 : Nat) < t.val * 512 + 512 := by
  show i ∈ ((View.whole main_v2).slice (win0_3.rect t)).set ↔ _
  rw [View.set_slice_whole, Rect.mem_set_unit]
  have hi := index3 t
  have h1 : (i 1 : Nat) < 1024 := (i 1).isLt
  have ex : win0_3.xsize (grid0.coords t) 0 = 512 ∧ win0_3.xsize (grid0.coords t) 1 = 1024 := ⟨rfl, rfl⟩
  have e0 : win0_3.index t 0 * win0_3.size 0 = t.val * 512 := by rw [hi.1]; rfl
  have e1 : win0_3.index t 1 * win0_3.size 1 = 0 := by rw [hi.2]; rfl
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e0, ex.1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, ex.1]; exact h
    | ⟨1, _⟩ => show win0_3.index t 1 * win0_3.size 1 ≤ (i 1 : Nat) ∧ (i 1 : Nat) < win0_3.index t 1 * win0_3.size 1 + win0_3.xsize (grid0.coords t) 1
                rw [e1, ex.2]; omega

/-- The blocks cover the result array. -/
theorem cover (i : S32768x1024.Idx) :
    ∃ t : Fin cfg0.N, (cfg0.win 3).flush t = true ∧ i ∈ ((cfg0.win 3).blk t).view.set := by
  have h0 : (i 0 : Nat) < 32768 := (i 0).isLt
  refine ⟨⟨(i 0).val / 512, by show _ < grid0.N; rw [N_0]; omega⟩, ?_, ?_⟩
  · exact flush0_3 _
  · rw [mem_blk]
    dsimp only
    omega

/-- The result array ends holding the normalised rows. -/
theorem final (c : Dev nD) : (dats m 0 c).arrAt 3 cfg0.N = result m c :=
  (dats m 0 c).arrAt_eq_of_cover 3 (result m c) (fun t _ => flushed_eq m c t) cover

end Cert.LnInIdeal.Array

end
-- ==== Proof.LnInClaim.lean ====
/- The claims about the kernel of the first layer normalisation and its reference. -/
module

public import proofs.«01_k».proof.Defs
public import proofs.«01_k».proof.Proof.Gen.LnIn
public import proofs.«01_k».proof.Proof.Gen.LnInIdeal
public import proofs.«01_k».proof.Proof.Gen.LnInReferenceIdeal
public import proofs.«01_k».proof.Proof.Gen.LnInReferenceIdeal.Run
public import proofs.«01_k».proof.Proof.Gen.LnIn.Frame
public import proofs.«01_k».proof.Proof.LnInArray
public import proofs.«01_k».proof.Proof.HostNorm
public import Idealize.ShloMosaic.Lib.Quiescent

@[expose] public section

set_option maxRecDepth 16384

noncomputable section

namespace Cert.Proof.LnIn

open Idealize.ShloMosaic Idealize.ShloMosaic.TcCoe Idealize.SL.Sem

theorem frame_LnIn : Cert.quiescent_LnIn := fun m ρ _ => Cert.LnIn.Gen.frame m ρ

theorem frame_LnInIdeal : Cert.quiescent_LnInIdeal := fun m ρ _ => Cert.LnInIdeal.Gen.frame m ρ

theorem frame_LnInReferenceIdeal : Cert.quiescent_LnInReferenceIdeal := fun m ρ _ =>
  (θ_run Cert.LnInReferenceIdeal.defs _ _).mono
    (fun r h => ⟨fun c => (h c).2, Idealize.ShloMosaic.sem_eq_zero_of_no_sems (by decide) r.2⟩)
    (Cert.LnInReferenceIdeal.Value.run (F := Ideal) m ρ)

/-- The kernel of the first layer normalisation and its reference give the same result. -/
theorem ln_in : Cert.algebraic_LnInIdeal_LnInReferenceIdeal := by
  intro m ρ m' ρ' _ hagree
  refine ⟨fun c => Cert.LnInIdeal.Array.result m c, ?_, ?_⟩
  · exact (θ_run Cert.LnInIdeal.defs _ _).mono
      (fun _ hr c => ⟨(hr c).1.trans (Cert.LnInIdeal.Array.final m c), (hr c).2⟩)
      (Cert.LnInIdeal.Value.run_blocks m ρ)
  · refine (θ_run Cert.LnInReferenceIdeal.defs _ _).mono (fun _ hr c => ⟨(hr c).1.trans ?_, (hr c).2⟩)
      (Cert.LnInReferenceIdeal.Value.run (F := Ideal) m' ρ')
    rw [(hagree c).1, (hagree c).2.1, (hagree c).2.2]
    refine Eq.trans (b := Norm.norms (Cert.LnInIdeal.Array.xs m c) (Cert.LnInIdeal.Array.g m c) (Cert.LnInIdeal.Array.b m c)) rfl ?_
    funext y
    refine Eq.trans (congrArg _ (eq_ix2 y)) ?_
    exact Norm.norms_apply _ _ _ (y 0) (y 1)

end Cert.Proof.LnIn

end
-- ==== Proof.DftMath.lean ====
/- The transform along the positions, written at an index. -/
module

public import Idealize.ShloMosaic.Lib.Pointwise

@[expose] public section

noncomputable section

namespace Cert.Proof.Dft

open Idealize.ShloMosaic

/-- The transform of a column: row `s` of the table times that column. -/
def column (table : FVec Ideal ⟨2, ![8192, 16384]⟩ .bf16) (z : FVec Ideal ⟨2, ![16384, 2048]⟩ .bf16) (s : Fin 8192) (j : Fin 2048) : EReal :=
  ∑ l : Fin 16384, table (ix2 s l) * z (ix2 l j)

/-- The mixed channels: in each group of 128 channels of a sequence, the transformed columns times the group's map. -/
def mixed (table : FVec Ideal ⟨2, ![8192, 16384]⟩ .bf16) (z : FVec Ideal ⟨2, ![16384, 2048]⟩ .bf16) (w : FVec Ideal ⟨3, ![4, 128, 128]⟩ .f32)
    (b : Fin 4) (s : Fin 8192) (d : Fin 512) : EReal :=
  ∑ k : Fin 128, column table z s ⟨b.val * 512 + d.val / 128 * 128 + k.val, by omega⟩
    * w (ix3 ⟨d.val / 128, by omega⟩ k ⟨d.val % 128, by omega⟩)

end Cert.Proof.Dft

end
-- ==== Proof.DftBlocks.lean ====
/- The blocks that each grid point of the transform along the positions reads. -/
module

public import proofs.«01_k».proof.Proof.Gen.DftIdeal.Value
public import Idealize.ShloMosaic.Lib.Pointwise
public import Idealize.ShloMosaic.Lib.Pipeline.Value

@[expose] public section

set_option maxRecDepth 16384

noncomputable section

namespace Cert.DftIdeal.Array

open Cert.DftIdeal Cert.DftIdeal.Gen
open Idealize.ShloMosaic Idealize.ShloMosaic.TcCoe Idealize.SL.Sem
open Idealize.ShloMosaic.Pipeline (Dat)

variable (m : (ℓ : Loc nD τ sig) → Buf (Elt Ideal) ℓ)

/-- The arguments on device `c`: the transform's table, the channels' sums, every group's linear map. -/
abbrev table (c : Dev nD) : FVec Ideal S8192x16384 .bf16 := m ((c : Thread nD τ).loc main_arg0)
abbrev zs (c : Dev nD) : FVec Ideal S16384x2048 .bf16 := m ((c : Thread nD τ).loc main_arg1)
abbrev wf (c : Dev nD) : FVec Ideal S4x128x128 .f32 := m ((c : Thread nD τ).loc main_arg2)

theorem V_main_v0 (c : Dev nD) : V m c main_v0 = truncf .bf16 (wf m c) bitsLt_bf16_f32 := by
  unfold V
  after_results_simp

/-! ## Point `t` takes rows from `1024 (t / 16)` of the table, and its columns from `1024 (t % 16)` -/

theorem index0 : ∀ t : Fin grid0.N, win0_0.index t 0 = t.val / 16 ∧ win0_0.index t 1 = t.val % 16 := by decide +kernel
theorem index1 : ∀ t : Fin grid0.N, win0_1.index t 0 = t.val % 16 ∧ win0_1.index t 1 = 0 := by decide +kernel
theorem index2 : ∀ (t : Fin grid0.N) (a : Fin 3), win0_2.index t a = 0 := by decide +kernel
theorem index3 : ∀ t : Fin grid0.N, win0_3.index t 0 = 0 ∧ win0_3.index t 1 = t.val / 16 ∧ win0_3.index t 2 = 0 := by decide +kernel

theorem lt_128 (t : Fin cfg0.N) : t.val < 128 := t.isLt.trans_eq N_0

theorem block0_apply (c : Dev nD) (t : Fin cfg0.N) (r y : Fin 1024) :
    (iblk m c 0 t : Vec Ideal S1024x1024 .bf16) (ix2 r y)
      = table m c (ix2 ⟨t.val / 16 * 1024 + r.val, by have := lt_128 t; omega⟩ ⟨t.val % 16 * 1024 + y.val, by omega⟩) := by
  have hi := index0 t
  rw [← show V m c main_arg0 = table m c from V_main_arg0 m c]
  unfold iblk
  rw [View.read_apply]
  show V m c main_arg0 _ = V m c main_arg0 _
  refine congrArg (V m c main_arg0) (funext fun b => Fin.ext ?_)
  match b with
  | ⟨0, _⟩ => show win0_0.index t 0 * 1024 + 1 * r.val = _; rw [hi.1]; show _ = t.val / 16 * 1024 + r.val; omega
  | ⟨1, _⟩ => show win0_0.index t 1 * 1024 + 1 * y.val = _; rw [hi.2]; show _ = t.val % 16 * 1024 + y.val; omega

theorem block1_apply (c : Dev nD) (t : Fin cfg0.N) (r : Fin 1024) (y : Fin 2048) :
    (iblk m c 1 t : Vec Ideal S1024x2048 .bf16) (ix2 r y) = zs m c (ix2 ⟨t.val % 16 * 1024 + r.val, by omega⟩ y) := by
  have hi := index1 t
  rw [← show V m c main_arg1 = zs m c from V_main_arg1 m c]
  unfold iblk
  rw [View.read_apply]
  show V m c main_arg1 _ = V m c main_arg1 _
  refine congrArg (V m c main_arg1) (funext fun b => Fin.ext ?_)
  match b with
  | ⟨0, _⟩ => show win0_1.index t 0 * 1024 + 1 * r.val = _; rw [hi.1]; show _ = t.val % 16 * 1024 + r.val; omega
  | ⟨1, _⟩ => show win0_1.index t 1 * 2048 + 1 * y.val = _; rw [hi.2]; show _ = y.val; omega

theorem block2_apply (c : Dev nD) (t : Fin cfg0.N) (g : Fin 4) (k d : Fin 128) :
    (iblk m c 2 t : Vec Ideal S4x128x128 .bf16) (ix3 g k d) = wf m c (ix3 g k d) := by
  have e : (iblk m c 2 t : Vec Ideal S4x128x128 .bf16) (ix3 g k d) = (V m c main_v0 : Vec Ideal S4x128x128 .bf16) (ix3 g k d) := by
    unfold iblk
    rw [View.read_apply]
    show V m c main_v0 _ = V m c main_v0 _
    refine congrArg (V m c main_v0) (funext fun b => Fin.ext ?_)
    match b with
    | ⟨0, _⟩ => show win0_2.index t 0 * 4 + 1 * g.val = _; rw [index2 t 0]; show 0 * 4 + 1 * g.val = g.val; omega
    | ⟨1, _⟩ => show win0_2.index t 1 * 128 + 1 * k.val = _; rw [index2 t 1]; show 0 * 128 + 1 * k.val = k.val; omega
    | ⟨2, _⟩ => show win0_2.index t 2 * 128 + 1 * d.val = _; rw [index2 t 2]; show 0 * 128 + 1 * d.val = d.val; omega
  rw [e, V_main_v0]
  pointwise

end Cert.DftIdeal.Array

end
-- ==== Proof.DftSum.lean ====
/- What the running sum of the transform along the positions holds after its last step. -/
module

public import proofs.«01_k».proof.Proof.DftBlocks
public import Idealize.ShloMosaic.Lib.Pipeline.ValueKit.Acc

@[expose] public section

set_option maxRecDepth 16384

noncomputable section

namespace Cert.DftIdeal.Array

open Cert.DftIdeal Cert.DftIdeal.Gen
open Idealize.ShloMosaic Idealize.ShloMosaic.TcCoe Idealize.SL.Sem
open Idealize.ShloMosaic.Pipeline (Dat)

variable (m : (ℓ : Loc nD τ sig) → Buf (Elt Ideal) ℓ)

theorem zero_apply (j : S1024x2048.Idx) : k0_pay1 (F := Ideal) j = (0 : EReal) := by
  obtain ⟨a, b, rfl⟩ : ∃ (a : Fin 1024) (b : Fin 2048), j = ix2 a b := ⟨j 0, j 1, eq_ix2 j⟩
  pointwise [k0_pay1]

/-- What a step adds at an index of the running sum. -/
def part (x0 : Vec Ideal S1024x1024 .bf16) (x1 : Vec Ideal S1024x2048 .bf16) (j : S1024x2048.Idx) : EReal :=
  ∑ k : Fin 1024, x0 (ix2 (j 0) k) * x1 (ix2 k (j 1))

theorem step_apply (h : Vec Ideal S1024x2048 .f32) (x0 : Vec Ideal S1024x1024 .bf16) (x1 : Vec Ideal S1024x2048 .bf16) (j : S1024x2048.Idx) :
    k0_pay2 h x0 x1 j = (h j + part x0 x1 j : EReal) := by
  obtain ⟨a, b, rfl⟩ : ∃ (a : Fin 1024) (b : Fin 2048), j = ix2 a b := ⟨j 0, j 1, eq_ix2 j⟩
  pointwise [k0_pay2]
  rfl

/-- After the last step of a row of blocks the running sum is the sum of all sixteen parts. -/
theorem sum_eq (c : Dev nD) (t : Fin cfg0.N) (ht : t.val % 16 = 15) (j : S1024x2048.Idx) :
    (outsAt0 m c t.val t.isLt).2 j
      = (0 + ∑ s : Fin 16, part (iblk m c 0 ⟨16 * (t.val / 16) + s.val, Pipeline.run_point_lt_of_flush t ht s⟩)
          (iblk m c 1 ⟨16 * (t.val / 16) + s.val, Pipeline.run_point_lt_of_flush t ht s⟩) j : EReal) :=
  Pipeline.eq_sum_fin_of_reset_step_apply_of_flush (fun n h => ((outsAt0 m c n h).2 : S1024x2048.Idx → EReal)) 16 (fun _ => 0)
    (fun t => part (iblk m c 0 t) (iblk m c 1 t))
    (fun t h j => by
      have h1 : ¬t.val % 16 = 15 := by omega
      rw [outsAt0_A m c t h h1]
      frame_out
      rw [step_apply, zero_apply])
    (fun t h j => by
      by_cases h1 : t.val % 16 = 15
      · rw [outsAt0_C m c t h h1]
        frame_out
        rw [step_apply]
        rw [show View.read (Elt Ideal) (View.whole cc0_scratch0) ((Memref.isWhole_whole cc0_scratch0).unread (outsAt0 m c (t.val - 1) _).2) = (outsAt0 m c (t.val - 1) _).2
          from (Memref.isWhole_whole cc0_scratch0).read_unread _]
      · rw [outsAt0_B m c t h h1]
        frame_out
        rw [step_apply]
        rw [show View.read (Elt Ideal) (View.whole cc0_scratch0) ((Memref.isWhole_whole cc0_scratch0).unread (outsAt0 m c (t.val - 1) _).2) = (outsAt0 m c (t.val - 1) _).2
          from (Memref.isWhole_whole cc0_scratch0).read_unread _])
    t ht j

/-- The running sum after the last step is what that step computes. -/
theorem last_eq (c : Dev nD) (t : Fin cfg0.N) (ht : t.val % 16 = 15) :
    (outsAt0 m c t.val t.isLt).2 = k0_pay2 (outsAt0 m c (t.val - 1) (Nat.lt_of_le_of_lt (Nat.sub_le _ _) t.isLt)).2 (iblk m c 0 t) (iblk m c 1 t) := by
  rw [outsAt0_C m c t (by omega) ht]
  frame_out
  rw [show View.read (Elt Ideal) (View.whole cc0_scratch0) ((Memref.isWhole_whole cc0_scratch0).unread (outsAt0 m c (t.val - 1) _).2) = (outsAt0 m c (t.val - 1) _).2
    from (Memref.isWhole_whole cc0_scratch0).read_unread _]

end Cert.DftIdeal.Array

end
-- ==== Proof.DftPieces.lean ====
/- What the last step of a row of blocks leaves in the block it writes. -/
module

public import proofs.«01_k».proof.Proof.DftBlocks
public import Idealize.ShloMosaic.Lib.Pipeline.ValueKit.Acc

@[expose] public section

set_option maxRecDepth 16384

noncomputable section

namespace Cert.DftIdeal.Array

open Cert.DftIdeal Cert.DftIdeal.Gen
open Idealize.ShloMosaic Idealize.ShloMosaic.TcCoe Idealize.SL.Sem
open Idealize.ShloMosaic.Pipeline (Dat)

/-- The block of results, of a block of transformed columns and every group's map. -/
def mix (h : Vec Ideal S1024x2048 .f32) (w : Vec Ideal S4x128x128 .bf16) : Vec Ideal S4x1024x512 .bf16 := fun y =>
  have h0 : (y 0).val < 4 := (y 0).isLt
  have h2 : (y 2).val < 512 := (y 2).isLt
  (∑ k : Fin 128, h (ix2 (y 1) ⟨(y 0).val * 512 + (y 2).val / 128 * 128 + k.val, by omega⟩)
    * w (ix3 ⟨(y 2).val / 128, by omega⟩ k ⟨(y 2).val % 128, by omega⟩) : EReal)

/-- A tile stored for sequence `a` and group `b`: those columns times that group's map. -/
theorem piece (h : Vec Ideal S1024x2048 .f32) (w : Vec Ideal S4x128x128 .bf16) (a b : ℕ) (ha : a < 4) (hb : b < 4) {o p : ℕ}
    (ho : o = a * 512 + b * 128) (hp : p = b * 128)
    (inb : ∀ i : Fin 3, (![a, 0, p] : Fin 3 → ℕ) i + (![1, 1024, 128] : Fin 3 → ℕ) i ≤ S4x1024x512.size i)
    (inh : ∀ i : Fin 2, (![0, o] : Fin 2 → ℕ) i + (![1024, 128] : Fin 2 → ℕ) i ≤ S1024x2048.size i)
    (inw : ∀ i : Fin 3, (![b, 0, 0] : Fin 3 → ℕ) i + (![1, 128, 128] : Fin 3 → ℕ) i ≤ S4x128x128.size i)
    (f : Vec Ideal S1024x128 .f32 → Vec Ideal S1x128x128 .bf16 → FVec Ideal S1x1024x128 .bf16)
    (hf : ∀ u v (r : Fin 1024) (d : Fin 128), f u v (ix3 0 r d) = (∑ k : Fin 128, u (ix2 r k) * v (ix3 0 k d) : EReal)) (x : S1x1024x128.Idx) :
    f (View.ld (Val := Elt Ideal) h (Rect.unit (s := S1024x2048) ![0, o] ![1024, 128] inh))
        (View.ld (Val := Elt Ideal) w (Rect.unit (s := S4x128x128) ![b, 0, 0] ![1, 128, 128] inw)) x
      = mix h w ((Rect.unit (s := S4x1024x512) ![a, 0, p] ![1, 1024, 128] inb).emb x) := by
  obtain ⟨z, r, d, rfl⟩ : ∃ (z : Fin 1) (r : Fin 1024) (d : Fin 128), x = ix3 z r d := ⟨x 0, x 1, x 2, eq_ix3 x⟩
  obtain rfl : z = 0 := Fin.eq_zero z
  rw [hf]
  refine Finset.sum_congr rfl fun k _ => congrArg₂ (· * ·) (congrArg h (funext fun i => Fin.ext ?_)) (congrArg w (funext fun i => Fin.ext ?_))
  · match i with
    | ⟨0, _⟩ => show 0 + 1 * r.val = 0 + 1 * r.val; rfl
    | ⟨1, _⟩ => show o + 1 * k.val = (a + 1 * 0) * 512 + (p + 1 * d.val) / 128 * 128 + k.val; omega
  · match i with
    | ⟨0, _⟩ => show b + 1 * 0 = (p + 1 * d.val) / 128; omega
    | ⟨1, _⟩ => show 0 + 1 * k.val = k.val; omega
    | ⟨2, _⟩ => show 0 + 1 * d.val = (p + 1 * d.val) % 128; omega

theorem zero2 : (![0, 0] : Fin 2 → Nat) = fun _ => 0 := by decide

theorem out_eq (c : Dev nD) (i : grid0.Coords) (arg2 : Memref sig .tc .vmem S1024x1024 .bf16) (harg2 : arg2.IsWhole)
    (arg3 : Memref sig .tc .vmem S1024x2048 .bf16) (harg3 : arg3.IsWhole) (arg4 : Memref sig .tc .vmem S4x128x128 .bf16) (harg4 : arg4.IsWhole)
    (arg5 : Memref sig .tc .vmem S4x1024x512 .bf16) (harg5 : arg5.IsWhole) (arg6 : Memref sig .tc .vmem S1024x2048 .f32) (harg6 : arg6.IsWhole)
    (hc0 : ¬cond0_0 i) (hc1 : cond0_1 i) (x0 : Vec Ideal S1024x1024 .bf16) (x1 : Vec Ideal S1024x2048 .bf16) (x2 : Vec Ideal S4x128x128 .bf16)
    (xs0 : Vec Ideal S1024x2048 .f32) (y : S4x1024x512.Idx) :
    out0_C_3 c i arg2 harg2 arg3 harg3 arg4 harg4 arg5 harg5 arg6 harg6 hc0 hc1 x0 x1 x2 xs0 y = mix (k0_pay2 xs0 x0 x1) x2 y := by
  have hcover := cover0_C_3 c i arg2 harg2 arg3 harg3 arg4 harg4 arg5 harg5 arg6 harg6 hc0 hc1 x0 x1 x2 xs0 y
  unfold out0_C_3
  rw [View.read_writes_eq_canon _ _ _ (cover0_C_3 c i arg2 harg2 arg3 harg3 arg4 harg4 arg5 harg5 arg6 harg6 hc0 hc1 x0 x1 x2 xs0)]
  refine View.canon_apply_of_pieces (mix (k0_pay2 xs0 x0 x1) x2) _ ?_ y hcover
  unfold kernelRun0_C
  dsimp only
  sl_unfold_words
  simp only [View.readAt_eq_ld, View.readCov_eq_canon', harg2.read_unread, harg3.read_unread, harg4.read_unread, harg6.read_unread,
    View.canon_unit_zero (S := S1024x2048) zero2, View.ld_unit_zero (S := S1024x2048) zero2, View.ld_unit_zero (S := S1024x1024) zero2]
  intro pc hpc
  rcases List.mem_cons.mp hpc with rfl | hpc
  · exact piece (k0_pay2 xs0 x0 x1) x2 3 3 (by omega) (by omega) rfl rfl inb_S4x1024x512_S1x1024x128_3_0_384 inb_S1024x2048_S1024x128_0_1920
      inb_S4x128x128_S1x128x128_3_0_0 (fun u v => k0_pay3 (k0_pay23 u v)) (fun u v r d => by pointwise [k0_pay3, k0_pay23])
  rcases List.mem_cons.mp hpc with rfl | hpc
  · exact piece (k0_pay2 xs0 x0 x1) x2 3 2 (by omega) (by omega) rfl rfl inb_S4x1024x512_S1x1024x128_3_0_256 inb_S1024x2048_S1024x128_0_1792
      inb_S4x128x128_S1x128x128_2_0_0 k0_pay22 (fun u v r d => by pointwise [k0_pay22])
  rcases List.mem_cons.mp hpc with rfl | hpc
  · exact piece (k0_pay2 xs0 x0 x1) x2 3 1 (by omega) (by omega) rfl rfl inb_S4x1024x512_S1x1024x128_3_0_128 inb_S1024x2048_S1024x128_0_1664
      inb_S4x128x128_S1x128x128_1_0_0 k0_pay21 (fun u v r d => by pointwise [k0_pay21])
  rcases List.mem_cons.mp hpc with rfl | hpc
  · exact piece (k0_pay2 xs0 x0 x1) x2 3 0 (by omega) (by omega) rfl rfl inb_S4x1024x512_S1x1024x128_3_0_0 inb_S1024x2048_S1024x128_0_1536
      inb_S4x128x128_S1x128x128_0_0_0 (fun u v => k0_pay20 (k0_pay19 u v)) (fun u v r d => by pointwise [k0_pay20, k0_pay19])
  rcases List.mem_cons.mp hpc with rfl | hpc
  · exact piece (k0_pay2 xs0 x0 x1) x2 2 3 (by omega) (by omega) rfl rfl inb_S4x1024x512_S1x1024x128_2_0_384 inb_S1024x2048_S1024x128_0_1408
      inb_S4x128x128_S1x128x128_3_0_0 k0_pay18 (fun u v r d => by pointwise [k0_pay18])
  rcases List.mem_cons.mp hpc with rfl | hpc
  · exact piece (k0_pay2 xs0 x0 x1) x2 2 2 (by omega) (by omega) rfl rfl inb_S4x1024x512_S1x1024x128_2_0_256 inb_S1024x2048_S1024x128_0_1280
      inb_S4x128x128_S1x128x128_2_0_0 k0_pay17 (fun u v r d => by pointwise [k0_pay17])
  rcases List.mem_cons.mp hpc with rfl | hpc
  · exact piece (k0_pay2 xs0 x0 x1) x2 2 1 (by omega) (by omega) rfl rfl inb_S4x1024x512_S1x1024x128_2_0_128 inb_S1024x2048_S1024x128_0_1152
      inb_S4x128x128_S1x128x128_1_0_0 (fun u v => k0_pay16 (k0_pay14 u) (k0_pay15 v)) (fun u v r d => by pointwise [k0_pay16, k0_pay14, k0_pay15])
  rcases List.mem_cons.mp hpc with rfl | hpc
  · exact piece (k0_pay2 xs0 x0 x1) x2 2 0 (by omega) (by omega) rfl rfl inb_S4x1024x512_S1x1024x128_2_0_0 inb_S1024x2048_S1024x128_0_1024
      inb_S4x128x128_S1x128x128_0_0_0 k0_pay13 (fun u v r d => by pointwise [k0_pay13])
  rcases List.mem_cons.mp hpc with rfl | hpc
  · exact piece (k0_pay2 xs0 x0 x1) x2 1 3 (by omega) (by omega) rfl rfl inb_S4x1024x512_S1x1024x128_1_0_384 inb_S1024x2048_S1024x128_0_896
      inb_S4x128x128_S1x128x128_3_0_0 k0_pay12 (fun u v r d => by pointwise [k0_pay12])
  rcases List.mem_cons.mp hpc with rfl | hpc
  · exact piece (k0_pay2 xs0 x0 x1) x2 1 2 (by omega) (by omega) rfl rfl inb_S4x1024x512_S1x1024x128_1_0_256 inb_S1024x2048_S1024x128_0_768
      inb_S4x128x128_S1x128x128_2_0_0 (fun u v => k0_pay11 (k0_pay10 u) v) (fun u v r d => by pointwise [k0_pay11, k0_pay10])
  rcases List.mem_cons.mp hpc with rfl | hpc
  · exact piece (k0_pay2 xs0 x0 x1) x2 1 1 (by omega) (by omega) rfl rfl inb_S4x1024x512_S1x1024x128_1_0_128 inb_S1024x2048_S1024x128_0_640
      inb_S4x128x128_S1x128x128_1_0_0 k0_pay9 (fun u v r d => by pointwise [k0_pay9])
  rcases List.mem_cons.mp hpc with rfl | hpc
  · exact piece (k0_pay2 xs0 x0 x1) x2 1 0 (by omega) (by omega) rfl rfl inb_S4x1024x512_S1x1024x128_1_0_0 inb_S1024x2048_S1024x128_0_512
      inb_S4x128x128_S1x128x128_0_0_0 k0_pay8 (fun u v r d => by pointwise [k0_pay8])
  rcases List.mem_cons.mp hpc with rfl | hpc
  · exact piece (k0_pay2 xs0 x0 x1) x2 0 3 (by omega) (by omega) rfl rfl inb_S4x1024x512_S1x1024x128_0_0_384 inb_S1024x2048_S1024x128_0_384
      inb_S4x128x128_S1x128x128_3_0_0 k0_pay7 (fun u v r d => by pointwise [k0_pay7])
  rcases List.mem_cons.mp hpc with rfl | hpc
  · exact piece (k0_pay2 xs0 x0 x1) x2 0 2 (by omega) (by omega) rfl rfl inb_S4x1024x512_S1x1024x128_0_0_256 inb_S1024x2048_S1024x128_0_256
      inb_S4x128x128_S1x128x128_2_0_0 k0_pay6 (fun u v r d => by pointwise [k0_pay6])
  rcases List.mem_cons.mp hpc with rfl | hpc
  · exact piece (k0_pay2 xs0 x0 x1) x2 0 1 (by omega) (by omega) rfl rfl inb_S4x1024x512_S1x1024x128_0_0_128 inb_S1024x2048_S1024x128_0_128
      inb_S4x128x128_S1x128x128_1_0_0 k0_pay5 (fun u v r d => by pointwise [k0_pay5])
  rcases List.mem_cons.mp hpc with rfl | hpc
  · exact piece (k0_pay2 xs0 x0 x1) x2 0 0 (by omega) (by omega) rfl rfl inb_S4x1024x512_S1x1024x128_0_0_0 inb_S1024x2048_S1024x128_0_0
      inb_S4x128x128_S1x128x128_0_0_0 k0_pay4 (fun u v r d => by pointwise [k0_pay4])
  nomatch hpc

end Cert.DftIdeal.Array

end
-- ==== Proof.DftArray.lean ====
/- What the result array of the transform along the positions holds at the end, at every index. -/
module

public import proofs.«01_k».proof.Proof.DftMath
public import proofs.«01_k».proof.Proof.DftSum
public import proofs.«01_k».proof.Proof.DftPieces

@[expose] public section

set_option maxRecDepth 16384

noncomputable section

namespace Cert.DftIdeal.Array

open Cert.DftIdeal Cert.DftIdeal.Gen Cert.Proof.Dft
open Idealize.ShloMosaic Idealize.ShloMosaic.TcCoe Idealize.SL.Sem
open Idealize.ShloMosaic.Pipeline (Dat)

variable (m : (ℓ : Loc nD τ sig) → Buf (Elt Ideal) ℓ)

/-- The result array's contents. -/
abbrev result (c : Dev nD) : Buf (Elt Ideal) ((c : Thread nD τ).loc main_v1) :=
  fun y : S4x8192x512.Idx => mixed (table m c) (zs m c) (wf m c) (y 0) (y 1) (y 2)

/-- After the last step the running sum holds the transformed columns of that row of blocks. -/
theorem sum_apply (c : Dev nD) (t : Fin cfg0.N) (ht : t.val % 16 = 15) (r : Fin 1024) (j : Fin 2048) :
    (outsAt0 m c t.val t.isLt).2 (ix2 r j)
      = column (table m c) (zs m c) ⟨t.val / 16 * 1024 + r.val, by have := lt_128 t; omega⟩ j := by
  rw [sum_eq m c t ht, zero_add]
  unfold column
  refine Fin.sum_mul_add_congr (S := 16) (n := 1024) (fun s k hl => ?_) (by decide)
  have hs : s.val < 16 := s.isLt
  refine congrArg₂ (· * ·) ((block0_apply m c _ r k).trans (congrArg (table m c) ?_)) ((block1_apply m c _ k j).trans (congrArg (zs m c) ?_))
  · exact congrArg₂ ix2 (Fin.ext (by show (16 * (t.val / 16) + s.val) / 16 * 1024 + r.val = t.val / 16 * 1024 + r.val; omega))
      (Fin.ext (by show (16 * (t.val / 16) + s.val) % 16 * 1024 + k.val = s.val * 1024 + k.val; omega))
  · exact congrArg₂ ix2 (Fin.ext (by show (16 * (t.val / 16) + s.val) % 16 * 1024 + k.val = s.val * 1024 + k.val; omega)) rfl

/-- What point `t` writes back is its block of the result. -/
theorem flushed_eq (c : Dev nD) (t : Fin cfg0.N) (hf : (cfg0.win 3).flush t = true) :
    (dats m 0 c).flushed 3 t = ((cfg0.win 3).blk t).view.read (Elt Ideal) (result m c) := by
  have ht : t.val % 16 = 15 := (flush0_3 t).mp hf
  have hlt := lt_128 t
  rw [Value.flushed3_C m c t (by omega) ht]
  funext y
  obtain ⟨e, r, d, rfl⟩ : ∃ (e : Fin 4) (r : Fin 1024) (d : Fin 512), y = ix3 e r d := ⟨y 0, y 1, y 2, eq_ix3 y⟩
  refine (out_eq c _ _ _ _ _ _ _ _ _ _ _ _ _ _ _ _ _ (ix3 e r d)).trans ?_
  rw [← last_eq m c t ht, View.read_apply, cast_eq]
  have hi := index3 t
  have e0 : (((cfg0.win 3).blk t).view.emb (ix3 e r d) : S4x8192x512.Idx) 0 = e := Fin.ext (by
    show win0_3.index t 0 * 4 + 1 * e.val = e.val
    rw [hi.1]; omega)
  have e1 : (((cfg0.win 3).blk t).view.emb (ix3 e r d) : S4x8192x512.Idx) 1 = (⟨t.val / 16 * 1024 + r.val, by omega⟩ : Fin 8192) := Fin.ext (by
    show win0_3.index t 1 * 1024 + 1 * r.val = t.val / 16 * 1024 + r.val
    rw [hi.2.1]; omega)
  have e2 : (((cfg0.win 3).blk t).view.emb (ix3 e r d) : S4x8192x512.Idx) 2 = d := Fin.ext (by
    show win0_3.index t 2 * 512 + 1 * d.val = d.val
    rw [hi.2.2]; omega)
  show _ = mixed (table m c) (zs m c) (wf m c) ((((cfg0.win 3).blk t).view.emb (ix3 e r d) : S4x8192x512.Idx) 0)
    ((((cfg0.win 3).blk t).view.emb (ix3 e r d) : S4x8192x512.Idx) 1) ((((cfg0.win 3).blk t).view.emb (ix3 e r d) : S4x8192x512.Idx) 2)
  rw [e0, e1, e2]
  refine Finset.sum_congr rfl fun k _ => congrArg₂ (· * ·) (sum_apply m c t ht r _) (block2_apply m c t _ k _)

/-- The result array's final contents. -/
theorem final (c : Dev nD) : (dats m 0 c).arrAt 3 cfg0.N = result m c :=
  (dats m 0 c).arrAt_eq_of_cover 3 (result m c) (fun t hf => flushed_eq m c t hf) fun i => (Value.covered_iff3 i).2 (by
    have h0 : (i 0).val < 4 := (i 0).isLt
    have h1 : (i 1).val < 8192 := (i 1).isLt
    have h2 : (i 2).val < 512 := (i 2).isLt
    omega)

end Cert.DftIdeal.Array

end
-- ==== Proof.DftRef.lean ====
/- The reference of the transform along the positions, at an index. -/
module

public import proofs.«01_k».proof.Proof.Gen.DftReferenceIdeal.Run
public import proofs.«01_k».proof.Proof.DftMath

@[expose] public section

set_option maxRecDepth 16384

noncomputable section

namespace Cert.DftReferenceIdeal.Ref

open Cert.DftReferenceIdeal Cert.DftReferenceIdeal.Gen Cert.Proof.Dft
open Idealize.ShloMosaic Idealize.ShloMosaic.TcCoe Idealize.SL.Sem

/-- The transformed columns: the products of the two halves, added. -/
def columns (t : FVec Ideal S8192x16384 .bf16) (z : FVec Ideal S16384x2048 .bf16) : FVec Ideal S8192x2048 .f32 :=
  addf (Host.dotGeneral dot_S8192x8192_S8192x2048_S8192x2048_1_0_0_1_n_n none (extractStridedSlice S8192x8192 ![0, 0] (extf .f32 t bitsLt_bf16_f32) slices_S8192x16384_S8192x8192_0_0) (extractStridedSlice S8192x2048 ![0, 0] (extf .f32 z bitsLt_bf16_f32) slices_S16384x2048_S8192x2048_0_0)) (Host.dotGeneral dot_S8192x8192_S8192x2048_S8192x2048_1_0_0_1_n_n none (extractStridedSlice S8192x8192 ![0, 8192] (extf .f32 t bitsLt_bf16_f32) slices_S8192x16384_S8192x8192_0_8192) (extractStridedSlice S8192x2048 ![8192, 0] (extf .f32 z bitsLt_bf16_f32) slices_S16384x2048_S8192x2048_8192_0))

theorem columns_apply (t : FVec Ideal S8192x16384 .bf16) (z : FVec Ideal S16384x2048 .bf16) (s : Fin 8192) (j : Fin 2048) :
    columns t z (ix2 s j) = column t z s j := by
  unfold columns column
  pointwise
  refine Eq.trans ?_ (Fin.sum_univ_add (a := 8192) (b := 8192) fun l : Fin 16384 => (t (ix2 s l) * z (ix2 l j) : EReal)).symm
  rfl

/-- The groups' maps applied to the columns, the result in its own layout. -/
def whole (y : FVec Ideal S8192x2048 .f32) (w : FVec Ideal S4x128x128 .f32) : FVec Ideal S4x8192x512 .bf16 :=
  truncf .bf16 (shapeCast S4x8192x512 (transpose S4x8192x4x128 [3, 2, 0, 1] (Host.dotGeneral dot_S4x128x128_S8192x4x4x128_S4x128x8192x4_1_3_2_01_0_2 none w (shapeCast S8192x4x4x128 y shapeCasts_S8192x2048_S8192x4x4x128)) transposes_S4x128x8192x4_S4x8192x4x128_3_2_0_1) shapeCasts_S4x8192x4x128_S4x8192x512) bitsLt_bf16_f32

theorem whole_apply (y : FVec Ideal S8192x2048 .f32) (w : FVec Ideal S4x128x128 .f32) (b : Fin 4) (s : Fin 8192) (d : Fin 512) :
    whole y w (ix3 b s d) = (∑ k : Fin 128, y (ix2 s ⟨b.val * 512 + d.val / 128 * 128 + k.val, by omega⟩)
      * w (ix3 ⟨d.val / 128, by omega⟩ k ⟨d.val % 128, by omega⟩) : EReal) := by
  unfold whole
  pointwise
  exact Finset.sum_congr rfl fun k _ => mul_comm _ _

end Cert.DftReferenceIdeal.Ref

end
-- ==== Proof.DftClaim.lean ====
/- The claims about the kernel of the transform along the positions and its reference. -/
module

public import proofs.«01_k».proof.Defs
public import proofs.«01_k».proof.Proof.Gen.Dft
public import proofs.«01_k».proof.Proof.Gen.DftIdeal
public import proofs.«01_k».proof.Proof.Gen.DftReferenceIdeal
public import proofs.«01_k».proof.Proof.Gen.Dft.Frame
public import proofs.«01_k».proof.Proof.DftArray
public import proofs.«01_k».proof.Proof.DftRef
public import Idealize.ShloMosaic.Lib.Quiescent

@[expose] public section

set_option maxRecDepth 16384

noncomputable section

namespace Cert.Proof.Dft

open Idealize.ShloMosaic Idealize.ShloMosaic.TcCoe Idealize.SL.Sem

theorem frame_Dft : Cert.quiescent_Dft := fun m ρ _ => Cert.Dft.Gen.frame m ρ

theorem frame_DftIdeal : Cert.quiescent_DftIdeal := fun m ρ _ => Cert.DftIdeal.Gen.frame m ρ

theorem frame_DftReferenceIdeal : Cert.quiescent_DftReferenceIdeal := fun m ρ _ =>
  (θ_run Cert.DftReferenceIdeal.defs _ _).mono
    (fun r h => ⟨fun c => (h c).2, Idealize.ShloMosaic.sem_eq_zero_of_no_sems (by decide) r.2⟩)
    (Cert.DftReferenceIdeal.Value.run (F := Ideal) m ρ)

open Cert.DftReferenceIdeal Cert.DftReferenceIdeal.Ref in
theorem ref_mixed (t : FVec Ideal S8192x16384 .bf16) (z : FVec Ideal S16384x2048 .bf16) (w : FVec Ideal S4x128x128 .f32) :
    whole (columns t z) w = fun y : S4x8192x512.Idx => mixed t z w (y 0) (y 1) (y 2) := by
  funext y
  obtain ⟨b, s, d, rfl⟩ : ∃ (b : Fin 4) (s : Fin 8192) (d : Fin 512), y = ix3 b s d := ⟨y 0, y 1, y 2, eq_ix3 y⟩
  rw [whole_apply]
  simp only [columns_apply]
  rfl

/-- The kernel of the transform along the positions and its reference give the same result. -/
theorem dft : Cert.algebraic_DftIdeal_DftReferenceIdeal := by
  intro m ρ m' ρ' _ hagree
  refine ⟨fun c => Cert.DftIdeal.Array.result m c, ?_, ?_⟩
  · exact (θ_run Cert.DftIdeal.defs _ _).mono
      (fun _ hr c => ⟨(hr c).1.trans (Cert.DftIdeal.Array.final m c), (hr c).2⟩)
      (Cert.DftIdeal.Value.run_blocks m ρ)
  · refine (θ_run Cert.DftReferenceIdeal.defs _ _).mono (fun _ hr c => ⟨(hr c).1.trans ?_, (hr c).2⟩)
      (Cert.DftReferenceIdeal.Value.run (F := Ideal) m' ρ')
    rw [(hagree c).1, (hagree c).2.1, (hagree c).2.2]
    exact ref_mixed _ _ _

end Cert.Proof.Dft

end
-- ==== Proof.lean ====
/- The claims, assembled. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Flash
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Flash
public import proofs.«01_k».proof.Proof.Gen.ExpertsReferenceIdeal
public import proofs.«01_k».proof.Proof.Gen.ExpertsReferenceIdeal.Run
public import proofs.«01_k».proof.Proof.Gen.Pre_finite_qk
public import proofs.«01_k».proof.Proof.Finite
public import proofs.«01_k».proof.Proof.Array
public import proofs.«01_k».proof.Proof.Equation
public import proofs.«01_k».proof.Proof.Gen.Pre_table_in_range
public import proofs.«01_k».proof.Proof.ExpertsClaim
public import proofs.«01_k».proof.Proof.Gen.Odd
public import proofs.«01_k».proof.Proof.Gen.Odd.Skeleton
public import proofs.«01_k».proof.Proof.Gen.Odd.Launch
public import proofs.«01_k».proof.Proof.Gen.Odd.Points
public import proofs.«01_k».proof.Proof.Gen.Odd.Frame
public import proofs.«01_k».proof.Proof.Gen.OddIdeal
public import proofs.«01_k».proof.Proof.Gen.OddIdeal.Skeleton
public import proofs.«01_k».proof.Proof.Gen.OddIdeal.Launch
public import proofs.«01_k».proof.Proof.Gen.OddIdeal.Points
public import proofs.«01_k».proof.Proof.Gen.OddIdeal.Frame
public import proofs.«01_k».proof.Proof.Gen.OddReferenceIdeal
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutReferenceIdeal
public import proofs.«01_k».proof.Proof.Gen.OddIdeal.Value
public import proofs.«01_k».proof.Proof.Gen.OddReferenceIdeal.Run
public import proofs.«01_k».proof.Proof.Gen.EvenOutIdeal.Value
public import proofs.«01_k».proof.Proof.Gen.EvenOutReferenceIdeal.Run
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInReferenceIdeal
public import proofs.«01_k».proof.Proof.Gen.EvenInIdeal.Value
public import proofs.«01_k».proof.Proof.Gen.EvenInReferenceIdeal.Run
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInReferenceIdeal
public import proofs.«01_k».proof.Proof.Gen.Dft
public import proofs.«01_k».proof.Proof.Gen.Dft.Skeleton
public import proofs.«01_k».proof.Proof.Gen.Dft.Launch
public import proofs.«01_k».proof.Proof.Gen.Dft.Points
public import proofs.«01_k».proof.Proof.Gen.Dft.Frame
public import proofs.«01_k».proof.Proof.Gen.DftIdeal
public import proofs.«01_k».proof.Proof.Gen.DftIdeal.Skeleton
public import proofs.«01_k».proof.Proof.Gen.DftIdeal.Launch
public import proofs.«01_k».proof.Proof.Gen.DftIdeal.Points
public import proofs.«01_k».proof.Proof.Gen.DftIdeal.Frame
public import proofs.«01_k».proof.Proof.Gen.DftReferenceIdeal
public import proofs.«01_k».proof.Proof.Gen.LnInIdeal.Value
public import proofs.«01_k».proof.Proof.Gen.LnInReferenceIdeal.Run
public import proofs.«01_k».proof.Proof.Gen.DftIdeal.Value
public import proofs.«01_k».proof.Proof.Gen.DftReferenceIdeal.Run
public import proofs.«01_k».proof.Proof.OddClaim
public import proofs.«01_k».proof.Proof.EvenOutClaim
public import proofs.«01_k».proof.Proof.EvenInClaim
public import proofs.«01_k».proof.Proof.LnInClaim
public import proofs.«01_k».proof.Proof.DftClaim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The attention's reference runs, and leaves its arguments and every counter as they were. -/
theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The attention kernel and its reference give the same result. -/
theorem attention : Cert.algebraic_KernelIdeal_ReferenceIdeal_pre_finite_qk := by
  intro m ρ m' ρ' hpre hagree
  have hr := fun c => Cert.Pre_finite_qk.fn_real _ _ _ (ix1 0) (congrFun (hpre c) (ix1 0))
  refine ⟨fun c => Cert.KernelIdeal.Array.result m c, ?_, ?_⟩
  · exact (θ_run Cert.KernelIdeal.defs _ _).mono
      (fun _ h c => ⟨(h c).1.trans (Cert.KernelIdeal.Array.final m c (hr c).1 (hr c).2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.Ref.attn_eq _ _ _ (hr c).1 (hr c).2

theorem claim : Cert.Claim :=
  ⟨Cert.Kernel.Gen.facts, Cert.KernelIdeal.Gen.facts, Cert.ReferenceIdeal.Gen.facts,
    Cert.Experts.Gen.facts, Cert.ExpertsIdeal.Gen.facts, Cert.ExpertsReferenceIdeal.Gen.facts,
    Cert.Odd.Gen.facts, Cert.OddIdeal.Gen.facts, Cert.OddReferenceIdeal.Gen.facts,
    Cert.EvenOut.Gen.facts, Cert.EvenOutIdeal.Gen.facts, Cert.EvenOutReferenceIdeal.Gen.facts,
    Cert.EvenIn.Gen.facts, Cert.EvenInIdeal.Gen.facts, Cert.EvenInReferenceIdeal.Gen.facts,
    Cert.LnIn.Gen.facts, Cert.LnInIdeal.Gen.facts, Cert.LnInReferenceIdeal.Gen.facts,
    Cert.Dft.Gen.facts, Cert.DftIdeal.Gen.facts, Cert.DftReferenceIdeal.Gen.facts,
    Cert.Pre_finite_qk.Gen.facts, Cert.Pre_table_in_range.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    Experts.frame_Experts,
    Experts.frame_ExpertsIdeal,
    Experts.frame_ExpertsReferenceIdeal,
    fun m ρ _ => Experts.frame_ExpertsReferenceIdeal m ρ trivial,
    Odd.frame_Odd,
    Odd.frame_OddIdeal,
    Odd.frame_OddReferenceIdeal,
    EvenOut.frame_EvenOut,
    EvenOut.frame_EvenOutIdeal,
    EvenOut.frame_EvenOutReferenceIdeal,
    EvenIn.frame_EvenIn,
    EvenIn.frame_EvenInIdeal,
    EvenIn.frame_EvenInReferenceIdeal,
    LnIn.frame_LnIn,
    LnIn.frame_LnInIdeal,
    LnIn.frame_LnInReferenceIdeal,
    Dft.frame_Dft,
    Dft.frame_DftIdeal,
    Dft.frame_DftReferenceIdeal,
    trivial,
    attention,
    trivial,
    Experts.experts,
    trivial,
    Odd.odd,
    trivial,
    EvenOut.even_out,
    trivial,
    EvenIn.even_in,
    trivial,
    LnIn.ln_in,
    trivial,
    Dft.dft⟩

end Cert.Proof

end
